-- ==== Defs.lean ====
def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InpS (m : (ℓ : Loc Cert.InpS.nD Cert.InpS.τ Cert.InpS.sig) → Buf (Elt Bits) ℓ) : Prop :=
  True

def Pre_InpSIdeal (m : (ℓ : Loc Cert.InpSIdeal.nD Cert.InpSIdeal.τ Cert.InpSIdeal.sig) → Buf (Elt Ideal) ℓ) : Prop :=
  True

def Pre_InpSRefIdeal (m : (ℓ : Loc Cert.InpSRefIdeal.nD Cert.InpSRefIdeal.τ Cert.InpSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InpS [hInpS : Cert.InpS.Facts] : Prop :=
  ∀ (m : (ℓ : Loc Cert.InpS.nD Cert.InpS.τ Cert.InpS.sig) → Buf (Elt Bits) ℓ) (g : Dev Cert.InpS.nD → PrngReg), Pre_InpS m →
    θ_run (Cert.InpS.defs (F := Bits)) (onTc (τ := Cert.InpS.τ) (Cert.InpS.main (F := Bits))) ⟨m, fun _ => 0, g⟩ (fun r => (∀ c : Dev Cert.InpS.nD,
      r.2.mem ((c.tc : Thread Cert.InpS.nD Cert.InpS.τ).loc Cert.InpS.main_arg0) = m ((c.tc : Thread Cert.InpS.nD Cert.InpS.τ).loc Cert.InpS.main_arg0)
      ∧ r.2.mem ((c.tc : Thread Cert.InpS.nD Cert.InpS.τ).loc Cert.InpS.main_arg1) = m ((c.tc : Thread Cert.InpS.nD Cert.InpS.τ).loc Cert.InpS.main_arg1)
      ∧ r.2.mem ((c.tc : Thread Cert.InpS.nD Cert.InpS.τ).loc Cert.InpS.main_arg2) = m ((c.tc : Thread Cert.InpS.nD Cert.InpS.τ).loc Cert.InpS.main_arg2)
      ∧ r.2.mem ((c.tc : Thread Cert.InpS.nD Cert.InpS.τ).loc Cert.InpS.main_arg3) = m ((c.tc : Thread Cert.InpS.nD Cert.InpS.τ).loc Cert.InpS.main_arg3)
      ∧ r.2.mem ((c.tc : Thread Cert.InpS.nD Cert.InpS.τ).loc Cert.InpS.main_arg4) = m ((c.tc : Thread Cert.InpS.nD Cert.InpS.τ).loc Cert.InpS.main_arg4)
      ∧ r.2.mem ((c.tc : Thread Cert.InpS.nD Cert.InpS.τ).loc Cert.InpS.main_arg5) = m ((c.tc : Thread Cert.InpS.nD Cert.InpS.τ).loc Cert.InpS.main_arg5)
      ∧ r.2.mem ((c.tc : Thread Cert.InpS.nD Cert.InpS.τ).loc Cert.InpS.main_arg6) = m ((c.tc : Thread Cert.InpS.nD Cert.InpS.τ).loc Cert.InpS.main_arg6))
      ∧ r.2.sem = fun _ => 0)

def quiescent_InpSIdeal [hInpSIdeal : Cert.InpSIdeal.Facts] : Prop :=
  ∀ (m : (ℓ : Loc Cert.InpSIdeal.nD Cert.InpSIdeal.τ Cert.InpSIdeal.sig) → Buf (Elt Ideal) ℓ) (g : Dev Cert.InpSIdeal.nD → PrngReg), Pre_InpSIdeal m →
    θ_run (Cert.InpSIdeal.defs (F := Ideal)) (onTc (τ := Cert.InpSIdeal.τ) (Cert.InpSIdeal.main (F := Ideal))) ⟨m, fun _ => 0, g⟩ (fun r => (∀ c : Dev Cert.InpSIdeal.nD,
      r.2.mem ((c.tc : Thread Cert.InpSIdeal.nD Cert.InpSIdeal.τ).loc Cert.InpSIdeal.main_arg0) = m ((c.tc : Thread Cert.InpSIdeal.nD Cert.InpSIdeal.τ).loc Cert.InpSIdeal.main_arg0)
      ∧ r.2.mem ((c.tc : Thread Cert.InpSIdeal.nD Cert.InpSIdeal.τ).loc Cert.InpSIdeal.main_arg1) = m ((c.tc : Thread Cert.InpSIdeal.nD Cert.InpSIdeal.τ).loc Cert.InpSIdeal.main_arg1)
      ∧ r.2.mem ((c.tc : Thread Cert.InpSIdeal.nD Cert.InpSIdeal.τ).loc Cert.InpSIdeal.main_arg2) = m ((c.tc : Thread Cert.InpSIdeal.nD Cert.InpSIdeal.τ).loc Cert.InpSIdeal.main_arg2)
      ∧ r.2.mem ((c.tc : Thread Cert.InpSIdeal.nD Cert.InpSIdeal.τ).loc Cert.InpSIdeal.main_arg3) = m ((c.tc : Thread Cert.InpSIdeal.nD Cert.InpSIdeal.τ).loc Cert.InpSIdeal.main_arg3)
      ∧ r.2.mem ((c.tc : Thread Cert.InpSIdeal.nD Cert.InpSIdeal.τ).loc Cert.InpSIdeal.main_arg4) = m ((c.tc : Thread Cert.InpSIdeal.nD Cert.InpSIdeal.τ).loc Cert.InpSIdeal.main_arg4)
      ∧ r.2.mem ((c.tc : Thread Cert.InpSIdeal.nD Cert.InpSIdeal.τ).loc Cert.InpSIdeal.main_arg5) = m ((c.tc : Thread Cert.InpSIdeal.nD Cert.InpSIdeal.τ).loc Cert.InpSIdeal.main_arg5)
      ∧ r.2.mem ((c.tc : Thread Cert.InpSIdeal.nD Cert.InpSIdeal.τ).loc Cert.InpSIdeal.main_arg6) = m ((c.tc : Thread Cert.InpSIdeal.nD Cert.InpSIdeal.τ).loc Cert.InpSIdeal.main_arg6))
      ∧ r.2.sem = fun _ => 0)

def quiescent_InpSRefIdeal [hInpSRefIdeal : Cert.InpSRefIdeal.Facts] : Prop :=
  ∀ (m : (ℓ : Loc Cert.InpSRefIdeal.nD Cert.InpSRefIdeal.τ Cert.InpSRefIdeal.sig) → Buf (Elt Ideal) ℓ) (g : Dev Cert.InpSRefIdeal.nD → PrngReg), Pre_InpSRefIdeal m →
    θ_run (Cert.InpSRefIdeal.defs (F := Ideal)) (onTc (τ := Cert.InpSRefIdeal.τ) (Cert.InpSRefIdeal.main (F := Ideal))) ⟨m, fun _ => 0, g⟩ (fun r => (∀ c : Dev Cert.InpSRefIdeal.nD,
      r.2.mem ((c.tc : Thread Cert.InpSRefIdeal.nD Cert.InpSRefIdeal.τ).loc Cert.InpSRefIdeal.main_arg0) = m ((c.tc : Thread Cert.InpSRefIdeal.nD Cert.InpSRefIdeal.τ).loc Cert.InpSRefIdeal.main_arg0)
      ∧ r.2.mem ((c.tc : Thread Cert.InpSRefIdeal.nD Cert.InpSRefIdeal.τ).loc Cert.InpSRefIdeal.main_arg1) = m ((c.tc : Thread Cert.InpSRefIdeal.nD Cert.InpSRefIdeal.τ).loc Cert.InpSRefIdeal.main_arg1)
      ∧ r.2.mem ((c.tc : Thread Cert.InpSRefIdeal.nD Cert.InpSRefIdeal.τ).loc Cert.InpSRefIdeal.main_arg2) = m ((c.tc : Thread Cert.InpSRefIdeal.nD Cert.InpSRefIdeal.τ).loc Cert.InpSRefIdeal.main_arg2)
      ∧ r.2.mem ((c.tc : Thread Cert.InpSRefIdeal.nD Cert.InpSRefIdeal.τ).loc Cert.InpSRefIdeal.main_arg3) = m ((c.tc : Thread Cert.InpSRefIdeal.nD Cert.InpSRefIdeal.τ).loc Cert.InpSRefIdeal.main_arg3)
      ∧ r.2.mem ((c.tc : Thread Cert.InpSRefIdeal.nD Cert.InpSRefIdeal.τ).loc Cert.InpSRefIdeal.main_arg4) = m ((c.tc : Thread Cert.InpSRefIdeal.nD Cert.InpSRefIdeal.τ).loc Cert.InpSRefIdeal.main_arg4)
      ∧ r.2.mem ((c.tc : Thread Cert.InpSRefIdeal.nD Cert.InpSRefIdeal.τ).loc Cert.InpSRefIdeal.main_arg5) = m ((c.tc : Thread Cert.InpSRefIdeal.nD Cert.InpSRefIdeal.τ).loc Cert.InpSRefIdeal.main_arg5)
      ∧ r.2.mem ((c.tc : Thread Cert.InpSRefIdeal.nD Cert.InpSRefIdeal.τ).loc Cert.InpSRefIdeal.main_arg6) = m ((c.tc : Thread Cert.InpSRefIdeal.nD Cert.InpSRefIdeal.τ).loc Cert.InpSRefIdeal.main_arg6))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6))
      ∧ r.2.sem = fun _ => 0)

def preserves_Inp_InpIdeal : Prop :=
  IdealRules.named_const.Statement Cert.InpIdeal.κ "s" .f32 0x3DB504F3#32 (((Real.sqrt 128)⁻¹ : ℝ) : EReal)

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v9_0)) (v1 : (c : Dev Cert.InpIdeal.nD) → Buf (Elt Ideal) ((c.tc : Thread Cert.InpIdeal.nD Cert.InpIdeal.τ).loc Cert.InpIdeal.main_v9_1)) (v2 : (c : Dev Cert.InpIdeal.nD) → Buf (Elt Ideal) ((c.tc : Thread Cert.InpIdeal.nD Cert.InpIdeal.τ).loc Cert.InpIdeal.main_v9_2)) (v3 : (c : Dev Cert.InpIdeal.nD) → Buf (Elt Ideal) ((c.tc : Thread Cert.InpIdeal.nD Cert.InpIdeal.τ).loc Cert.InpIdeal.main_v9_3)) (v4 : (c : Dev Cert.InpIdeal.nD) → Buf (Elt Ideal) ((c.tc : Thread Cert.InpIdeal.nD Cert.InpIdeal.τ).loc Cert.InpIdeal.main_v9_4)) (v5 : (c : Dev Cert.InpIdeal.nD) → Buf (Elt Ideal) ((c.tc : Thread Cert.InpIdeal.nD Cert.InpIdeal.τ).loc Cert.InpIdeal.main_v9_5)) (v6 : (c : Dev Cert.InpIdeal.nD) → Buf (Elt Ideal) ((c.tc : Thread Cert.InpIdeal.nD Cert.InpIdeal.τ).loc Cert.InpIdeal.main_v9_6)) (v7 : (c : Dev Cert.InpIdeal.nD) → Buf (Elt Ideal) ((c.tc : Thread Cert.InpIdeal.nD Cert.InpIdeal.τ).loc Cert.InpIdeal.main_v9_7)) (v8 : (c : Dev Cert.InpIdeal.nD) → Buf (Elt Ideal) ((c.tc : Thread Cert.InpIdeal.nD Cert.InpIdeal.τ).loc Cert.InpIdeal.main_v9_8)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v9_0) = v0 c
          ∧ r.2.mem ((c.tc : Thread Cert.InpIdeal.nD Cert.InpIdeal.τ).loc Cert.InpIdeal.main_v9_1) = v1 c
          ∧ r.2.mem ((c.tc : Thread Cert.InpIdeal.nD Cert.InpIdeal.τ).loc Cert.InpIdeal.main_v9_2) = v2 c
          ∧ r.2.mem ((c.tc : Thread Cert.InpIdeal.nD Cert.InpIdeal.τ).loc Cert.InpIdeal.main_v9_3) = v3 c
          ∧ r.2.mem ((c.tc : Thread Cert.InpIdeal.nD Cert.InpIdeal.τ).loc Cert.InpIdeal.main_v9_4) = v4 c
          ∧ r.2.mem ((c.tc : Thread Cert.InpIdeal.nD Cert.InpIdeal.τ).loc Cert.InpIdeal.main_v9_5) = v5 c
          ∧ r.2.mem ((c.tc : Thread Cert.InpIdeal.nD Cert.InpIdeal.τ).loc Cert.InpIdeal.main_v9_6) = v6 c
          ∧ r.2.mem ((c.tc : Thread Cert.InpIdeal.nD Cert.InpIdeal.τ).loc Cert.InpIdeal.main_v9_7) = v7 c
          ∧ r.2.mem ((c.tc : Thread Cert.InpIdeal.nD Cert.InpIdeal.τ).loc Cert.InpIdeal.main_v9_8) = v8 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v62) = v0 c
          ∧ r.2.mem ((c.tc : Thread Cert.InpRefIdeal.nD Cert.InpRefIdeal.τ).loc Cert.InpRefIdeal.main_v63) = v1 c
          ∧ r.2.mem ((c.tc : Thread Cert.InpRefIdeal.nD Cert.InpRefIdeal.τ).loc Cert.InpRefIdeal.main_v64) = v2 c
          ∧ r.2.mem ((c.tc : Thread Cert.InpRefIdeal.nD Cert.InpRefIdeal.τ).loc Cert.InpRefIdeal.main_v65) = v3 c
          ∧ r.2.mem ((c.tc : Thread Cert.InpRefIdeal.nD Cert.InpRefIdeal.τ).loc Cert.InpRefIdeal.main_v66) = v4 c
          ∧ r.2.mem ((c.tc : Thread Cert.InpRefIdeal.nD Cert.InpRefIdeal.τ).loc Cert.InpRefIdeal.main_v68) = v5 c
          ∧ r.2.mem ((c.tc : Thread Cert.InpRefIdeal.nD Cert.InpRefIdeal.τ).loc Cert.InpRefIdeal.main_v70) = v6 c
          ∧ r.2.mem ((c.tc : Thread Cert.InpRefIdeal.nD Cert.InpRefIdeal.τ).loc Cert.InpRefIdeal.main_v71) = v7 c
          ∧ r.2.mem ((c.tc : Thread Cert.InpRefIdeal.nD Cert.InpRefIdeal.τ).loc Cert.InpRefIdeal.main_v72) = v8 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v1_0)) (v1 : (c : Dev Cert.GlaIdeal.nD) → Buf (Elt Ideal) ((c.tc : Thread Cert.GlaIdeal.nD Cert.GlaIdeal.τ).loc Cert.GlaIdeal.main_v1_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v1_0) = v0 c
          ∧ r.2.mem ((c.tc : Thread Cert.GlaIdeal.nD Cert.GlaIdeal.τ).loc Cert.GlaIdeal.main_v1_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v51) = v0 c
          ∧ r.2.mem ((c.tc : Thread Cert.GlaRefIdeal.nD Cert.GlaRefIdeal.τ).loc Cert.GlaRefIdeal.main_v30_3) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InpS_InpSIdeal : Prop :=
  IdealRules.named_const.Statement Cert.InpSIdeal.κ "s" .f32 0x3DB504F3#32 (((Real.sqrt 128)⁻¹ : ℝ) : EReal)

def algebraic_InpSIdeal_InpSRefIdeal [hInpSIdeal : Cert.InpSIdeal.Facts] [hInpSRefIdeal : Cert.InpSRefIdeal.Facts] : Prop :=
  ∀ (m : (ℓ : Loc Cert.InpSIdeal.nD Cert.InpSIdeal.τ Cert.InpSIdeal.sig) → Buf (Elt Ideal) ℓ) (g : Dev Cert.InpSIdeal.nD → PrngReg)
    (m' : (ℓ : Loc Cert.InpSRefIdeal.nD Cert.InpSRefIdeal.τ Cert.InpSRefIdeal.sig) → Buf (Elt Ideal) ℓ) (g' : Dev Cert.InpSRefIdeal.nD → PrngReg), Pre_InpSIdeal m →
    (∀ c : Dev Cert.InpSIdeal.nD,
      m' ((c.tc : Thread Cert.InpSRefIdeal.nD Cert.InpSRefIdeal.τ).loc Cert.InpSRefIdeal.main_arg0) = m ((c.tc : Thread Cert.InpSIdeal.nD Cert.InpSIdeal.τ).loc Cert.InpSIdeal.main_arg0)
      ∧ m' ((c.tc : Thread Cert.InpSRefIdeal.nD Cert.InpSRefIdeal.τ).loc Cert.InpSRefIdeal.main_arg1) = m ((c.tc : Thread Cert.InpSIdeal.nD Cert.InpSIdeal.τ).loc Cert.InpSIdeal.main_arg1)
      ∧ m' ((c.tc : Thread Cert.InpSRefIdeal.nD Cert.InpSRefIdeal.τ).loc Cert.InpSRefIdeal.main_arg2) = m ((c.tc : Thread Cert.InpSIdeal.nD Cert.InpSIdeal.τ).loc Cert.InpSIdeal.main_arg2)
      ∧ m' ((c.tc : Thread Cert.InpSRefIdeal.nD Cert.InpSRefIdeal.τ).loc Cert.InpSRefIdeal.main_arg3) = m ((c.tc : Thread Cert.InpSIdeal.nD Cert.InpSIdeal.τ).loc Cert.InpSIdeal.main_arg3)
      ∧ m' ((c.tc : Thread Cert.InpSRefIdeal.nD Cert.InpSRefIdeal.τ).loc Cert.InpSRefIdeal.main_arg4) = m ((c.tc : Thread Cert.InpSIdeal.nD Cert.InpSIdeal.τ).loc Cert.InpSIdeal.main_arg4)
      ∧ m' ((c.tc : Thread Cert.InpSRefIdeal.nD Cert.InpSRefIdeal.τ).loc Cert.InpSRefIdeal.main_arg5) = m ((c.tc : Thread Cert.InpSIdeal.nD Cert.InpSIdeal.τ).loc Cert.InpSIdeal.main_arg5)
      ∧ m' ((c.tc : Thread Cert.InpSRefIdeal.nD Cert.InpSRefIdeal.τ).loc Cert.InpSRefIdeal.main_arg6) = m ((c.tc : Thread Cert.InpSIdeal.nD Cert.InpSIdeal.τ).loc Cert.InpSIdeal.main_arg6)) →
    ∃ (v0 : (c : Dev Cert.InpSIdeal.nD) → Buf (Elt Ideal) ((c.tc : Thread Cert.InpSIdeal.nD Cert.InpSIdeal.τ).loc Cert.InpSIdeal.main_v9_0)) (v1 : (c : Dev Cert.InpSIdeal.nD) → Buf (Elt Ideal) ((c.tc : Thread Cert.InpSIdeal.nD Cert.InpSIdeal.τ).loc Cert.InpSIdeal.main_v9_1)) (v2 : (c : Dev Cert.InpSIdeal.nD) → Buf (Elt Ideal) ((c.tc : Thread Cert.InpSIdeal.nD Cert.InpSIdeal.τ).loc Cert.InpSIdeal.main_v9_2)) (v3 : (c : Dev Cert.InpSIdeal.nD) → Buf (Elt Ideal) ((c.tc : Thread Cert.InpSIdeal.nD Cert.InpSIdeal.τ).loc Cert.InpSIdeal.main_v9_3)) (v4 : (c : Dev Cert.InpSIdeal.nD) → Buf (Elt Ideal) ((c.tc : Thread Cert.InpSIdeal.nD Cert.InpSIdeal.τ).loc Cert.InpSIdeal.main_v9_4)) (v5 : (c : Dev Cert.InpSIdeal.nD) → Buf (Elt Ideal) ((c.tc : Thread Cert.InpSIdeal.nD Cert.InpSIdeal.τ).loc Cert.InpSIdeal.main_v9_5)) (v6 : (c : Dev Cert.InpSIdeal.nD) → Buf (Elt Ideal) ((c.tc : Thread Cert.InpSIdeal.nD Cert.InpSIdeal.τ).loc Cert.InpSIdeal.main_v9_6)) (v7 : (c : Dev Cert.InpSIdeal.nD) → Buf (Elt Ideal) ((c.tc : Thread Cert.InpSIdeal.nD Cert.InpSIdeal.τ).loc Cert.InpSIdeal.main_v9_7)) (v8 : (c : Dev Cert.InpSIdeal.nD) → Buf (Elt Ideal) ((c.tc : Thread Cert.InpSIdeal.nD Cert.InpSIdeal.τ).loc Cert.InpSIdeal.main_v9_8)),
      θ_run (Cert.InpSIdeal.defs (F := Ideal)) (onTc (τ := Cert.InpSIdeal.τ) (Cert.InpSIdeal.main (F := Ideal))) ⟨m, fun _ => 0, g⟩ (fun r => ∀ c : Dev Cert.InpSIdeal.nD,
          r.2.mem ((c.tc : Thread Cert.InpSIdeal.nD Cert.InpSIdeal.τ).loc Cert.InpSIdeal.main_v9_0) = v0 c
          ∧ r.2.mem ((c.tc : Thread Cert.InpSIdeal.nD Cert.InpSIdeal.τ).loc Cert.InpSIdeal.main_v9_1) = v1 c
          ∧ r.2.mem ((c.tc : Thread Cert.InpSIdeal.nD Cert.InpSIdeal.τ).loc Cert.InpSIdeal.main_v9_2) = v2 c
          ∧ r.2.mem ((c.tc : Thread Cert.InpSIdeal.nD Cert.InpSIdeal.τ).loc Cert.InpSIdeal.main_v9_3) = v3 c
          ∧ r.2.mem ((c.tc : Thread Cert.InpSIdeal.nD Cert.InpSIdeal.τ).loc Cert.InpSIdeal.main_v9_4) = v4 c
          ∧ r.2.mem ((c.tc : Thread Cert.InpSIdeal.nD Cert.InpSIdeal.τ).loc Cert.InpSIdeal.main_v9_5) = v5 c
          ∧ r.2.mem ((c.tc : Thread Cert.InpSIdeal.nD Cert.InpSIdeal.τ).loc Cert.InpSIdeal.main_v9_6) = v6 c
          ∧ r.2.mem ((c.tc : Thread Cert.InpSIdeal.nD Cert.InpSIdeal.τ).loc Cert.InpSIdeal.main_v9_7) = v7 c
          ∧ r.2.mem ((c.tc : Thread Cert.InpSIdeal.nD Cert.InpSIdeal.τ).loc Cert.InpSIdeal.main_v9_8) = v8 c
          ∧ r.2.mem ((c.tc : Thread Cert.InpSIdeal.nD Cert.InpSIdeal.τ).loc Cert.InpSIdeal.main_arg0) = m ((c.tc : Thread Cert.InpSIdeal.nD Cert.InpSIdeal.τ).loc Cert.InpSIdeal.main_arg0)
          ∧ r.2.mem ((c.tc : Thread Cert.InpSIdeal.nD Cert.InpSIdeal.τ).loc Cert.InpSIdeal.main_arg1) = m ((c.tc : Thread Cert.InpSIdeal.nD Cert.InpSIdeal.τ).loc Cert.InpSIdeal.main_arg1)
          ∧ r.2.mem ((c.tc : Thread Cert.InpSIdeal.nD Cert.InpSIdeal.τ).loc Cert.InpSIdeal.main_arg2) = m ((c.tc : Thread Cert.InpSIdeal.nD Cert.InpSIdeal.τ).loc Cert.InpSIdeal.main_arg2)
          ∧ r.2.mem ((c.tc : Thread Cert.InpSIdeal.nD Cert.InpSIdeal.τ).loc Cert.InpSIdeal.main_arg3) = m ((c.tc : Thread Cert.InpSIdeal.nD Cert.InpSIdeal.τ).loc Cert.InpSIdeal.main_arg3)
          ∧ r.2.mem ((c.tc : Thread Cert.InpSIdeal.nD Cert.InpSIdeal.τ).loc Cert.InpSIdeal.main_arg4) = m ((c.tc : Thread Cert.InpSIdeal.nD Cert.InpSIdeal.τ).loc Cert.InpSIdeal.main_arg4)
          ∧ r.2.mem ((c.tc : Thread Cert.InpSIdeal.nD Cert.InpSIdeal.τ).loc Cert.InpSIdeal.main_arg5) = m ((c.tc : Thread Cert.InpSIdeal.nD Cert.InpSIdeal.τ).loc Cert.InpSIdeal.main_arg5)
          ∧ r.2.mem ((c.tc : Thread Cert.InpSIdeal.nD Cert.InpSIdeal.τ).loc Cert.InpSIdeal.main_arg6) = m ((c.tc : Thread Cert.InpSIdeal.nD Cert.InpSIdeal.τ).loc Cert.InpSIdeal.main_arg6))
      ∧ θ_run (Cert.InpSRefIdeal.defs (F := Ideal)) (onTc (τ := Cert.InpSRefIdeal.τ) (Cert.InpSRefIdeal.main (F := Ideal))) ⟨m', fun _ => 0, g'⟩ (fun r => ∀ c : Dev Cert.InpSRefIdeal.nD,
          r.2.mem ((c.tc : Thread Cert.InpSRefIdeal.nD Cert.InpSRefIdeal.τ).loc Cert.InpSRefIdeal.main_v61) = v0 c
          ∧ r.2.mem ((c.tc : Thread Cert.InpSRefIdeal.nD Cert.InpSRefIdeal.τ).loc Cert.InpSRefIdeal.main_v62) = v1 c
          ∧ r.2.mem ((c.tc : Thread Cert.InpSRefIdeal.nD Cert.InpSRefIdeal.τ).loc Cert.InpSRefIdeal.main_v63) = v2 c
          ∧ r.2.mem ((c.tc : Thread Cert.InpSRefIdeal.nD Cert.InpSRefIdeal.τ).loc Cert.InpSRefIdeal.main_v64) = v3 c
          ∧ r.2.mem ((c.tc : Thread Cert.InpSRefIdeal.nD Cert.InpSRefIdeal.τ).loc Cert.InpSRefIdeal.main_v65) = v4 c
          ∧ r.2.mem ((c.tc : Thread Cert.InpSRefIdeal.nD Cert.InpSRefIdeal.τ).loc Cert.InpSRefIdeal.main_v67) = v5 c
          ∧ r.2.mem ((c.tc : Thread Cert.InpSRefIdeal.nD Cert.InpSRefIdeal.τ).loc Cert.InpSRefIdeal.main_v69) = v6 c
          ∧ r.2.mem ((c.tc : Thread Cert.InpSRefIdeal.nD Cert.InpSRefIdeal.τ).loc Cert.InpSRefIdeal.main_v70) = v7 c
          ∧ r.2.mem ((c.tc : Thread Cert.InpSRefIdeal.nD Cert.InpSRefIdeal.τ).loc Cert.InpSRefIdeal.main_v71) = v8 c
          ∧ r.2.mem ((c.tc : Thread Cert.InpSRefIdeal.nD Cert.InpSRefIdeal.τ).loc Cert.InpSRefIdeal.main_arg0) = m' ((c.tc : Thread Cert.InpSRefIdeal.nD Cert.InpSRefIdeal.τ).loc Cert.InpSRefIdeal.main_arg0)
          ∧ r.2.mem ((c.tc : Thread Cert.InpSRefIdeal.nD Cert.InpSRefIdeal.τ).loc Cert.InpSRefIdeal.main_arg1) = m' ((c.tc : Thread Cert.InpSRefIdeal.nD Cert.InpSRefIdeal.τ).loc Cert.InpSRefIdeal.main_arg1)
          ∧ r.2.mem ((c.tc : Thread Cert.InpSRefIdeal.nD Cert.InpSRefIdeal.τ).loc Cert.InpSRefIdeal.main_arg2) = m' ((c.tc : Thread Cert.InpSRefIdeal.nD Cert.InpSRefIdeal.τ).loc Cert.InpSRefIdeal.main_arg2)
          ∧ r.2.mem ((c.tc : Thread Cert.InpSRefIdeal.nD Cert.InpSRefIdeal.τ).loc Cert.InpSRefIdeal.main_arg3) = m' ((c.tc : Thread Cert.InpSRefIdeal.nD Cert.InpSRefIdeal.τ).loc Cert.InpSRefIdeal.main_arg3)
          ∧ r.2.mem ((c.tc : Thread Cert.InpSRefIdeal.nD Cert.InpSRefIdeal.τ).loc Cert.InpSRefIdeal.main_arg4) = m' ((c.tc : Thread Cert.InpSRefIdeal.nD Cert.InpSRefIdeal.τ).loc Cert.InpSRefIdeal.main_arg4)
          ∧ r.2.mem ((c.tc : Thread Cert.InpSRefIdeal.nD Cert.InpSRefIdeal.τ).loc Cert.InpSRefIdeal.main_arg5) = m' ((c.tc : Thread Cert.InpSRefIdeal.nD Cert.InpSRefIdeal.τ).loc Cert.InpSRefIdeal.main_arg5)
          ∧ r.2.mem ((c.tc : Thread Cert.InpSRefIdeal.nD Cert.InpSRefIdeal.τ).loc Cert.InpSRefIdeal.main_arg6) = m' ((c.tc : Thread Cert.InpSRefIdeal.nD Cert.InpSRefIdeal.τ).loc Cert.InpSRefIdeal.main_arg6))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)) →
    ∃ (v0 : (c : Dev Cert.FfnSIdeal.nD) → Buf (Elt Ideal) ((c.tc : Thread Cert.FfnSIdeal.nD Cert.FfnSIdeal.τ).loc Cert.FfnSIdeal.main_v11)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v11) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v21) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6))

def Claim : Prop :=
  ∃ (hInp : Cert.Inp.Facts) (hInpIdeal : Cert.InpIdeal.Facts) (hInpRefIdeal : Cert.InpRefIdeal.Facts) (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hInpS : Cert.InpS.Facts) (hInpSIdeal : Cert.InpSIdeal.Facts) (hInpSRefIdeal : Cert.InpSRefIdeal.Facts) (hFfnS : Cert.FfnS.Facts) (hFfnSIdeal : Cert.FfnSIdeal.Facts) (hFfnSRefIdeal : Cert.FfnSRefIdeal.Facts),
    quiescent_Inp (hInp := hInp)
    ∧ quiescent_InpIdeal (hInpIdeal := hInpIdeal)
    ∧ quiescent_InpRefIdeal (hInpRefIdeal := hInpRefIdeal)
    ∧ quiescent_Gla (hGla := hGla)
    ∧ quiescent_GlaIdeal (hGlaIdeal := hGlaIdeal)
    ∧ quiescent_GlaRefIdeal (hGlaRefIdeal := hGlaRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InpS (hInpS := hInpS)
    ∧ quiescent_InpSIdeal (hInpSIdeal := hInpSIdeal)
    ∧ quiescent_InpSRefIdeal (hInpSRefIdeal := hInpSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ preserves_Inp_InpIdeal
    ∧ algebraic_InpIdeal_InpRefIdeal (hInpIdeal := hInpIdeal) (hInpRefIdeal := hInpRefIdeal)
    ∧ preserves_Gla_GlaIdeal
    ∧ algebraic_GlaIdeal_GlaRefIdeal (hGlaIdeal := hGlaIdeal) (hGlaRefIdeal := hGlaRefIdeal)
    ∧ preserves_Ffn_FfnIdeal
    ∧ algebraic_FfnIdeal_FfnRefIdeal (hFfnIdeal := hFfnIdeal) (hFfnRefIdeal := hFfnRefIdeal)
    ∧ preserves_InpS_InpSIdeal
    ∧ algebraic_InpSIdeal_InpSRefIdeal (hInpSIdeal := hInpSIdeal) (hInpSRefIdeal := hInpSRefIdeal)
    ∧ preserves_FfnS_FfnSIdeal
    ∧ algebraic_FfnSIdeal_FfnSRefIdeal (hFfnSIdeal := hFfnSIdeal) (hFfnSRefIdeal := hFfnSRefIdeal)
-- ==== Inp.lean ====
abbrev S16x2048x2048 : Shape := ⟨3, ![16, 2048, 2048]⟩
abbrev S2048 : Shape := ⟨1, ![2048]⟩
abbrev S2048x6160 : Shape := ⟨2, ![2048, 6160]⟩
abbrev S128 : Shape := ⟨1, ![128]⟩
abbrev S16x512 : Shape := ⟨2, ![16, 512]⟩
abbrev S512 : Shape := ⟨1, ![512]⟩
abbrev S_ : Shape := ⟨0, ![]⟩
abbrev S128x512 : Shape := ⟨2, ![128, 512]⟩
abbrev S2048x6272 : Shape := ⟨2, ![2048, 6272]⟩
abbrev S32768x2048 : Shape := ⟨2, ![32768, 2048]⟩
abbrev S1x2048 : Shape := ⟨2, ![1, 2048]⟩
abbrev S1x512 : Shape := ⟨2, ![1, 512]⟩
abbrev S1x128 : Shape := ⟨2, ![1, 128]⟩
abbrev S32768x1024 : Shape := ⟨2, ![32768, 1024]⟩
abbrev S262144x128 : Shape := ⟨2, ![262144, 128]⟩
abbrev S32768x512 : Shape := ⟨2, ![32768, 512]⟩
abbrev S256x2048 : Shape := ⟨2, ![256, 2048]⟩
abbrev S256x1024 : Shape := ⟨2, ![256, 1024]⟩
abbrev S2048x128 : Shape := ⟨2, ![2048, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S2048x1024 : Shape := ⟨2, ![2048, 1024]⟩
abbrev S128x128 : Shape := ⟨2, ![128, 128]⟩

abbrev nBuf : Space → Nat
  | .hbm => 29
  | .vmem => 27
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6160, .f32⟩
  | .hbm, ⟨3, _⟩ => ⟨S128, .f32⟩
  | .hbm, ⟨4, _⟩ => ⟨S128, .f32⟩
  | .hbm, ⟨5, _⟩ => ⟨S16x512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S2048x6160, .bf16⟩
  | .hbm, ⟨11, _⟩ => ⟨S_, .i32⟩
  | .hbm, ⟨12, _⟩ => ⟨S_, .bf16⟩
  | .hbm, ⟨13, _⟩ => ⟨S2048x6272, .bf16⟩
  | .hbm, ⟨14, _⟩ => ⟨S32768x2048, .f32⟩
  | .hbm, ⟨15, _⟩ => ⟨S1x2048, .f32⟩
  | .hbm, ⟨16, _⟩ => ⟨S128x512, .bf16⟩
  | .hbm, ⟨17, _⟩ => ⟨S1x512, .f32⟩
  | .hbm, ⟨18, _⟩ => ⟨S1x128, .f32⟩
  | .hbm, ⟨19, _⟩ => ⟨S1x128, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S262144x128, .f32⟩
  | .hbm, ⟨24, _⟩ => ⟨S262144x128, .f32⟩
  | .hbm, ⟨25, _⟩ => ⟨S32768x1024, .f32⟩
  | .hbm, ⟨26, _⟩ => ⟨S32768x1024, .bf16⟩
  | .hbm, ⟨27, _⟩ => ⟨S32768x1024, .f32⟩
  | .hbm, ⟨28, _⟩ => ⟨S32768x512, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6272, .bf16⟩
  | .local _ .vmem, ⟨4, _⟩ => ⟨S128x512, .bf16⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x512, .f32⟩
  | .local _ .vmem, ⟨25, _⟩ => ⟨S256x512, .f32⟩
  | .local _ .vmem, ⟨26, _⟩ => ⟨S256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InpIdeal.lean ====
variable {F : FTy → Type} [FloatOps F] [Named F]
def κ : String → Option EReal := fun
  | "s" => some (((Real.sqrt 128)⁻¹ : ℝ) : EReal)
  | _ => none
-- ==== InpRefIdeal.lean ====
abbrev S16x2048x2048 : Shape := ⟨3, ![16, 2048, 2048]⟩
abbrev S2048 : Shape := ⟨1, ![2048]⟩
abbrev S2048x6160 : Shape := ⟨2, ![2048, 6160]⟩
abbrev S128 : Shape := ⟨1, ![128]⟩
abbrev S16x512 : Shape := ⟨2, ![16, 512]⟩
abbrev S512 : Shape := ⟨1, ![512]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6160 : Shape := ⟨3, ![16, 2048, 6160]⟩
abbrev S16x2048x1024 : Shape := ⟨3, ![16, 2048, 1024]⟩
abbrev S16x2048x512 : Shape := ⟨3, ![16, 2048, 512]⟩
abbrev S16x2048x16 : Shape := ⟨3, ![16, 2048, 16]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S1x1x512 : Shape := ⟨3, ![1, 1, 512]⟩
abbrev S16x32x64x512 : Shape := ⟨4, ![16, 32, 64, 512]⟩
abbrev S32768x1024 : Shape := ⟨2, ![32768, 1024]⟩
abbrev S262144x128 : Shape := ⟨2, ![262144, 128]⟩
abbrev S32768x512 : Shape := ⟨2, ![32768, 512]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6160, .f32⟩
  | .hbm, ⟨3, _⟩ => ⟨S128, .f32⟩
  | .hbm, ⟨4, _⟩ => ⟨S128, .f32⟩
  | .hbm, ⟨5, _⟩ => ⟨S16x512, .f32⟩
  | .hbm, ⟨6, _⟩ => ⟨S512, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S16x2048x6160, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x512, .f32⟩
  | .hbm, ⟨28, _⟩ => ⟨S16x2048x512, .f32⟩
  | .hbm, ⟨29, _⟩ => ⟨S16x2048x1024, .f32⟩
  | .hbm, ⟨30, _⟩ => ⟨S16x2048x1024, .f32⟩
  | .hbm, ⟨31, _⟩ => ⟨S16x2048x16, .f32⟩
  | .hbm, ⟨32, _⟩ => ⟨S16x2048x8x128, .f32⟩
  | .hbm, ⟨33, _⟩ => ⟨S16x2048x8x128, .f32⟩
  | .hbm, ⟨34, _⟩ => ⟨S_, .f32⟩
  | .hbm, ⟨35, _⟩ => ⟨S16x2048x8, .f32⟩
  | .hbm, ⟨36, _⟩ => ⟨S16x2048x8x1, .f32⟩
  | .hbm, ⟨37, _⟩ => ⟨S_, .f32⟩
  | .hbm, ⟨38, _⟩ => ⟨S16x2048x8x1, .f32⟩
  | .hbm, ⟨39, _⟩ => ⟨S16x2048x8x1, .f32⟩
  | .hbm, ⟨40, _⟩ => ⟨S_, .f32⟩
  | .hbm, ⟨41, _⟩ => ⟨S16x2048x8x1, .f32⟩
  | .hbm, ⟨42, _⟩ => ⟨S16x2048x8x1, .f32⟩
  | .hbm, ⟨43, _⟩ => ⟨S16x2048x8x1, .f32⟩
  | .hbm, ⟨44, _⟩ => ⟨S16x2048x8x128, .f32⟩
  | .hbm, ⟨45, _⟩ => ⟨S16x2048x8x128, .f32⟩
  | .hbm, ⟨46, _⟩ => ⟨S1x1x1x128, .f32⟩
  | .hbm, ⟨47, _⟩ => ⟨S16x2048x8x128, .f32⟩
  | .hbm, ⟨48, _⟩ => ⟨S16x2048x8x128, .f32⟩
  | .hbm, ⟨49, _⟩ => ⟨S16x2048x8x128, .f32⟩
  | .hbm, ⟨50, _⟩ => ⟨S16x2048x8x128, .f32⟩
  | .hbm, ⟨51, _⟩ => ⟨S_, .f32⟩
  | .hbm, ⟨52, _⟩ => ⟨S16x2048x8, .f32⟩
  | .hbm, ⟨53, _⟩ => ⟨S16x2048x8x1, .f32⟩
  | .hbm, ⟨54, _⟩ => ⟨S_, .f32⟩
  | .hbm, ⟨55, _⟩ => ⟨S16x2048x8x1, .f32⟩
  | .hbm, ⟨56, _⟩ => ⟨S16x2048x8x1, .f32⟩
  | .hbm, ⟨57, _⟩ => ⟨S_, .f32⟩
  | .hbm, ⟨58, _⟩ => ⟨S16x2048x8x1, .f32⟩
  | .hbm, ⟨59, _⟩ => ⟨S16x2048x8x1, .f32⟩
  | .hbm, ⟨60, _⟩ => ⟨S16x2048x8x1, .f32⟩
  | .hbm, ⟨61, _⟩ => ⟨S16x2048x8x128, .f32⟩
  | .hbm, ⟨62, _⟩ => ⟨S16x2048x8x128, .f32⟩
  | .hbm, ⟨63, _⟩ => ⟨S1x1x1x128, .f32⟩
  | .hbm, ⟨64, _⟩ => ⟨S16x2048x8x128, .f32⟩
  | .hbm, ⟨65, _⟩ => ⟨S16x2048x8x128, .f32⟩
  | .hbm, ⟨66, _⟩ => ⟨S_, .f32⟩
  | .hbm, ⟨67, _⟩ => ⟨S_, .f32⟩
  | .hbm, ⟨68, _⟩ => ⟨S16x2048x512, .f32⟩
  | .hbm, ⟨69, _⟩ => ⟨S16x2048x512, .f32⟩
  | .hbm, ⟨70, _⟩ => ⟨S16x2048x512, .f32⟩
  | .hbm, ⟨71, _⟩ => ⟨S1x1x512, .f32⟩
  | .hbm, ⟨72, _⟩ => ⟨S16x2048x512, .f32⟩
  | .hbm, ⟨73, _⟩ => ⟨S16x2048x512, .f32⟩
  | .hbm, ⟨74, _⟩ => ⟨S16x2048x512, .f32⟩
  | .hbm, ⟨75, _⟩ => ⟨S_, .f32⟩
  | .hbm, ⟨76, _⟩ => ⟨S16x2048x512, .f32⟩
  | .hbm, ⟨77, _⟩ => ⟨S16x2048x512, .f32⟩
  | .hbm, ⟨78, _⟩ => ⟨S16x2048x512, .f32⟩
  | .hbm, ⟨79, _⟩ => ⟨S16x2048x512, .f32⟩
  | .hbm, ⟨80, _⟩ => ⟨S16x2048x512, .i1⟩
  | .hbm, ⟨81, _⟩ => ⟨S16x2048x512, .f32⟩
  | .hbm, ⟨82, _⟩ => ⟨S16x2048x512, .f32⟩
  | .hbm, ⟨83, _⟩ => ⟨S16x2048x512, .f32⟩
  | .hbm, ⟨84, _⟩ => ⟨S16x2048x512, .f32⟩
  | .hbm, ⟨85, _⟩ => ⟨S16x2048x512, .f32⟩
  | .hbm, ⟨86, _⟩ => ⟨S16x2048x512, .f32⟩
  | .hbm, ⟨87, _⟩ => ⟨S16x2048x512, .f32⟩
  | .hbm, ⟨88, _⟩ => ⟨S16x2048x512, .f32⟩
  | .hbm, ⟨89, _⟩ => ⟨S16x2048x512, .f32⟩
  | .hbm, ⟨90, _⟩ => ⟨S_, .f32⟩
  | .hbm, ⟨91, _⟩ => ⟨S16x2048x512, .f32⟩
  | .hbm, ⟨92, _⟩ => ⟨S16x2048x512, .f32⟩
  | .hbm, ⟨93, _⟩ => ⟨S16x32x64x512, .f32⟩
  | .hbm, ⟨94, _⟩ => ⟨S_, .f32⟩
  | .hbm, ⟨95, _⟩ => ⟨S_, .f32⟩
  | .hbm, ⟨96, _⟩ => ⟨S16x32x64x512, .f32⟩
  | .hbm, ⟨97, _⟩ => ⟨S32768x1024, .f32⟩
  | .hbm, ⟨98, _⟩ => ⟨S32768x1024, .f32⟩
  | .hbm, ⟨99, _⟩ => ⟨S32768x1024, .f32⟩
  | .hbm, ⟨100, _⟩ => ⟨S262144x128, .f32⟩
  | .hbm, ⟨101, _⟩ => ⟨S262144x128, .f32⟩
  | .hbm, ⟨102, _⟩ => ⟨S16x2048x1024, .f32⟩
  | .hbm, ⟨103, _⟩ => ⟨S32768x1024, .f32⟩
  | .hbm, ⟨104, _⟩ => ⟨S16x2048x1024, .bf16⟩
  | .hbm, ⟨105, _⟩ => ⟨S32768x1024, .bf16⟩
  | .hbm, ⟨106, _⟩ => ⟨S32768x1024, .f32⟩
  | .hbm, ⟨107, _⟩ => ⟨S32768x512, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call1_call0_cst : Ref sig .tc := ⟨.hbm, 94, rfl⟩
abbrev main_call1_call0_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]

def κ : String → Option EReal := fun
  | "s" => some (((Real.sqrt 128)⁻¹ : ℝ) : EReal)
  | _ => none
-- ==== Gla.lean ====
abbrev S16x2048x1024 : Shape := ⟨3, ![16, 2048, 1024]⟩
abbrev S16x2048x512 : Shape := ⟨3, ![16, 2048, 512]⟩
abbrev S4x256 : Shape := ⟨2, ![4, 256]⟩
abbrev S16x4x128x256 : Shape := ⟨4, ![16, 4, 128, 256]⟩
abbrev S4x1x256 : Shape := ⟨3, ![4, 1, 256]⟩
abbrev S1x2048x256 : Shape := ⟨3, ![1, 2048, 256]⟩
abbrev S1x2048x512 : Shape := ⟨3, ![1, 2048, 512]⟩
abbrev S2x1x256 : Shape := ⟨3, ![2, 1, 256]⟩
abbrev S1x2x128x256 : Shape := ⟨4, ![1, 2, 128, 256]⟩
abbrev S2x256x128 : Shape := ⟨3, ![2, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S64x64 : Shape := ⟨2, ![64, 64]⟩
abbrev S1x64x128 : Shape := ⟨3, ![1, 64, 128]⟩
abbrev S64x128 : Shape := ⟨2, ![64, 128]⟩
abbrev S1x128 : Shape := ⟨2, ![1, 128]⟩
abbrev S1x64x256 : Shape := ⟨3, ![1, 64, 256]⟩
abbrev S64x256 : Shape := ⟨2, ![64, 256]⟩
abbrev S1x1x256 : Shape := ⟨3, ![1, 1, 256]⟩
abbrev S1x256 : Shape := ⟨2, ![1, 256]⟩
abbrev S64 : Shape := ⟨1, ![64]⟩
abbrev S64x1 : Shape := ⟨2, ![64, 1]⟩

abbrev nBuf : Space → Nat
  | .hbm => 9
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x1024, .bf16⟩
  | .hbm, ⟨3, _⟩ => ⟨S16x2048x1024, .f32⟩
  | .hbm, ⟨4, _⟩ => ⟨S4x256, .f32⟩
  | .hbm, ⟨5, _⟩ => ⟨S16x4x128x256, .f32⟩
  | .hbm, ⟨6, _⟩ => ⟨S4x1x256, .f32⟩
  | .hbm, ⟨7, _⟩ => ⟨S16x2048x1024, .bf16⟩
  | .hbm, ⟨8, _⟩ => ⟨S16x4x128x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .f32⟩
  | .local _ .vmem, ⟨9, _⟩ => ⟨S1x2048x512, .f32⟩
  | .local _ .vmem, ⟨10, _⟩ => ⟨S2x1x256, .f32⟩
  | .local _ .vmem, ⟨11, _⟩ => ⟨S2x1x256, .f32⟩
  | .local _ .vmem, ⟨12, _⟩ => ⟨S1x2x128x256, .f32⟩
  | .local _ .vmem, ⟨13, _⟩ => ⟨S1x2x128x256, .f32⟩
  | .local _ .vmem, ⟨14, _⟩ => ⟨S1x2048x512, .bf16⟩
  | .local _ .vmem, ⟨15, _⟩ => ⟨S1x2048x512, .bf16⟩
  | .local _ .vmem, ⟨16, _⟩ => ⟨S1x2x128x256, .f32⟩
  | .local _ .vmem, ⟨17, _⟩ => ⟨S1x2x128x256, .f32⟩
  | .local _ .vmem, ⟨18, _⟩ => ⟨S2x256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.muli arg12 c8_i32
  let c0_i32_27 : BitVec 32 := 0#32
  let v29 : BitVec 32 := Scalar.addi v28 c0_i32_27
  let c64_i32 : BitVec 32 := 64#32
  let v30 : BitVec 32 := Scalar.muli v29 c64_i32
  v30
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_28 : BitVec 32 := 8#32
  let v32 : BitVec 32 := Scalar.muli arg12 c8_i32_28
  let c1_i32_29 : BitVec 32 := 1#32
  let v33 : BitVec 32 := Scalar.addi v32 c1_i32_29
  let c64_i32_30 : BitVec 32 := 64#32
  let v34 : BitVec 32 := Scalar.muli v33 c64_i32_30
  v34
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_31 : BitVec 32 := 8#32
  let v36 : BitVec 32 := Scalar.muli arg12 c8_i32_31
  let c2_i32 : BitVec 32 := 2#32
  let v37 : BitVec 32 := Scalar.addi v36 c2_i32
  let c64_i32_32 : BitVec 32 := 64#32
  let v38 : BitVec 32 := Scalar.muli v37 c64_i32_32
  v38
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_33 : BitVec 32 := 8#32
  let v40 : BitVec 32 := Scalar.muli arg12 c8_i32_33
  let c3_i32 : BitVec 32 := 3#32
  let v41 : BitVec 32 := Scalar.addi v40 c3_i32
  let c64_i32_34 : BitVec 32 := 64#32
  let v42 : BitVec 32 := Scalar.muli v41 c64_i32_34
  v42
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_35 : BitVec 32 := 8#32
  let v44 : BitVec 32 := Scalar.muli arg12 c8_i32_35
  let c4_i32_36 : BitVec 32 := 4#32
  let v45 : BitVec 32 := Scalar.addi v44 c4_i32_36
  let c64_i32_37 : BitVec 32 := 64#32
  let v46 : BitVec 32 := Scalar.muli v45 c64_i32_37
  v46
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_38 : BitVec 32 := 8#32
  let v48 : BitVec 32 := Scalar.muli arg12 c8_i32_38
  let c5_i32 : BitVec 32 := 5#32
  let v49 : BitVec 32 := Scalar.addi v48 c5_i32
  let c64_i32_39 : BitVec 32 := 64#32
  let v50 : BitVec 32 := Scalar.muli v49 c64_i32_39
  v50
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_40 : BitVec 32 := 8#32
  let v52 : BitVec 32 := Scalar.muli arg12 c8_i32_40
  let c6_i32 : BitVec 32 := 6#32
  let v53 : BitVec 32 := Scalar.addi v52 c6_i32
  let c64_i32_41 : BitVec 32 := 64#32
  let v54 : BitVec 32 := Scalar.muli v53 c64_i32_41
  v54
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_42 : BitVec 32 := 8#32
  let v56 : BitVec 32 := Scalar.muli arg12 c8_i32_42
  let c7_i32 : BitVec 32 := 7#32
  let v57 : BitVec 32 := Scalar.addi v56 c7_i32
  let c64_i32_43 : BitVec 32 := 64#32
  let v58 : BitVec 32 := Scalar.muli v57 c64_i32_43
  v58
def k0_off1 (k0_t1 : Fin k0_t1_loop.trips) (c0_i32_27 : BitVec 32) : Fin 3 → Nat :=
  let c0_44 : Index := 0#32
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.muli arg12 c8_i32
  let v29 : BitVec 32 := Scalar.addi v28 c0_i32_27
  let c64_i32 : BitVec 32 := 64#32
  let v30 : BitVec 32 := Scalar.muli v29 c64_i32
  let v31 : BitVec 32 := v30
  let v60 : Index := Scalar.indexCast v31
  let c0_45 : Index := 0#32
  ![0, v60.toNat, 0]
def k0_off2 (k0_t1 : Fin k0_t1_loop.trips) (c0_i32_27 : BitVec 32) : Fin 3 → Nat :=
  let c0_99 : Index := 0#32
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.muli arg12 c8_i32
  let v29 : BitVec 32 := Scalar.addi v28 c0_i32_27
  let c64_i32 : BitVec 32 := 64#32
  let v30 : BitVec 32 := Scalar.muli v29 c64_i32
  let v31 : BitVec 32 := v30
  let v252 : Index := Scalar.indexCast v31
  let c128 : Index := 128#32
  ![0, v252.toNat, 128]
def k0_off3 (k0_t1 : Fin k0_t1_loop.trips) (c0_i32_27 : BitVec 32) : Fin 3 → Nat :=
  let c0_186 : Index := 0#32
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.muli arg12 c8_i32
  let v29 : BitVec 32 := Scalar.addi v28 c0_i32_27
  let c64_i32 : BitVec 32 := 64#32
  let v30 : BitVec 32 := Scalar.muli v29 c64_i32
  let v31 : BitVec 32 := v30
  let v508 : Index := Scalar.indexCast v31
  let c0_187 : Index := 0#32
  ![0, v508.toNat, 0]
def k0_off4 (k0_t1 : Fin k0_t1_loop.trips) (c0_i32_27 : BitVec 32) : Fin 3 → Nat :=
  let c0_210 : Index := 0#32
  let c0_i32 : BitVec 32 := 0#32
  let c1_i32 : BitVec 32 := 1#32
  let arg12 : BitVec 32 := Scf.iv c0_i32 c1_i32 k0_t1
  let c8_i32 : BitVec 32 := 8#32
  let v28 : BitVec 32 := Scalar.muli arg12 c8_i32
  let v29 : BitVec 32 := Scalar.addi v28 c0_i32_27
  let c64_i32 : BitVec 32 := 64#32
  let v30 : BitVec 32 := Scalar.muli v29 c64_i32
  let v31 : BitVec 32 := v30
  let v540 : Index := Scalar.indexCast v31
  let c256 : Index := 256#32
  ![0, v540.toNat, 256]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S16x2048x1024 : Shape := ⟨3, ![16, 2048, 1024]⟩
abbrev S16x2048x512 : Shape := ⟨3, ![16, 2048, 512]⟩
abbrev S4x256 : Shape := ⟨2, ![4, 256]⟩
abbrev S16x4x128x256 : Shape := ⟨4, ![16, 4, 128, 256]⟩
abbrev S16x32x64x4x128 : Shape := ⟨5, ![16, 32, 64, 4, 128]⟩
abbrev S16x32x64x4x256 : Shape := ⟨5, ![16, 32, 64, 4, 256]⟩
abbrev S16x32x1x4x128 : Shape := ⟨5, ![16, 32, 1, 4, 128]⟩
abbrev S16x32x4x128 : Shape := ⟨4, ![16, 32, 4, 128]⟩
abbrev S_ : Shape := ⟨0, ![]⟩
abbrev S64x64 : Shape := ⟨2, ![64, 64]⟩
abbrev S16x32x4x64x64 : Shape := ⟨5, ![16, 32, 4, 64, 64]⟩
abbrev S16x32x4x256x64 : Shape := ⟨5, ![16, 32, 4, 256, 64]⟩
abbrev S16x32x4x128x256 : Shape := ⟨5, ![16, 32, 4, 128, 256]⟩
abbrev S32x16x4x128 : Shape := ⟨4, ![32, 16, 4, 128]⟩
abbrev S32x16x4x128x256 : Shape := ⟨5, ![32, 16, 4, 128, 256]⟩
abbrev S1x16x4x128 : Shape := ⟨4, ![1, 16, 4, 128]⟩
abbrev S16x4x128 : Shape := ⟨3, ![16, 4, 128]⟩
abbrev S1x16x4x128x256 : Shape := ⟨5, ![1, 16, 4, 128, 256]⟩
abbrev S16x4x128x1 : Shape := ⟨4, ![16, 4, 128, 1]⟩
abbrev S16x2048x4x256 : Shape := ⟨4, ![16, 2048, 4, 256]⟩
abbrev S16x2048x4 : Shape := ⟨3, ![16, 2048, 4]⟩
abbrev S16x2048x4x1 : Shape := ⟨4, ![16, 2048, 4, 1]⟩
abbrev S1x1x4x256 : Shape := ⟨4, ![1, 1, 4, 256]⟩

abbrev nBuf : Space → Nat
  | .hbm => 113
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x1024, .bf16⟩
  | .hbm, ⟨3, _⟩ => ⟨S16x2048x1024, .f32⟩
  | .hbm, ⟨4, _⟩ => ⟨S4x256, .f32⟩
  | .hbm, ⟨5, _⟩ => ⟨S16x4x128x256, .f32⟩
  | .hbm, ⟨6, _⟩ => ⟨S16x2048x512, .f32⟩
  | .hbm, ⟨7, _⟩ => ⟨S16x2048x512, .f32⟩
  | .hbm, ⟨8, _⟩ => ⟨S16x32x64x4x128, .f32⟩
  | .hbm, ⟨9, _⟩ => ⟨S16x32x64x4x128, .f32⟩
  | .hbm, ⟨10, _⟩ => ⟨S16x2048x1024, .f32⟩
  | .hbm, ⟨11, _⟩ => ⟨S16x32x64x4x256, .f32⟩
  | .hbm, ⟨12, _⟩ => ⟨S16x32x64x4x128, .f32⟩
  | .hbm, ⟨13, _⟩ => ⟨S16x32x1x4x128, .f32⟩
  | .hbm, ⟨14, _⟩ => ⟨S16x32x4x128, .f32⟩
  | .hbm, ⟨15, _⟩ => ⟨S16x32x64x4x128, .f32⟩
  | .hbm, ⟨16, _⟩ => ⟨S16x32x64x4x128, .f32⟩
  | .hbm, ⟨17, _⟩ => ⟨S16x32x64x4x128, .f32⟩
  | .hbm, ⟨18, _⟩ => ⟨S16x32x64x4x128, .f32⟩
  | .hbm, ⟨19, _⟩ => ⟨S16x32x64x4x128, .f32⟩
  | .hbm, ⟨20, _⟩ => ⟨S_, .i1⟩
  | .hbm, ⟨21, _⟩ => ⟨S64x64, .i1⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S_, .i1⟩
  | .hbm, ⟨29, _⟩ => ⟨S64x64, .i1⟩
  | .hbm, ⟨30, _⟩ => ⟨S64x64, .i1⟩
  | .hbm, ⟨31, _⟩ => ⟨S16x32x4x64x64, .f32⟩
  | .hbm, ⟨32, _⟩ => ⟨S_, .f32⟩
  | .hbm, ⟨33, _⟩ => ⟨S_, .f32⟩
  | .hbm, ⟨34, _⟩ => ⟨S16x32x4x64x64, .i1⟩
  | .hbm, ⟨35, _⟩ => ⟨S16x32x4x64x64, .f32⟩
  | .hbm, ⟨36, _⟩ => ⟨S16x32x4x64x64, .f32⟩
  | .hbm, ⟨37, _⟩ => ⟨S16x32x4x256x64, .f32⟩
  | .hbm, ⟨38, _⟩ => ⟨S16x32x64x4x256, .f32⟩
  | .hbm, ⟨39, _⟩ => ⟨S16x32x1x4x128, .f32⟩
  | .hbm, ⟨40, _⟩ => ⟨S16x32x64x4x128, .f32⟩
  | .hbm, ⟨41, _⟩ => ⟨S16x32x64x4x128, .f32⟩
  | .hbm, ⟨42, _⟩ => ⟨S16x32x64x4x128, .f32⟩
  | .hbm, ⟨43, _⟩ => ⟨S16x32x64x4x128, .f32⟩
  | .hbm, ⟨44, _⟩ => ⟨S16x32x4x128x256, .f32⟩
  | .hbm, ⟨45, _⟩ => ⟨S16x32x4x128, .f32⟩
  | .hbm, ⟨46, _⟩ => ⟨S32x16x4x128, .f32⟩
  | .hbm, ⟨47, _⟩ => ⟨S32x16x4x128x256, .f32⟩
  | .hbm, ⟨48, _⟩ => ⟨S_, .f32⟩
  | .hbm, ⟨49, _⟩ => ⟨S32x16x4x128x256, .f32⟩
  | .hbm, ⟨50, _⟩ => ⟨S_, .i32⟩
  | .hbm, ⟨51, _⟩ => ⟨S32x16x4x128, .f32⟩
  | .hbm, ⟨52, _⟩ => ⟨S32x16x4x128x256, .f32⟩
  | .hbm, ⟨53, _⟩ => ⟨S_, .i32⟩
  | .hbm, ⟨54, _⟩ => ⟨S16x4x128x256, .f32⟩
  | .hbm, ⟨55, _⟩ => ⟨S32x16x4x128x256, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x16x4x128, .f32⟩
  | .hbm, ⟨62, _⟩ => ⟨S16x4x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x16x4x128x256, .f32⟩
  | .hbm, ⟨68, _⟩ => ⟨S16x4x128x256, .f32⟩
  | .hbm, ⟨69, _⟩ => ⟨S16x4x128x1, .f32⟩
  | .hbm, ⟨70, _⟩ => ⟨S16x4x128x256, .f32⟩
  | .hbm, ⟨71, _⟩ => ⟨S16x4x128x256, .f32⟩
  | .hbm, ⟨72, _⟩ => ⟨S16x4x128x256, .f32⟩
  | .hbm, ⟨73, _⟩ => ⟨S1x16x4x128x256, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S32x16x4x128x256, .f32⟩
  | .hbm, ⟨79, _⟩ => ⟨S_, .i32⟩
  | .hbm, ⟨80, _⟩ => ⟨S_, .i32⟩
  | .hbm, ⟨81, _⟩ => ⟨S16x32x4x256x64, .f32⟩
  | .hbm, ⟨82, _⟩ => ⟨S16x32x64x4x256, .f32⟩
  | .hbm, ⟨83, _⟩ => ⟨S16x32x64x4x256, .f32⟩
  | .hbm, ⟨84, _⟩ => ⟨S16x2048x4x256, .f32⟩
  | .hbm, ⟨85, _⟩ => ⟨S16x2048x4x256, .f32⟩
  | .hbm, ⟨86, _⟩ => ⟨S_, .f32⟩
  | .hbm, ⟨87, _⟩ => ⟨S16x2048x4, .f32⟩
  | .hbm, ⟨88, _⟩ => ⟨S16x2048x4x1, .f32⟩
  | .hbm, ⟨89, _⟩ => ⟨S_, .f32⟩
  | .hbm, ⟨90, _⟩ => ⟨S16x2048x4x1, .f32⟩
  | .hbm, ⟨91, _⟩ => ⟨S16x2048x4x1, .f32⟩
  | .hbm, ⟨92, _⟩ => ⟨S_, .f32⟩
  | .hbm, ⟨93, _⟩ => ⟨S16x2048x4x1, .f32⟩
  | .hbm, ⟨94, _⟩ => ⟨S16x2048x4x1, .f32⟩
  | .hbm, ⟨95, _⟩ => ⟨S16x2048x4x1, .f32⟩
  | .hbm, ⟨96, _⟩ => ⟨S16x2048x4x256, .f32⟩
  | .hbm, ⟨97, _⟩ => ⟨S16x2048x4x256, .f32⟩
  | .hbm, ⟨98, _⟩ => ⟨S1x1x4x256, .f32⟩
  | .hbm, ⟨99, _⟩ => ⟨S16x2048x4x256, .f32⟩
  | .hbm, ⟨100, _⟩ => ⟨S16x2048x4x256, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | .hbm, ⟨104, _⟩ => ⟨S_, .f32⟩
  | .hbm, ⟨105, _⟩ => ⟨S16x2048x1024, .f32⟩
  | .hbm, ⟨106, _⟩ => ⟨S16x2048x1024, .f32⟩
  | .hbm, ⟨107, _⟩ => ⟨S_, .f32⟩
  | .hbm, ⟨108, _⟩ => ⟨S16x2048x1024, .f32⟩
  | .hbm, ⟨109, _⟩ => ⟨S16x2048x1024, .f32⟩
  | .hbm, ⟨110, _⟩ => ⟨S16x2048x1024, .f32⟩
  | .hbm, ⟨111, _⟩ => ⟨S16x2048x1024, .f32⟩
  | .hbm, ⟨112, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_c_1 : Ref sig .tc := ⟨.hbm, 50, rfl⟩
abbrev main_v30_0 : Ref sig .tc := ⟨.hbm, 51, rfl⟩
abbrev main_v30_1 : Ref sig .tc := ⟨.hbm, 52, rfl⟩
abbrev main_v30_2 : Ref sig .tc := ⟨.hbm, 53, rfl⟩
abbrev main_v30_3 : Ref sig .tc := ⟨.hbm, 54, rfl⟩
abbrev main_v30_4 : Ref sig .tc := ⟨.hbm, 55, rfl⟩
abbrev main_while0c_c_9 : Ref sig .tc := ⟨.hbm, 56, rfl⟩
abbrev main_while0c_v52 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_c_1 : Ref sig .tc := ⟨.hbm, 60, rfl⟩
abbrev main_while0b_call2_v0 : Ref sig .tc := ⟨.hbm, 61, rfl⟩
abbrev main_while0b_v52 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_call3_c_1 : Ref sig .tc := ⟨.hbm, 65, rfl⟩
abbrev main_while0b_call3_c_2 : Ref sig .tc := ⟨.hbm, 66, rfl⟩
abbrev main_while0b_call3_v0 : Ref sig .tc := ⟨.hbm, 67, rfl⟩
abbrev main_while0b_v53 : Ref sig .tc := ⟨.hbm, 68, rfl⟩
abbrev main_while0b_v54 : Ref sig .tc := ⟨.hbm, 69, rfl⟩
abbrev main_while0b_v55 : Ref sig .tc := ⟨.hbm, 70, rfl⟩
abbrev main_while0b_v56 : Ref sig .tc := ⟨.hbm, 71, rfl⟩
abbrev main_while0b_v57 : Ref sig .tc := ⟨.hbm, 72, rfl⟩
abbrev main_while0b_call4_v0 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_c_1 : Ref sig .tc := ⟨.hbm, 76, rfl⟩
abbrev main_while0b_call4_c_2 : Ref sig .tc := ⟨.hbm, 77, rfl⟩
abbrev main_while0b_v58 : Ref sig .tc := ⟨.hbm, 78, rfl⟩
abbrev main_while0b_c_9 : Ref sig .tc := ⟨.hbm, 79, rfl⟩
abbrev main_while0b_v59 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_2 : Ref sig .tc := ⟨.hbm, 86, rfl⟩
abbrev main_v36 : Ref sig .tc := ⟨.hbm, 87, rfl⟩
abbrev main_v37 : Ref sig .tc := ⟨.hbm, 88, rfl⟩
abbrev main_cst_3 : Ref sig .tc := ⟨.hbm, 89, rfl⟩
abbrev main_v38 : Ref sig .tc := ⟨.hbm, 90, rfl⟩
abbrev main_v39 : Ref sig .tc := ⟨.hbm, 91, rfl⟩
abbrev main_cst_4 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_call5_v0 : Ref sig .tc := ⟨.hbm, 102, rfl⟩
abbrev main_call5_v1 : Ref sig .tc := ⟨.hbm, 103, rfl⟩
abbrev main_call5_cst : Ref sig .tc := ⟨.hbm, 104, rfl⟩
abbrev main_call5_v2 : Ref sig .tc := ⟨.hbm, 105, rfl⟩
abbrev main_call5_v3 : Ref sig .tc := ⟨.hbm, 106, rfl⟩
abbrev main_call5_cst_0 : Ref sig .tc := ⟨.hbm, 107, rfl⟩
abbrev main_call5_v4 : Ref sig .tc := ⟨.hbm, 108, rfl⟩
abbrev main_call5_v5 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S16x2048x2048 : Shape := ⟨3, ![16, 2048, 2048]⟩
abbrev S16x2048x1024 : Shape := ⟨3, ![16, 2048, 1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S32768x1024 : Shape := ⟨2, ![32768, 1024]⟩
abbrev S1024x2048 : Shape := ⟨2, ![1024, 2048]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩

abbrev nBuf : Space → Nat
  | .hbm => 20
  | .vmem => 23
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S2048x2048, .f32⟩
  | .hbm, ⟨4, _⟩ => ⟨S2048, .f32⟩
  | .hbm, ⟨5, _⟩ => ⟨S2048x8192, .f32⟩
  | .hbm, ⟨6, _⟩ => ⟨S8192x2048, .f32⟩
  | .hbm, ⟨7, _⟩ => ⟨S32768x2048, .f32⟩
  | .hbm, ⟨8, _⟩ => ⟨S32768x1024, .bf16⟩
  | .hbm, ⟨9, _⟩ => ⟨S32768x1024, .bf16⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S1x2048, .f32⟩
  | .hbm, ⟨15, _⟩ => ⟨S32768x2048, .f32⟩
  | .hbm, ⟨16, _⟩ => ⟨S32768x2048, .bf16⟩
  | .hbm, ⟨17, _⟩ => ⟨S2048x8192, .bf16⟩
  | .hbm, ⟨18, _⟩ => ⟨S8192x2048, .bf16⟩
  | .hbm, ⟨19, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S2048x1024, .bf16⟩
  | .local _ .vmem, ⟨18, _⟩ => ⟨S2048x1024, .bf16⟩
  | .local _ .vmem, ⟨19, _⟩ => ⟨S1024x2048, .bf16⟩
  | .local _ .vmem, ⟨20, _⟩ => ⟨S1024x2048, .bf16⟩
  | .local _ .vmem, ⟨21, _⟩ => ⟨S512x2048, .f32⟩
  | .local _ .vmem, ⟨22, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![64, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== FfnRefIdeal.lean ====
abbrev S16x2048x2048 : Shape := ⟨3, ![16, 2048, 2048]⟩
abbrev S16x2048x1024 : Shape := ⟨3, ![16, 2048, 1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x2048 : Shape := ⟨2, ![32768, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S2048x2048, .f32⟩
  | .hbm, ⟨4, _⟩ => ⟨S2048, .f32⟩
  | .hbm, ⟨5, _⟩ => ⟨S2048x8192, .f32⟩
  | .hbm, ⟨6, _⟩ => ⟨S8192x2048, .f32⟩
  | .hbm, ⟨7, _⟩ => ⟨S16x2048x2048, .bf16⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S1x1x2048, .f32⟩
  | .hbm, ⟨25, _⟩ => ⟨S16x2048x2048, .f32⟩
  | .hbm, ⟨26, _⟩ => ⟨S16x2048x2048, .f32⟩
  | .hbm, ⟨27, _⟩ => ⟨S16x2048x8192, .f32⟩
  | .hbm, ⟨28, _⟩ => ⟨S_, .f32⟩
  | .hbm, ⟨29, _⟩ => ⟨S16x2048x8192, .f32⟩
  | .hbm, ⟨30, _⟩ => ⟨S16x2048x8192, .f32⟩
  | .hbm, ⟨31, _⟩ => ⟨S16x2048x8192, .f32⟩
  | .hbm, ⟨32, _⟩ => ⟨S16x2048x2048, .f32⟩
  | .hbm, ⟨33, _⟩ => ⟨S16x2048x2048, .f32⟩
  | .hbm, ⟨34, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== InpS.lean ====
abbrev S32x4x2048 : Shape := ⟨3, ![32, 4, 2048]⟩
abbrev S2048 : Shape := ⟨1, ![2048]⟩
abbrev S2048x6160 : Shape := ⟨2, ![2048, 6160]⟩
abbrev S128 : Shape := ⟨1, ![128]⟩
abbrev S16x512 : Shape := ⟨2, ![16, 512]⟩
abbrev S512 : Shape := ⟨1, ![512]⟩
abbrev S_ : Shape := ⟨0, ![]⟩
abbrev S128x512 : Shape := ⟨2, ![128, 512]⟩
abbrev S2048x6272 : Shape := ⟨2, ![2048, 6272]⟩
abbrev S128x2048 : Shape := ⟨2, ![128, 2048]⟩
abbrev S1x2048 : Shape := ⟨2, ![1, 2048]⟩
abbrev S1x512 : Shape := ⟨2, ![1, 512]⟩
abbrev S1x128 : Shape := ⟨2, ![1, 128]⟩
abbrev S128x1024 : Shape := ⟨2, ![128, 1024]⟩
abbrev S1024x128 : Shape := ⟨2, ![1024, 128]⟩
abbrev S128x1 : Shape := ⟨2, ![128, 1]⟩
abbrev S2048x128 : Shape := ⟨2, ![2048, 128]⟩
abbrev S128x128 : Shape := ⟨2, ![128, 128]⟩
abbrev S2048x1024 : Shape := ⟨2, ![2048, 1024]⟩

abbrev nBuf : Space → Nat
  | .hbm => 29
  | .vmem => 17
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x6160, .f32⟩
  | .hbm, ⟨3, _⟩ => ⟨S128, .f32⟩
  | .hbm, ⟨4, _⟩ => ⟨S128, .f32⟩
  | .hbm, ⟨5, _⟩ => ⟨S16x512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S2048x6160, .bf16⟩
  | .hbm, ⟨11, _⟩ => ⟨S_, .i32⟩
  | .hbm, ⟨12, _⟩ => ⟨S_, .bf16⟩
  | .hbm, ⟨13, _⟩ => ⟨S2048x6272, .bf16⟩
  | .hbm, ⟨14, _⟩ => ⟨S128x2048, .f32⟩
  | .hbm, ⟨15, _⟩ => ⟨S1x2048, .f32⟩
  | .hbm, ⟨16, _⟩ => ⟨S128x512, .bf16⟩
  | .hbm, ⟨17, _⟩ => ⟨S1x512, .f32⟩
  | .hbm, ⟨18, _⟩ => ⟨S1x128, .f32⟩
  | .hbm, ⟨19, _⟩ => ⟨S1x128, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S1024x128, .f32⟩
  | .hbm, ⟨24, _⟩ => ⟨S1024x128, .f32⟩
  | .hbm, ⟨25, _⟩ => ⟨S128x1024, .f32⟩
  | .hbm, ⟨26, _⟩ => ⟨S128x1024, .bf16⟩
  | .hbm, ⟨27, _⟩ => ⟨S128x1024, .f32⟩
  | .hbm, ⟨28, _⟩ => ⟨S128x512, .f32⟩
  | .local _ .vmem, ⟨0, _⟩ => ⟨S128x2048, .f32⟩
  | .local _ .vmem, ⟨1, _⟩ => ⟨S1x2048, .f32⟩
  | .local _ .vmem, ⟨2, _⟩ => ⟨S2048x6272, .bf16⟩
  | .local _ .vmem, ⟨3, _⟩ => ⟨S128x512, .bf16⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1024x128, .f32⟩
  | .local _ .vmem, ⟨11, _⟩ => ⟨S1024x128, .f32⟩
  | .local _ .vmem, ⟨12, _⟩ => ⟨S128x1024, .f32⟩
  | .local _ .vmem, ⟨13, _⟩ => ⟨S128x1024, .bf16⟩
  | .local _ .vmem, ⟨14, _⟩ => ⟨S128x1024, .f32⟩
  | .local _ .vmem, ⟨15, _⟩ => ⟨S128x512, .f32⟩
  | .local _ .vmem, ⟨16, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== InpSIdeal.lean ====
variable {F : FTy → Type} [FloatOps F] [Named F]
def κ : String → Option EReal := fun
  | "s" => some (((Real.sqrt 128)⁻¹ : ℝ) : EReal)
  | _ => none
-- ==== InpSRefIdeal.lean ====
abbrev S32x4x2048 : Shape := ⟨3, ![32, 4, 2048]⟩
abbrev S2048 : Shape := ⟨1, ![2048]⟩
abbrev S2048x6160 : Shape := ⟨2, ![2048, 6160]⟩
abbrev S128 : Shape := ⟨1, ![128]⟩
abbrev S16x512 : Shape := ⟨2, ![16, 512]⟩
abbrev S512 : Shape := ⟨1, ![512]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x6160 : Shape := ⟨3, ![32, 4, 6160]⟩
abbrev S32x4x1024 : Shape := ⟨3, ![32, 4, 1024]⟩
abbrev S32x4x512 : Shape := ⟨3, ![32, 4, 512]⟩
abbrev S32x4x16 : Shape := ⟨3, ![32, 4, 16]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S1x1x1x128 : Shape := ⟨4, ![1, 1, 1, 128]⟩
abbrev S1x1x512 : Shape := ⟨3, ![1, 1, 512]⟩
abbrev S128x1024 : Shape := ⟨2, ![128, 1024]⟩
abbrev S1024x128 : Shape := ⟨2, ![1024, 128]⟩
abbrev S128x512 : Shape := ⟨2, ![128, 512]⟩

abbrev nBuf : Space → Nat
  | .hbm => 107
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x6160, .f32⟩
  | .hbm, ⟨3, _⟩ => ⟨S128, .f32⟩
  | .hbm, ⟨4, _⟩ => ⟨S128, .f32⟩
  | .hbm, ⟨5, _⟩ => ⟨S16x512, .f32⟩
  | .hbm, ⟨6, _⟩ => ⟨S512, .f32⟩
  | .hbm, ⟨7, _⟩ => ⟨S32x4x2048, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x2048, .f32⟩
  | .hbm, ⟨19, _⟩ => ⟨S32x4x2048, .f32⟩
  | .hbm, ⟨20, _⟩ => ⟨S1x1x2048, .f32⟩
  | .hbm, ⟨21, _⟩ => ⟨S32x4x2048, .f32⟩
  | .hbm, ⟨22, _⟩ => ⟨S32x4x2048, .f32⟩
  | .hbm, ⟨23, _⟩ => ⟨S32x4x6160, .f32⟩
  | .hbm, ⟨24, _⟩ => ⟨S32x4x1024, .f32⟩
  | .hbm, ⟨25, _⟩ => ⟨S32x4x1024, .f32⟩
  | .hbm, ⟨26, _⟩ => ⟨S32x4x1024, .f32⟩
  | .hbm, ⟨27, _⟩ => ⟨S32x4x512, .f32⟩
  | .hbm, ⟨28, _⟩ => ⟨S32x4x512, .f32⟩
  | .hbm, ⟨29, _⟩ => ⟨S32x4x1024, .f32⟩
  | .hbm, ⟨30, _⟩ => ⟨S32x4x1024, .f32⟩
  | .hbm, ⟨31, _⟩ => ⟨S32x4x16, .f32⟩
  | .hbm, ⟨32, _⟩ => ⟨S32x4x8x128, .f32⟩
  | .hbm, ⟨33, _⟩ => ⟨S32x4x8x128, .f32⟩
  | .hbm, ⟨34, _⟩ => ⟨S_, .f32⟩
  | .hbm, ⟨35, _⟩ => ⟨S32x4x8, .f32⟩
  | .hbm, ⟨36, _⟩ => ⟨S32x4x8x1, .f32⟩
  | .hbm, ⟨37, _⟩ => ⟨S_, .f32⟩
  | .hbm, ⟨38, _⟩ => ⟨S32x4x8x1, .f32⟩
  | .hbm, ⟨39, _⟩ => ⟨S32x4x8x1, .f32⟩
  | .hbm, ⟨40, _⟩ => ⟨S_, .f32⟩
  | .hbm, ⟨41, _⟩ => ⟨S32x4x8x1, .f32⟩
  | .hbm, ⟨42, _⟩ => ⟨S32x4x8x1, .f32⟩
  | .hbm, ⟨43, _⟩ => ⟨S32x4x8x1, .f32⟩
  | .hbm, ⟨44, _⟩ => ⟨S32x4x8x128, .f32⟩
  | .hbm, ⟨45, _⟩ => ⟨S32x4x8x128, .f32⟩
  | .hbm, ⟨46, _⟩ => ⟨S1x1x1x128, .f32⟩
  | .hbm, ⟨47, _⟩ => ⟨S32x4x8x128, .f32⟩
  | .hbm, ⟨48, _⟩ => ⟨S32x4x8x128, .f32⟩
  | .hbm, ⟨49, _⟩ => ⟨S32x4x8x128, .f32⟩
  | .hbm, ⟨50, _⟩ => ⟨S32x4x8x128, .f32⟩
  | .hbm, ⟨51, _⟩ => ⟨S_, .f32⟩
  | .hbm, ⟨52, _⟩ => ⟨S32x4x8, .f32⟩
  | .hbm, ⟨53, _⟩ => ⟨S32x4x8x1, .f32⟩
  | .hbm, ⟨54, _⟩ => ⟨S_, .f32⟩
  | .hbm, ⟨55, _⟩ => ⟨S32x4x8x1, .f32⟩
  | .hbm, ⟨56, _⟩ => ⟨S32x4x8x1, .f32⟩
  | .hbm, ⟨57, _⟩ => ⟨S_, .f32⟩
  | .hbm, ⟨58, _⟩ => ⟨S32x4x8x1, .f32⟩
  | .hbm, ⟨59, _⟩ => ⟨S32x4x8x1, .f32⟩
  | .hbm, ⟨60, _⟩ => ⟨S32x4x8x1, .f32⟩
  | .hbm, ⟨61, _⟩ => ⟨S32x4x8x128, .f32⟩
  | .hbm, ⟨62, _⟩ => ⟨S32x4x8x128, .f32⟩
  | .hbm, ⟨63, _⟩ => ⟨S1x1x1x128, .f32⟩
  | .hbm, ⟨64, _⟩ => ⟨S32x4x8x128, .f32⟩
  | .hbm, ⟨65, _⟩ => ⟨S32x4x8x128, .f32⟩
  | .hbm, ⟨66, _⟩ => ⟨S_, .f32⟩
  | .hbm, ⟨67, _⟩ => ⟨S_, .f32⟩
  | .hbm, ⟨68, _⟩ => ⟨S32x4x512, .f32⟩
  | .hbm, ⟨69, _⟩ => ⟨S32x4x512, .f32⟩
  | .hbm, ⟨70, _⟩ => ⟨S32x4x512, .f32⟩
  | .hbm, ⟨71, _⟩ => ⟨S1x1x512, .f32⟩
  | .hbm, ⟨72, _⟩ => ⟨S32x4x512, .f32⟩
  | .hbm, ⟨73, _⟩ => ⟨S32x4x512, .f32⟩
  | .hbm, ⟨74, _⟩ => ⟨S32x4x512, .f32⟩
  | .hbm, ⟨75, _⟩ => ⟨S_, .f32⟩
  | .hbm, ⟨76, _⟩ => ⟨S32x4x512, .f32⟩
  | .hbm, ⟨77, _⟩ => ⟨S32x4x512, .f32⟩
  | .hbm, ⟨78, _⟩ => ⟨S32x4x512, .f32⟩
  | .hbm, ⟨79, _⟩ => ⟨S32x4x512, .f32⟩
  | .hbm, ⟨80, _⟩ => ⟨S32x4x512, .i1⟩
  | .hbm, ⟨81, _⟩ => ⟨S32x4x512, .f32⟩
  | .hbm, ⟨82, _⟩ => ⟨S32x4x512, .f32⟩
  | .hbm, ⟨83, _⟩ => ⟨S32x4x512, .f32⟩
  | .hbm, ⟨84, _⟩ => ⟨S32x4x512, .f32⟩
  | .hbm, ⟨85, _⟩ => ⟨S32x4x512, .f32⟩
  | .hbm, ⟨86, _⟩ => ⟨S32x4x512, .f32⟩
  | .hbm, ⟨87, _⟩ => ⟨S32x4x512, .f32⟩
  | .hbm, ⟨88, _⟩ => ⟨S32x4x512, .f32⟩
  | .hbm, ⟨89, _⟩ => ⟨S32x4x512, .f32⟩
  | .hbm, ⟨90, _⟩ => ⟨S_, .f32⟩
  | .hbm, ⟨91, _⟩ => ⟨S32x4x512, .f32⟩
  | .hbm, ⟨92, _⟩ => ⟨S32x4x512, .f32⟩
  | .hbm, ⟨93, _⟩ => ⟨S_, .f32⟩
  | .hbm, ⟨94, _⟩ => ⟨S_, .f32⟩
  | .hbm, ⟨95, _⟩ => ⟨S32x4x512, .f32⟩
  | .hbm, ⟨96, _⟩ => ⟨S128x1024, .f32⟩
  | .hbm, ⟨97, _⟩ => ⟨S128x1024, .f32⟩
  | .hbm, ⟨98, _⟩ => ⟨S128x1024, .f32⟩
  | .hbm, ⟨99, _⟩ => ⟨S1024x128, .f32⟩
  | .hbm, ⟨100, _⟩ => ⟨S1024x128, .f32⟩
  | .hbm, ⟨101, _⟩ => ⟨S32x4x1024, .f32⟩
  | .hbm, ⟨102, _⟩ => ⟨S128x1024, .f32⟩
  | .hbm, ⟨103, _⟩ => ⟨S32x4x1024, .bf16⟩
  | .hbm, ⟨104, _⟩ => ⟨S128x1024, .bf16⟩
  | .hbm, ⟨105, _⟩ => ⟨S128x1024, .f32⟩
  | .hbm, ⟨106, _⟩ => ⟨S128x512, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_v2 : Ref sig .tc := ⟨.hbm, 78, rfl⟩
abbrev main_call0_call0_v3 : Ref sig .tc := ⟨.hbm, 79, rfl⟩
abbrev main_call0_call0_v4 : Ref sig .tc := ⟨.hbm, 80, rfl⟩
abbrev main_call0_call0_v5 : Ref sig .tc := ⟨.hbm, 81, rfl⟩
abbrev main_call0_call0_v6 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_v9 : Ref sig .tc := ⟨.hbm, 85, rfl⟩
abbrev main_call0_call0_v10 : Ref sig .tc := ⟨.hbm, 86, rfl⟩
abbrev main_call0_call0_v11 : Ref sig .tc := ⟨.hbm, 87, rfl⟩
abbrev main_call0_v1 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_call1_call0_cst : Ref sig .tc := ⟨.hbm, 93, rfl⟩
abbrev main_call1_call0_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]

def κ : String → Option EReal := fun
  | "s" => some (((Real.sqrt 128)⁻¹ : ℝ) : EReal)
  | _ => none
-- ==== FfnS.lean ====
abbrev S32x4x2048 : Shape := ⟨3, ![32, 4, 2048]⟩
abbrev S32x4x1024 : Shape := ⟨3, ![32, 4, 1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S128x2048 : Shape := ⟨2, ![128, 2048]⟩
abbrev S128x1024 : Shape := ⟨2, ![128, 1024]⟩
abbrev S1024x2048 : Shape := ⟨2, ![1024, 2048]⟩
abbrev S1x2048 : Shape := ⟨2, ![1, 2048]⟩
abbrev S128 : Shape := ⟨1, ![128]⟩
abbrev S128x1 : Shape := ⟨2, ![128, 1]⟩
abbrev S2048x1024 : Shape := ⟨2, ![2048, 1024]⟩

abbrev nBuf : Space → Nat
  | .hbm => 20
  | .vmem => 15
  | .smem => 0
  | _ => 0

abbrev bufTy : (tb : Table) → Fin (tcTables nBuf tb) → BufTy
  | .hbm, ⟨0, _⟩ => ⟨S32x4x2048, .f32⟩
  | .hbm, ⟨1, _⟩ => ⟨S32x4x1024, .f32⟩
  | .hbm, ⟨2, _⟩ => ⟨S32x4x1024, .f32⟩
  | .hbm, ⟨3, _⟩ => ⟨S2048x2048, .f32⟩
  | .hbm, ⟨4, _⟩ => ⟨S2048, .f32⟩
  | .hbm, ⟨5, _⟩ => ⟨S2048x8192, .f32⟩
  | .hbm, ⟨6, _⟩ => ⟨S8192x2048, .f32⟩
  | .hbm, ⟨7, _⟩ => ⟨S128x2048, .f32⟩
  | .hbm, ⟨8, _⟩ => ⟨S128x1024, .f32⟩
  | .hbm, ⟨9, _⟩ => ⟨S128x1024, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S1x2048, .f32⟩
  | .hbm, ⟨15, _⟩ => ⟨S128x2048, .f32⟩
  | .hbm, ⟨16, _⟩ => ⟨S128x2048, .bf16⟩
  | .hbm, ⟨17, _⟩ => ⟨S2048x8192, .bf16⟩
  | .hbm, ⟨18, _⟩ => ⟨S8192x2048, .bf16⟩
  | .hbm, ⟨19, _⟩ => ⟨S128x2048, .f32⟩
  | .local _ .vmem, ⟨0, _⟩ => ⟨S128x2048, .f32⟩
  | .local _ .vmem, ⟨1, _⟩ => ⟨S128x1024, .f32⟩
  | .local _ .vmem, ⟨2, _⟩ => ⟨S128x1024, .f32⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S128x2048, .f32⟩
  | .local _ .vmem, ⟨7, _⟩ => ⟨S128x2048, .bf16⟩
  | .local _ .vmem, ⟨8, _⟩ => ⟨S128x2048, .f32⟩
  | .local _ .vmem, ⟨9, _⟩ => ⟨S128x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S128x2048, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S128x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]
-- ==== FfnSRefIdeal.lean ====
abbrev S32x4x2048 : Shape := ⟨3, ![32, 4, 2048]⟩
abbrev S32x4x1024 : Shape := ⟨3, ![32, 4, 1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x8192 : Shape := ⟨3, ![32, 4, 8192]⟩
abbrev S128x2048 : Shape := ⟨2, ![128, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S32x4x1024, .f32⟩
  | .hbm, ⟨2, _⟩ => ⟨S32x4x1024, .f32⟩
  | .hbm, ⟨3, _⟩ => ⟨S2048x2048, .f32⟩
  | .hbm, ⟨4, _⟩ => ⟨S2048, .f32⟩
  | .hbm, ⟨5, _⟩ => ⟨S2048x8192, .f32⟩
  | .hbm, ⟨6, _⟩ => ⟨S8192x2048, .f32⟩
  | .hbm, ⟨7, _⟩ => ⟨S32x4x2048, .f32⟩
  | .hbm, ⟨8, _⟩ => ⟨S32x4x2048, .f32⟩
  | .hbm, ⟨9, _⟩ => ⟨S32x4x2048, .f32⟩
  | .hbm, ⟨10, _⟩ => ⟨S32x4x2048, .f32⟩
  | .hbm, ⟨11, _⟩ => ⟨S_, .f32⟩
  | .hbm, ⟨12, _⟩ => ⟨S32x4, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S_, .f32⟩
  | .hbm, ⟨18, _⟩ => ⟨S32x4x1, .f32⟩
  | .hbm, ⟨19, _⟩ => ⟨S32x4x1, .f32⟩
  | .hbm, ⟨20, _⟩ => ⟨S32x4x1, .f32⟩
  | .hbm, ⟨21, _⟩ => ⟨S32x4x2048, .f32⟩
  | .hbm, ⟨22, _⟩ => ⟨S32x4x2048, .f32⟩
  | .hbm, ⟨23, _⟩ => ⟨S1x1x2048, .f32⟩
  | .hbm, ⟨24, _⟩ => ⟨S32x4x2048, .f32⟩
  | .hbm, ⟨25, _⟩ => ⟨S32x4x2048, .f32⟩
  | .hbm, ⟨26, _⟩ => ⟨S32x4x8192, .f32⟩
  | .hbm, ⟨27, _⟩ => ⟨S_, .f32⟩
  | .hbm, ⟨28, _⟩ => ⟨S32x4x8192, .f32⟩
  | .hbm, ⟨29, _⟩ => ⟨S32x4x8192, .f32⟩
  | .hbm, ⟨30, _⟩ => ⟨S32x4x8192, .f32⟩
  | .hbm, ⟨31, _⟩ => ⟨S32x4x2048, .f32⟩
  | .hbm, ⟨32, _⟩ => ⟨S32x4x2048, .f32⟩
  | .hbm, ⟨33, _⟩ => ⟨S128x2048, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.FfnRun.lean ====
/- The joined output projection and feed-forward layer, run to its end over any float values: the result array is
   what the second pipeline's write-backs leave, the arguments are unchanged, every semaphore counter is zero. -/
module

public import proofs.«01_k».proof.Proof.Gen.FfnIdeal.Frame

@[expose] public section

set_option maxRecDepth 16384

noncomputable section

namespace Cert.FfnIdeal.Value

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with the result array at what the second pipeline leaves, the arguments as launched and
    every semaphore counter at zero. -/
theorem run_value : θ_run defs (onTc (τ := τ) (main (F := F))) ⟨m, fun _ => 0, ρ⟩ (fun r => (∀ c : Dev nD,
      r.2.mem ((c.tc : Thread nD τ).loc main_v11) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v11 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.FfnIdeal.Value

end
-- ==== Proof.FfnValue.lean ====
/- What the joined output projection and feed-forward layer computes, over the extended reals: each pipeline's output
   arrays as sums over the arrays it reads, and the whole result as the reference's expression of the arguments. -/
module

public import proofs.«01_k».proof.Proof.FfnRun
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Value

open Cert.FfnIdeal Cert.FfnIdeal.Gen
open Idealize.ShloMosaic Idealize.ShloMosaic.TcCoe Idealize.SL.Sem
open Idealize.ShloMosaic.Pipeline (Dat)

/-! ## The arrays between the host operations and the pipelines -/

/-- The residual stream plus the output projection of the two mixers' outputs, the product taken in two halves. -/
def X1 (X : FVec Ideal S32768x2048 .f32) (A B : FVec Ideal S32768x1024 .bf16) (Wa Wb : FVec Ideal S1024x2048 .bf16) :
    FVec Ideal S32768x2048 .f32 := fun i =>
  (X i + ∑ k : Fin 1024, A (ix2 (i 0) k) * Wa (ix2 k (i 1))) + ∑ k : Fin 1024, B (ix2 (i 0) k) * Wb (ix2 k (i 1))

/-- Its root-mean-square norm, scaled by the row `g`. -/
def HM (Y : FVec Ideal S32768x2048 .f32) (g : FVec Ideal S1x2048 .f32) : FVec Ideal S32768x2048 .bf16 := fun i =>
  Y i * Ideal.rsqrt (Ideal.div (∑ k : Fin 2048, Y (ix2 (i 0) k) * Y (ix2 (i 0) k)) (Ideal.ofBits .f32 0x45000000#32)
    + Ideal.ofBits .f32 0x358637BD#32) * g (ix2 0 (i 1))

/-- The squared rectified projection at row `r`, hidden column `l`. -/
def U (H : FVec Ideal S32768x2048 .bf16) (Wu : FVec Ideal S2048x8192 .bf16) (r : Fin 32768) (l : Fin 8192) : EReal :=
  max (∑ k : Fin 2048, H (ix2 r k) * Wu (ix2 k l)) 0 * max (∑ k : Fin 2048, H (ix2 r k) * Wu (ix2 k l)) 0

/-- The residual stream plus the feed-forward layer. -/
def OUT (Y : FVec Ideal S32768x2048 .f32) (H : FVec Ideal S32768x2048 .bf16) (Wu : FVec Ideal S2048x8192 .bf16)
    (Wd : FVec Ideal S8192x2048 .bf16) : FVec Ideal S32768x2048 .f32 := fun i =>
  Y i + ∑ l : Fin 8192, U H Wu (i 0) l * Wd (ix2 l (i 1))

/-! ## The payloads at an index -/

theorem pay0_1 (a : Vec Ideal S512x2048 .f32) (b : Vec Ideal S512x1024 .bf16) (wa : Vec Ideal S1024x2048 .bf16)
    (d : Vec Ideal S512x1024 .bf16) (wb : Vec Ideal S1024x2048 .bf16) (j) :
    k0_pay1 a b wa d wb j = (a j + ∑ k : Fin 1024, b (ix2 (j 0) k) * wa (ix2 k (j 1))) + ∑ k : Fin 1024, d (ix2 (j 0) k) * wb (ix2 k (j 1)) := by
  pointwise [k0_pay1]

theorem pay1_1 (a : Vec Ideal S512x2048 .f32) : k1_pay1 a = a := by
  funext j; pointwise [k1_pay1]

theorem pay1_2 (h : Vec Ideal S512x2048 .bf16) (wu : Vec Ideal S2048x1024 .bf16) (acc : Vec Ideal S512x2048 .f32) (wd : Vec Ideal S1024x2048 .bf16) (j) :
    k1_pay2 h wu acc wd j = acc j + ∑ l : Fin 1024, (max (∑ k : Fin 2048, h (ix2 (j 0) k) * wu (ix2 k l)) 0 * max (∑ k : Fin 2048, h (ix2 (j 0) k) * wu (ix2 k l)) 0) * wd (ix2 l (j 1)) := by
  pointwise [k1_pay2]

section Regions
variable (V : (c : Dev nD) → (b : Ref sig .tc) → Buf (Elt Ideal) ((c : Thread nD τ).loc b))

/-- The first pipeline's block indices at every grid point. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The second pipeline's block indices at every grid point. -/
theorem idx1 : ∀ t : Fin cfg1.N, win1_0.index t = ![t.val / 8, 0] ∧ win1_1.index t = ![t.val / 8, 0] ∧ win1_2.index t = ![0, t.val % 8]
    ∧ win1_3.index t = ![t.val % 8, 0] ∧ win1_4.index t = ![t.val / 8, 0] :=
  (by decide +kernel : ∀ t : Fin grid1.N, _)

theorem final0_6 (c : Dev nD) : (dat0 V c).arrAt 6 cfg0.N = X1 (V c main_v0) (V c main_v1) (V c main_v2) (V c main_v4) (V c main_v6) := by
  refine (dat0 V c).arrAt_eq_of_covers 6 _ (by decide +kernel) fun t hf y => ?_
  blk_simp
  rw [after0_6]; frame_out
  rw [pay0_1]
  unfold X1
  blk_point [iblk0, idx0 t]

theorem final0_7 (c : Dev nD) : (dat0 V c).arrAt 7 cfg0.N = HM (X1 (V c main_v0) (V c main_v1) (V c main_v2) (V c main_v4) (V c main_v6)) (V c main_v7) := by
  refine (dat0 V c).arrAt_eq_of_covers 7 _ (by decide +kernel) fun t hf y => ?_
  blk_simp
  rw [after0_7]; frame_out
  pointwise [k0_pay2, pay0_1, HM, X1]
  blk_point [iblk0, idx0 t]

/-- What point `t` of the second pipeline adds to its output block at block index `j`: the block of the residual
    stream where the row's run begins, and the point's 1024 hidden columns. -/
def term1 (c : Dev nD) (t : Fin cfg1.N) (j : S512x2048.Idx) : EReal :=
  (if t.val % 8 = 0 then (show FVec Ideal S512x2048 .f32 from iblk1 V c 0 t) j else 0)
    + ∑ l : Fin 1024, (max (∑ k : Fin 2048, (show FVec Ideal S512x2048 .bf16 from iblk1 V c 1 t) (ix2 (j 0) k) * (show FVec Ideal S2048x1024 .bf16 from iblk1 V c 2 t) (ix2 k l)) 0
        * max (∑ k : Fin 2048, (show FVec Ideal S512x2048 .bf16 from iblk1 V c 1 t) (ix2 (j 0) k) * (show FVec Ideal S2048x1024 .bf16 from iblk1 V c 2 t) (ix2 k l)) 0)
      * (show FVec Ideal S1024x2048 .bf16 from iblk1 V c 3 t) (ix2 l (j 1))

theorem term1_reset (c : Dev nD) (t : Fin cfg1.N) (h : t.val % 8 = 0) (j : S512x2048.Idx) :
    outsAt1 V c t.val t.isLt j = (fun _ => (0 : EReal)) j + term1 V c t j := by
  rw [outsAt1_A V c t h]; frame_out; rw [pay1_2, pay1_1]; unfold term1; rw [if_pos h, zero_add]

theorem term1_step (c : Dev nD) (t : Fin cfg1.N) (h : ¬t.val % 8 = 0) (j : S512x2048.Idx) :
    outsAt1 V c t.val t.isLt j = outsAt1 V c (t.val - 1) (Nat.lt_of_le_of_lt (Nat.sub_le _ _) t.isLt) j + term1 V c t j := by
  rw [outsAt1_B V c t h]; frame_out; rw [pay1_2]; unfold term1; rw [if_neg h, zero_add]

theorem final1 (c : Dev nD) : (dat1 V c).arrAt 4 cfg1.N = OUT (V c main_v8_0) (V c main_v8_1) (V c main_v9) (V c main_v10) := by
  refine (dat1 V c).arrAt_eq_of_covers 4 _ (by decide +kernel) fun t hf y => ?_
  blk_simp
  rw [after1_4, Pipeline.eq_sum_fin_of_reset_step_apply_of_flush (fun n h => outsAt1 V c n h) 8 (fun _ => (0 : EReal)) (term1 V c)
    (term1_reset V c) (term1_step V c) t ((flush1_4 t).mp hf) _, zero_add]
  unfold term1
  rw [Finset.sum_add_distrib]
  unfold OUT U
  refine Ideal.add_congr ?_ ?_
  · rw [Finset.sum_eq_single (0 : Fin 8)]
    · rw [if_pos (by simp)]
      have ht : t.val < 512 := lt_of_lt_of_eq t.isLt (show cfg1.N = 512 from N_1)
      blk_ext [iblk1, idx1 t, idx1 ⟨_, Pipeline.run_point_lt_of_flush t ((flush1_4 t).mp hf) (0 : Fin 8)⟩]
    · intro s _ hs
      rw [if_neg]
      have := s.isLt
      have h0 : s.val ≠ 0 := fun h => hs (Fin.ext h)
      show ¬ (8 * (t.val / 8) + s.val) % 8 = 0
      omega
    · intro h; exact absurd (Finset.mem_univ _) h
  · refine Fin.sum_mul_add_congr fun s k hl => ?_
    blk_point [iblk1, idx1 t, idx1 ⟨_, Pipeline.run_point_lt_of_flush t ((flush1_4 t).mp hf) s⟩]
end Regions

variable (m : (ℓ : Loc nD τ sig) → Buf (Elt Ideal) ℓ) (ρ : Dev nD → PrngReg)

/-! ## The arrays the host operations prepare -/

theorem V1_v0 (c : Dev nD) : V1 m ρ c main_v0 = shapeCast S32768x2048 (m ((c : Thread nD τ).loc main_arg0)) shapeCasts_S16x2048x2048_S32768x2048 := by
  show StableHlo.after hostOps0 (W0 m ρ c) (Proc.devRef .tc main_v0) = _
  after_results <;> rfl

theorem V1_v1 (c : Dev nD) : V1 m ρ c main_v1 = shapeCast S32768x1024 (m ((c : Thread nD τ).loc main_arg1)) shapeCasts_S16x2048x1024_S32768x1024 := by
  show StableHlo.after hostOps0 (W0 m ρ c) (Proc.devRef .tc main_v1) = _
  after_results <;> rfl

theorem V1_v2 (c : Dev nD) : V1 m ρ c main_v2 = shapeCast S32768x1024 (m ((c : Thread nD τ).loc main_arg2)) shapeCasts_S16x2048x1024_S32768x1024 := by
  show StableHlo.after hostOps0 (W0 m ρ c) (Proc.devRef .tc main_v2) = _
  after_results <;> rfl

theorem V1_v4 (c : Dev nD) : V1 m ρ c main_v4 = (truncf .bf16 (extractStridedSlice S1024x2048 ![0, 0] (m ((c : Thread nD τ).loc main_arg3) : FVec Ideal S2048x2048 .f32) slices_S2048x2048_S1024x2048_0_0) bitsLt_bf16_f32 : FVec Ideal S1024x2048 .bf16) := by
  show StableHlo.after hostOps0 (W0 m ρ c) (Proc.devRef .tc main_v4) = _
  after_results <;> rfl

theorem V1_v6 (c : Dev nD) : V1 m ρ c main_v6 = (truncf .bf16 (extractStridedSlice S1024x2048 ![1024, 0] (m ((c : Thread nD τ).loc main_arg3) : FVec Ideal S2048x2048 .f32) slices_S2048x2048_S1024x2048_1024_0) bitsLt_bf16_f32 : FVec Ideal S1024x2048 .bf16) := by
  show StableHlo.after hostOps0 (W0 m ρ c) (Proc.devRef .tc main_v6) = _
  after_results <;> rfl

theorem V1_v7 (c : Dev nD) : V1 m ρ c main_v7 = (broadcastInDim S1x2048 ![1] bcast_S2048_S1x2048_1 (m ((c : Thread nD τ).loc main_arg4) : FVec Ideal S2048 .f32) : FVec Ideal S1x2048 .f32) := by
  show StableHlo.after hostOps0 (W0 m ρ c) (Proc.devRef .tc main_v7) = _
  after_results <;> rfl

theorem V3_v9 (c : Dev nD) : V3 m ρ c main_v9 = (truncf .bf16 (m ((c : Thread nD τ).loc main_arg5) : FVec Ideal S2048x8192 .f32) bitsLt_bf16_f32 : FVec Ideal S2048x8192 .bf16) := by
  rw [← W2_args m ρ c main_arg5 (by decide)]
  show StableHlo.after hostOps1 (W2 m ρ c) (Proc.devRef .tc main_v9) = _
  after_results <;> rfl

theorem V3_v10 (c : Dev nD) : V3 m ρ c main_v10 = (truncf .bf16 (m ((c : Thread nD τ).loc main_arg6) : FVec Ideal S8192x2048 .f32) bitsLt_bf16_f32 : FVec Ideal S8192x2048 .bf16) := by
  rw [← W2_args m ρ c main_arg6 (by decide)]
  show StableHlo.after hostOps1 (W2 m ρ c) (Proc.devRef .tc main_v10) = _
  after_results <;> rfl

theorem V3_v8_0 (c : Dev nD) : V3 m ρ c main_v8_0 = (dat0 (V1 m ρ) c).arrAt 6 cfg0.N :=
  (W3_of m ρ c main_v8_0 (by decide)).trans (W2_arr m ρ c 6)

theorem V3_v8_1 (c : Dev nD) : V3 m ρ c main_v8_1 = (dat0 (V1 m ρ) c).arrAt 7 cfg0.N :=
  (W3_of m ρ c main_v8_1 (by decide)).trans (W2_arr m ρ c 7)

/-- The result array of the whole program, from the arrays the host operations prepare. -/
theorem final (c : Dev nD) : (dat1 (V3 m ρ) c).arrAt 4 cfg1.N
    = OUT (X1 (V1 m ρ c main_v0) (V1 m ρ c main_v1) (V1 m ρ c main_v2) (V1 m ρ c main_v4) (V1 m ρ c main_v6))
        (HM (X1 (V1 m ρ c main_v0) (V1 m ρ c main_v1) (V1 m ρ c main_v2) (V1 m ρ c main_v4) (V1 m ρ c main_v6)) (V1 m ρ c main_v7))
        (V3 m ρ c main_v9) (V3 m ρ c main_v10) := by
  rw [final1 (V3 m ρ) c, V3_v8_0, V3_v8_1, final0_6, final0_7]

end Cert.FfnIdeal.Value

end
-- ==== Proof.FfnRef.lean ====
/- The reference of the output projection and feed-forward layer, over the extended reals: its composed term in
   three named steps, and its equality with the sums the kernel's arrays are. -/
module

public import proofs.«01_k».proof.Proof.FfnValue
public import proofs.«01_k».proof.Proof.Gen.FfnRefIdeal.Run
public import proofs.«01_k».proof.Defs

@[expose] public section

set_option maxRecDepth 16384

noncomputable section

namespace Cert.FfnRefIdeal.Value

open Cert.FfnRefIdeal Cert.FfnRefIdeal.Gen Idealize.ShloMosaic Idealize.ShloMosaic.TcCoe Idealize.SL.Sem

/-- The residual stream plus the projected mix. -/
def refX (x : FVec Ideal S16x2048x2048 .f32) (oa ob : FVec Ideal S16x2048x1024 .bf16) (w : FVec Ideal S2048x2048 .f32) :
    FVec Ideal S16x2048x2048 .f32 :=
  (addf x (Host.dotGeneral dot_S16x2048x2048_S2048x2048_S16x2048x2048_2_0_01_1_n_n none (extf .f32 (concatenate S16x2048x2048 2 [⟨S16x2048x1024, oa⟩, ⟨S16x2048x1024, ob⟩] concatenates_S16x2048x1024_S16x2048x1024_S16x2048x2048_d2) bitsLt_bf16_f32) w))

/-- Its root-mean-square norm. -/
def refH (X : FVec Ideal S16x2048x2048 .f32) (g : FVec Ideal S2048 .f32) : FVec Ideal S16x2048x2048 .f32 :=
  (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g)))

/-- The residual stream plus the feed-forward layer, as rows. -/
def refOut (X H : FVec Ideal S16x2048x2048 .f32) (wu : FVec Ideal S2048x8192 .f32) (wd : FVec Ideal S8192x2048 .f32) :
    FVec Ideal S32768x2048 .f32 :=
  shapeCast _ (addf X (Host.dotGeneral dot_S16x2048x8192_S8192x2048_S16x2048x2048_2_0_01_1_n_n none (mulf (maximumf (Host.dotGeneral dot_S16x2048x2048_S2048x8192_S16x2048x8192_2_0_01_1_n_n none H wu) (broadcastInDim S16x2048x8192 ![] bcast_S_S16x2048x8192 (constant S_ .f32 0x00000000#32))) (maximumf (Host.dotGeneral dot_S16x2048x2048_S2048x8192_S16x2048x8192_2_0_01_1_n_n none H wu) (broadcastInDim S16x2048x8192 ![] bcast_S_S16x2048x8192 (constant S_ .f32 0x00000000#32)))) wd)) shapeCasts_S16x2048x2048_S32768x2048

/-- The reference's result is the three steps in turn. -/
theorem res_eq (m : (ℓ : Loc nD τ sig) → Buf (Elt Ideal) ℓ) (c : Dev nD) :
    res_main_v22 m c = refOut (refX (m ((c.tc : Thread nD τ).loc main_arg0)) (m ((c.tc : Thread nD τ).loc main_arg1)) (m ((c.tc : Thread nD τ).loc main_arg2)) (m ((c.tc : Thread nD τ).loc main_arg3)))
      (refH (refX (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      (m ((c.tc : Thread nD τ).loc main_arg5)) (m ((c.tc : Thread nD τ).loc main_arg6)) := rfl

section
variable (x : FVec Ideal S16x2048x2048 .f32) (oa ob : FVec Ideal S16x2048x1024 .bf16) (w : FVec Ideal S2048x2048 .f32)
  (g : FVec Ideal S2048 .f32) (wu : FVec Ideal S2048x8192 .f32) (wd : FVec Ideal S8192x2048 .f32)

/-- The projected stream at row `r` is the kernel's sum of two half products. -/
theorem refX_at (r : Fin 32768) (j : Fin 2048) :
    refX x oa ob w (ix3 ⟨r.val / 2048, by omega⟩ ⟨r.val % 2048, by omega⟩ j)
      = FfnIdeal.Value.X1 (shapeCast S32768x2048 x FfnIdeal.Gen.shapeCasts_S16x2048x2048_S32768x2048)
          (shapeCast FfnIdeal.S32768x1024 oa FfnIdeal.Gen.shapeCasts_S16x2048x1024_S32768x1024)
          (shapeCast FfnIdeal.S32768x1024 ob FfnIdeal.Gen.shapeCasts_S16x2048x1024_S32768x1024)
          (truncf .bf16 (extractStridedSlice FfnIdeal.S1024x2048 ![0, 0] w FfnIdeal.Gen.slices_S2048x2048_S1024x2048_0_0) FfnIdeal.Gen.bitsLt_bf16_f32)
          (truncf .bf16 (extractStridedSlice FfnIdeal.S1024x2048 ![1024, 0] w FfnIdeal.Gen.slices_S2048x2048_S1024x2048_1024_0) FfnIdeal.Gen.bitsLt_bf16_f32)
          (ix2 r j) := by
  pointwise [refX, FfnIdeal.Value.X1]
  exact (add_assoc _ _ _).symm

end

/-- The reference's norm at row `r` is the kernel's, of the same rows. -/
theorem refH_at (X : FVec Ideal S16x2048x2048 .f32) (g : FVec Ideal S2048 .f32) (Y : FVec Ideal S32768x2048 .f32)
    (h : ∀ (r : Fin 32768) (j : Fin 2048), X (ix3 ⟨r.val / 2048, by omega⟩ ⟨r.val % 2048, by omega⟩ j) = Y (ix2 r j))
    (r : Fin 32768) (j : Fin 2048) :
    refH X g (ix3 ⟨r.val / 2048, by omega⟩ ⟨r.val % 2048, by omega⟩ j)
      = FfnIdeal.Value.HM Y (broadcastInDim FfnIdeal.S1x2048 ![1] FfnIdeal.Gen.bcast_S2048_S1x2048_1 g) (ix2 r j) := by
  pointwise [refH, FfnIdeal.Value.HM]
  simp only [h]

/-- The reference's result is the kernel's sum, of the same rows. -/
theorem refOut_eq (X H : FVec Ideal S16x2048x2048 .f32) (wu : FVec Ideal S2048x8192 .f32) (wd : FVec Ideal S8192x2048 .f32)
    (Y : FVec Ideal S32768x2048 .f32) (K : FVec Ideal S32768x2048 .bf16)
    (hX : ∀ (r : Fin 32768) (j : Fin 2048), X (ix3 ⟨r.val / 2048, by omega⟩ ⟨r.val % 2048, by omega⟩ j) = Y (ix2 r j))
    (hH : ∀ (r : Fin 32768) (j : Fin 2048), H (ix3 ⟨r.val / 2048, by omega⟩ ⟨r.val % 2048, by omega⟩ j) = K (ix2 r j)) :
    refOut X H wu wd = FfnIdeal.Value.OUT Y K (truncf .bf16 wu FfnIdeal.Gen.bitsLt_bf16_f32) (truncf .bf16 wd FfnIdeal.Gen.bitsLt_bf16_f32) := by
  funext i
  idx_vars i
  pointwise [refOut, FfnIdeal.Value.OUT, FfnIdeal.Value.U]
  simp only [hX, hH]

/-- The kernel's result array is the reference's, over arguments that agree. -/
theorem kernel_eq (m : (ℓ : Loc FfnIdeal.nD FfnIdeal.τ FfnIdeal.sig) → Buf (Elt Ideal) ℓ) (ρ : Dev FfnIdeal.nD → PrngReg) (c : Dev FfnIdeal.nD)
    (m' : (ℓ : Loc nD τ sig) → Buf (Elt Ideal) ℓ)
    (h0 : m' ((c.tc : Thread nD τ).loc main_arg0) = m ((c.tc : Thread FfnIdeal.nD FfnIdeal.τ).loc FfnIdeal.main_arg0))
    (h1 : m' ((c.tc : Thread nD τ).loc main_arg1) = m ((c.tc : Thread FfnIdeal.nD FfnIdeal.τ).loc FfnIdeal.main_arg1))
    (h2 : m' ((c.tc : Thread nD τ).loc main_arg2) = m ((c.tc : Thread FfnIdeal.nD FfnIdeal.τ).loc FfnIdeal.main_arg2))
    (h3 : m' ((c.tc : Thread nD τ).loc main_arg3) = m ((c.tc : Thread FfnIdeal.nD FfnIdeal.τ).loc FfnIdeal.main_arg3))
    (h4 : m' ((c.tc : Thread nD τ).loc main_arg4) = m ((c.tc : Thread FfnIdeal.nD FfnIdeal.τ).loc FfnIdeal.main_arg4))
    (h5 : m' ((c.tc : Thread nD τ).loc main_arg5) = m ((c.tc : Thread FfnIdeal.nD FfnIdeal.τ).loc FfnIdeal.main_arg5))
    (h6 : m' ((c.tc : Thread nD τ).loc main_arg6) = m ((c.tc : Thread FfnIdeal.nD FfnIdeal.τ).loc FfnIdeal.main_arg6)) :
    res_main_v22 m' c = (FfnIdeal.Gen.dat1 (FfnIdeal.Gen.V3 m ρ) c).arrAt 4 FfnIdeal.cfg1.N := by
  rw [res_eq, h0, h1, h2, h3, h4, h5, h6, FfnIdeal.Value.final, FfnIdeal.Value.V1_v0, FfnIdeal.Value.V1_v1, FfnIdeal.Value.V1_v2,
    FfnIdeal.Value.V1_v4, FfnIdeal.Value.V1_v6, FfnIdeal.Value.V1_v7, FfnIdeal.Value.V3_v9, FfnIdeal.Value.V3_v10]
  exact refOut_eq _ _ _ _ _ _ (fun r j => refX_at _ _ _ _ r j) (fun r j => refH_at _ _ _ (fun r j => refX_at _ _ _ _ r j) r j)

/-- Kernel and reference end with the same result from arguments that agree. -/
theorem algebraic : Cert.algebraic_FfnIdeal_FfnRefIdeal := by
  intro m g m' g' _ hagree
  refine ⟨fun c => (FfnIdeal.Gen.dat1 (FfnIdeal.Gen.V3 m g) c).arrAt 4 FfnIdeal.cfg1.N,
    (θ_run _ _ _).mono (fun _ h c => h.1 c) (FfnIdeal.Value.run_value m g),
    (θ_run _ _ _).mono (fun _ h c => ?_) (run m' g')⟩
  obtain ⟨a0, a1, a2, a3, a4, a5, a6⟩ := hagree c
  exact ⟨(h c).1.trans (kernel_eq m g c m' a0 a1 a2 a3 a4 a5 a6), (h c).2⟩

end Cert.FfnRefIdeal.Value

end
-- ==== Proof.GlaTrip.lean ====
module

public import proofs.«01_k».proof.Proof.Gen.GlaIdeal.Loops
public import proofs.«01_k».proof.Proof.Gen.GlaIdeal.Skeleton
public import Idealize.ShloMosaic.Lib.Pipeline.Kit

@[expose] public section

set_option maxRecDepth 16384
set_option maxHeartbeats 4000000

noncomputable section

namespace Cert.GlaIdeal.Value

open Idealize.ShloMosaic Idealize.ShloMosaic.TcCoe Idealize.ShloMosaic.Tactic
open Cert.GlaIdeal Cert.GlaIdeal.Gen
open Idealize.SL Idealize.SL.Sem

variable {F : FTy → Type} [FloatOps F]

/-! ## One chunk of one head, as vector operations -/

/-- The last row of a chunk's cumulative log decay. -/
def lastV (b : Vec F S1x64x128 .f32) : FVec F S1x128 .f32 :=
  extractStridedSlice S1x128 ![63, 0] (shapeCast S64x128 b shapeCasts_S1x64x128_S64x128) slices_S64x128_o63_0_S1x128

/-- Queries scaled by the exponential of the cumulative log decay. -/
def qdV (b q : Vec F S1x64x128 .f32) : FVec F S64x128 .bf16 :=
  truncf .bf16 (mulf (shapeCast S64x128 q shapeCasts_S1x64x128_S64x128) (exp (shapeCast S64x128 b shapeCasts_S1x64x128_S64x128))) bitsLt_bf16_f32

/-- Keys scaled by the exponential of minus the cumulative log decay. -/
def kiV (b k : Vec F S1x64x128 .f32) : FVec F S64x128 .bf16 :=
  truncf .bf16 (mulf (shapeCast S64x128 k shapeCasts_S1x64x128_S64x128)
    (exp (subf (broadcast S64x128 (Scalar.ofBits .f32 0x00000000#32)) (shapeCast S64x128 b shapeCasts_S1x64x128_S64x128)))) bitsLt_bf16_f32

/-- Keys decayed to the end of the chunk. -/
def keV (b k : Vec F S1x64x128 .f32) : FVec F S64x128 .bf16 :=
  truncf .bf16 (mulf (shapeCast S64x128 k shapeCasts_S1x64x128_S64x128)
    (exp (subf (broadcastTo S64x128 (lastV b) broadcasts_S1x128_S64x128) (shapeCast S64x128 b shapeCasts_S1x64x128_S64x128)))) bitsLt_bf16_f32

/-- The causal scores within a chunk. -/
def attV (b q k : Vec F S1x64x128 .f32) : FVec F S64x64 .bf16 :=
  truncf .bf16 (select (cmpi .sle (iota .tc S64x64 32 [1] iota_S64x64_d1_w32) (iota .tc S64x64 32 [0] iota_S64x64_d0_w32))
    (matmul dot_S64x128_S64x128_S64x64_1_1_0_0_n_n none (qdV b q) (kiV b k) (constant S64x64 .f32 0x00000000#32))
    (broadcast S64x64 (Scalar.ofBits .f32 0x00000000#32))) bitsLt_bf16_f32

/-- What a chunk adds to the (transposed) state. -/
def delV (b k : Vec F S1x64x128 .f32) (v : Vec F S1x64x256 .bf16) : FVec F S256x128 .f32 :=
  matmul dot_S64x256_S64x128_S256x128_0_0_1_1_n_n none (shapeCast S64x256 v shapeCasts_S1x64x256_S64x256) (keV b k) (constant S256x128 .f32 0x00000000#32)

/-- The (transposed) state after a chunk. -/
def stepV (b k : Vec F S1x64x128 .f32) (v : Vec F S1x64x256 .bf16) (s : FVec F S256x128 .f32) : FVec F S256x128 .f32 :=
  addf (mulf s (broadcastTo S256x128 (exp (lastV b)) broadcasts_S1x128_S256x128)) (delV b k v)

/-- A chunk's attention output: within the chunk, and from the state before it. -/
def oV (b q k : Vec F S1x64x128 .f32) (v : Vec F S1x64x256 .bf16) (s : FVec F S256x128 .f32) : FVec F S64x256 .f32 :=
  addf (matmul dot_S64x64_S64x256_S64x256_1_0_0_1_n_n none (attV b q k) (shapeCast S64x256 v shapeCasts_S1x64x256_S64x256) (constant S64x256 .f32 0x00000000#32))
    (matmul dot_S64x128_S256x128_S64x256_1_1_0_0_n_n none (qdV b q) (truncf .bf16 s bitsLt_bf16_f32) (constant S64x256 .f32 0x00000000#32))

/-- A chunk's output normalised and scaled. -/
def nV (o : FVec F S64x256 .f32) (g : Vec F S1x1x256 .f32) : FVec F S64x256 .f32 :=
  mulf (mulf o (broadcastTo S64x256 (rsqrt (addf (divf
      (shapeCast S64x1 (multiReduction .add [1] S64 (mulf o o) 0x00000000#32 reduces_S64x256_S64 (.inl rfl) rfl) shapeCasts_S64_S64x1)
      (broadcast S64x1 (Scalar.ofBits .f32 0x43800000#32))) (broadcast S64x1 (Scalar.ofBits .f32 0x358637BD#32)))) broadcasts_S64x1_S64x256))
    (broadcastTo S64x256 (shapeCast S1x256 g shapeCasts_S1x1x256_S1x256) broadcasts_S1x256_S64x256)

/-- A chunk's output as stored: normalised, scaled and gated. -/
def outV (b q k : Vec F S1x64x128 .f32) (v : Vec F S1x64x256 .bf16) (s : FVec F S256x128 .f32) (g : Vec F S1x1x256 .f32)
    (rb : Vec F S1x64x256 .f32) : FVec F S1x64x256 .bf16 :=
  shapeCast S1x64x256 (truncf .bf16 (mulf (nV (oV b q k v s) g)
    (mulf (shapeCast S64x256 rb shapeCasts_S1x64x256_S64x256) (logistic (shapeCast S64x256 rb shapeCasts_S1x64x256_S64x256)))) bitsLt_bf16_f32)
    shapeCasts_S64x256_S1x64x256

/-- The state after `u` chunks of a group. -/
def advV (b k : ℕ → Vec F S1x64x128 .f32) (v : ℕ → Vec F S1x64x256 .bf16) (s : FVec F S256x128 .f32) : ℕ → FVec F S256x128 .f32
  | 0 => s
  | u + 1 => stepV (b u) (k u) (v u) (advV b k v s u)

/-! ## What a trip of the loop over groups of eight chunks stores -/

/-- The loads of chunk `u` of trip `k` for head 0 and head 1 of the pair: 128 columns, -/
def m0 (arg : Memref sig .tc .vmem S1x2048x256 .f32) (X : BufTy.Contents (Elt F) arg.view.ty) (k : Fin k0_t1_loop.trips) (u : ℕ) : Vec F S1x64x128 .f32 :=
  View.readAt (Elt F) arg.view (Rect.unit (s := S1x2048x256) (k0_off1 k (BitVec.ofNat 32 (Fin.ofNat 8 u).val)) S1x64x128.size (k0_off1_inb k (Fin.ofNat 8 u))).toLoadRect X
def m1 (arg : Memref sig .tc .vmem S1x2048x256 .f32) (X : BufTy.Contents (Elt F) arg.view.ty) (k : Fin k0_t1_loop.trips) (u : ℕ) : Vec F S1x64x128 .f32 :=
  View.readAt (Elt F) arg.view (Rect.unit (s := S1x2048x256) (k0_off2 k (BitVec.ofNat 32 (Fin.ofNat 8 u).val)) S1x64x128.size (k0_off2_inb k (Fin.ofNat 8 u))).toLoadRect X
/-- and 256 columns. -/
def w0 {e : EltTy} (arg : Memref sig .tc .vmem S1x2048x512 e) (X : BufTy.Contents (Elt F) arg.view.ty) (k : Fin k0_t1_loop.trips) (u : ℕ) : Vec F S1x64x256 e :=
  View.readAt (Elt F) arg.view (Rect.unit (s := S1x2048x512) (k0_off3 k (BitVec.ofNat 32 (Fin.ofNat 8 u).val)) S1x64x256.size (k0_off3_inb k (Fin.ofNat 8 u))).toLoadRect X
def w1 {e : EltTy} (arg : Memref sig .tc .vmem S1x2048x512 e) (X : BufTy.Contents (Elt F) arg.view.ty) (k : Fin k0_t1_loop.trips) (u : ℕ) : Vec F S1x64x256 e :=
  View.readAt (Elt F) arg.view (Rect.unit (s := S1x2048x512) (k0_off4 k (BitVec.ofNat 32 (Fin.ofNat 8 u).val)) S1x64x256.size (k0_off4_inb k (Fin.ofNat 8 u))).toLoadRect X

/-- The state of head 0 and head 1 as the scratch buffer holds it. -/
def s0 (arg : Memref sig .tc .vmem S2x256x128 .f32) (X : BufTy.Contents (Elt F) arg.view.ty) : FVec F S256x128 .f32 :=
  shapeCast S256x128 (View.readAt (Elt F) arg.view (Rect.unit (s := S2x256x128) ![0, 0, 0] S1x256x128.size inb_S2x256x128_S1x256x128_0_0_0).toLoadRect X) shapeCasts_S1x256x128_S256x128
def s1 (arg : Memref sig .tc .vmem S2x256x128 .f32) (X : BufTy.Contents (Elt F) arg.view.ty) : FVec F S256x128 .f32 :=
  shapeCast S256x128 (View.readAt (Elt F) arg.view (Rect.unit (s := S2x256x128) ![1, 0, 0] S1x256x128.size inb_S2x256x128_S1x256x128_1_0_0).toLoadRect X) shapeCasts_S1x256x128_S256x128

/-- The trip stores, per head, the state eight chunks further on. -/
theorem trip_state  (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .bf16) (harg5 : arg5.IsWhole) (arg6 : Memref sig .tc .vmem S1x2048x512 .f32) (harg6 : arg6.IsWhole) (arg7 : Memref sig .tc .vmem S2x1x256 .f32) (harg7 : arg7.IsWhole) (arg8 : Memref sig .tc .vmem S1x2x128x256 .f32) (harg8 : arg8.IsWhole) (arg9 : Memref sig .tc .vmem S1x2048x512 .bf16) (harg9 : arg9.IsWhole) (arg10 : Memref sig .tc .vmem S1x2x128x256 .f32) (harg10 : arg10.IsWhole) (arg11 : Memref sig .tc .vmem S2x256x128 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)
    (f9 : BufTy.Contents (Elt F) arg9.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 k).2.1 f9 f11 =
     [⟨Rect.unit (s := S2x256x128) ![1, 0, 0] S1x256x128.size inb_S2x256x128_S1x256x128_1_0_0,
        shapeCast S1x256x128 (advV (m1 arg4 X_arg4 k) (m1 arg3 X_arg3 k) (w1 arg5 X_arg5 k) (s1 arg11 f11) 8) shapeCasts_S256x128_S1x256x128⟩,
      ⟨Rect.unit (s := S2x256x128) ![0, 0, 0] S1x256x128.size inb_S2x256x128_S1x256x128_0_0_0,
        shapeCast S1x256x128 (advV (m0 arg4 X_arg4 k) (m0 arg3 X_arg3 k) (w0 arg5 X_arg5 k) (s0 arg11 f11) 8) shapeCasts_S256x128_S1x256x128⟩] := by
  unfold trip_k0_t1
  rfl

/-- The trip stores the outputs of eight chunks of either head. -/
theorem trip_out  (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .bf16) (harg5 : arg5.IsWhole) (arg6 : Memref sig .tc .vmem S1x2048x512 .f32) (harg6 : arg6.IsWhole) (arg7 : Memref sig .tc .vmem S2x1x256 .f32) (harg7 : arg7.IsWhole) (arg8 : Memref sig .tc .vmem S1x2x128x256 .f32) (harg8 : arg8.IsWhole) (arg9 : Memref sig .tc .vmem S1x2048x512 .bf16) (harg9 : arg9.IsWhole) (arg10 : Memref sig .tc .vmem S1x2x128x256 .f32) (harg10 : arg10.IsWhole) (arg11 : Memref sig .tc .vmem S2x256x128 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)
    (f9 : BufTy.Contents (Elt F) arg9.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 k).1 f9 f11 =
     [⟨Rect.unit (s := S1x2048x512) (k0_off4 k (BitVec.ofNat 32 (Fin.ofNat 8 7).val)) S1x64x256.size (k0_off4_inb k (Fin.ofNat 8 7)),
        outV (m1 arg4 X_arg4 k 7) (m1 arg2 X_arg2 k 7) (m1 arg3 X_arg3 k 7) (w1 arg5 X_arg5 k 7)
          (advV (m1 arg4 X_arg4 k) (m1 arg3 X_arg3 k) (w1 arg5 X_arg5 k) (s1 arg11 f11) 7) (View.readAt (Elt F) arg7.view (Rect.unit (s := S2x1x256) ![1, 0, 0] S1x1x256.size inb_S2x1x256_S1x1x256_1_0_0).toLoadRect X_arg7) (w1 arg6 X_arg6 k 7)⟩,
      ⟨Rect.unit (s := S1x2048x512) (k0_off4 k (BitVec.ofNat 32 (Fin.ofNat 8 6).val)) S1x64x256.size (k0_off4_inb k (Fin.ofNat 8 6)),
        outV (m1 arg4 X_arg4 k 6) (m1 arg2 X_arg2 k 6) (m1 arg3 X_arg3 k 6) (w1 arg5 X_arg5 k 6)
          (advV (m1 arg4 X_arg4 k) (m1 arg3 X_arg3 k) (w1 arg5 X_arg5 k) (s1 arg11 f11) 6) (View.readAt (Elt F) arg7.view (Rect.unit (s := S2x1x256) ![1, 0, 0] S1x1x256.size inb_S2x1x256_S1x1x256_1_0_0).toLoadRect X_arg7) (w1 arg6 X_arg6 k 6)⟩,
      ⟨Rect.unit (s := S1x2048x512) (k0_off4 k (BitVec.ofNat 32 (Fin.ofNat 8 5).val)) S1x64x256.size (k0_off4_inb k (Fin.ofNat 8 5)),
        outV (m1 arg4 X_arg4 k 5) (m1 arg2 X_arg2 k 5) (m1 arg3 X_arg3 k 5) (w1 arg5 X_arg5 k 5)
          (advV (m1 arg4 X_arg4 k) (m1 arg3 X_arg3 k) (w1 arg5 X_arg5 k) (s1 arg11 f11) 5) (View.readAt (Elt F) arg7.view (Rect.unit (s := S2x1x256) ![1, 0, 0] S1x1x256.size inb_S2x1x256_S1x1x256_1_0_0).toLoadRect X_arg7) (w1 arg6 X_arg6 k 5)⟩,
      ⟨Rect.unit (s := S1x2048x512) (k0_off4 k (BitVec.ofNat 32 (Fin.ofNat 8 4).val)) S1x64x256.size (k0_off4_inb k (Fin.ofNat 8 4)),
        outV (m1 arg4 X_arg4 k 4) (m1 arg2 X_arg2 k 4) (m1 arg3 X_arg3 k 4) (w1 arg5 X_arg5 k 4)
          (advV (m1 arg4 X_arg4 k) (m1 arg3 X_arg3 k) (w1 arg5 X_arg5 k) (s1 arg11 f11) 4) (View.readAt (Elt F) arg7.view (Rect.unit (s := S2x1x256) ![1, 0, 0] S1x1x256.size inb_S2x1x256_S1x1x256_1_0_0).toLoadRect X_arg7) (w1 arg6 X_arg6 k 4)⟩,
      ⟨Rect.unit (s := S1x2048x512) (k0_off4 k (BitVec.ofNat 32 (Fin.ofNat 8 3).val)) S1x64x256.size (k0_off4_inb k (Fin.ofNat 8 3)),
        outV (m1 arg4 X_arg4 k 3) (m1 arg2 X_arg2 k 3) (m1 arg3 X_arg3 k 3) (w1 arg5 X_arg5 k 3)
          (advV (m1 arg4 X_arg4 k) (m1 arg3 X_arg3 k) (w1 arg5 X_arg5 k) (s1 arg11 f11) 3) (View.readAt (Elt F) arg7.view (Rect.unit (s := S2x1x256) ![1, 0, 0] S1x1x256.size inb_S2x1x256_S1x1x256_1_0_0).toLoadRect X_arg7) (w1 arg6 X_arg6 k 3)⟩,
      ⟨Rect.unit (s := S1x2048x512) (k0_off4 k (BitVec.ofNat 32 (Fin.ofNat 8 2).val)) S1x64x256.size (k0_off4_inb k (Fin.ofNat 8 2)),
        outV (m1 arg4 X_arg4 k 2) (m1 arg2 X_arg2 k 2) (m1 arg3 X_arg3 k 2) (w1 arg5 X_arg5 k 2)
          (advV (m1 arg4 X_arg4 k) (m1 arg3 X_arg3 k) (w1 arg5 X_arg5 k) (s1 arg11 f11) 2) (View.readAt (Elt F) arg7.view (Rect.unit (s := S2x1x256) ![1, 0, 0] S1x1x256.size inb_S2x1x256_S1x1x256_1_0_0).toLoadRect X_arg7) (w1 arg6 X_arg6 k 2)⟩,
      ⟨Rect.unit (s := S1x2048x512) (k0_off4 k (BitVec.ofNat 32 (Fin.ofNat 8 1).val)) S1x64x256.size (k0_off4_inb k (Fin.ofNat 8 1)),
        outV (m1 arg4 X_arg4 k 1) (m1 arg2 X_arg2 k 1) (m1 arg3 X_arg3 k 1) (w1 arg5 X_arg5 k 1)
          (advV (m1 arg4 X_arg4 k) (m1 arg3 X_arg3 k) (w1 arg5 X_arg5 k) (s1 arg11 f11) 1) (View.readAt (Elt F) arg7.view (Rect.unit (s := S2x1x256) ![1, 0, 0] S1x1x256.size inb_S2x1x256_S1x1x256_1_0_0).toLoadRect X_arg7) (w1 arg6 X_arg6 k 1)⟩,
      ⟨Rect.unit (s := S1x2048x512) (k0_off4 k (BitVec.ofNat 32 (Fin.ofNat 8 0).val)) S1x64x256.size (k0_off4_inb k (Fin.ofNat 8 0)),
        outV (m1 arg4 X_arg4 k 0) (m1 arg2 X_arg2 k 0) (m1 arg3 X_arg3 k 0) (w1 arg5 X_arg5 k 0)
          (advV (m1 arg4 X_arg4 k) (m1 arg3 X_arg3 k) (w1 arg5 X_arg5 k) (s1 arg11 f11) 0) (View.readAt (Elt F) arg7.view (Rect.unit (s := S2x1x256) ![1, 0, 0] S1x1x256.size inb_S2x1x256_S1x1x256_1_0_0).toLoadRect X_arg7) (w1 arg6 X_arg6 k 0)⟩,
      ⟨Rect.unit (s := S1x2048x512) (k0_off3 k (BitVec.ofNat 32 (Fin.ofNat 8 7).val)) S1x64x256.size (k0_off3_inb k (Fin.ofNat 8 7)),
        outV (m0 arg4 X_arg4 k 7) (m0 arg2 X_arg2 k 7) (m0 arg3 X_arg3 k 7) (w0 arg5 X_arg5 k 7)
          (advV (m0 arg4 X_arg4 k) (m0 arg3 X_arg3 k) (w0 arg5 X_arg5 k) (s0 arg11 f11) 7) (View.readAt (Elt F) arg7.view (Rect.unit (s := S2x1x256) ![0, 0, 0] S1x1x256.size inb_S2x1x256_S1x1x256_0_0_0).toLoadRect X_arg7) (w0 arg6 X_arg6 k 7)⟩,
      ⟨Rect.unit (s := S1x2048x512) (k0_off3 k (BitVec.ofNat 32 (Fin.ofNat 8 6).val)) S1x64x256.size (k0_off3_inb k (Fin.ofNat 8 6)),
        outV (m0 arg4 X_arg4 k 6) (m0 arg2 X_arg2 k 6) (m0 arg3 X_arg3 k 6) (w0 arg5 X_arg5 k 6)
          (advV (m0 arg4 X_arg4 k) (m0 arg3 X_arg3 k) (w0 arg5 X_arg5 k) (s0 arg11 f11) 6) (View.readAt (Elt F) arg7.view (Rect.unit (s := S2x1x256) ![0, 0, 0] S1x1x256.size inb_S2x1x256_S1x1x256_0_0_0).toLoadRect X_arg7) (w0 arg6 X_arg6 k 6)⟩,
      ⟨Rect.unit (s := S1x2048x512) (k0_off3 k (BitVec.ofNat 32 (Fin.ofNat 8 5).val)) S1x64x256.size (k0_off3_inb k (Fin.ofNat 8 5)),
        outV (m0 arg4 X_arg4 k 5) (m0 arg2 X_arg2 k 5) (m0 arg3 X_arg3 k 5) (w0 arg5 X_arg5 k 5)
          (advV (m0 arg4 X_arg4 k) (m0 arg3 X_arg3 k) (w0 arg5 X_arg5 k) (s0 arg11 f11) 5) (View.readAt (Elt F) arg7.view (Rect.unit (s := S2x1x256) ![0, 0, 0] S1x1x256.size inb_S2x1x256_S1x1x256_0_0_0).toLoadRect X_arg7) (w0 arg6 X_arg6 k 5)⟩,
      ⟨Rect.unit (s := S1x2048x512) (k0_off3 k (BitVec.ofNat 32 (Fin.ofNat 8 4).val)) S1x64x256.size (k0_off3_inb k (Fin.ofNat 8 4)),
        outV (m0 arg4 X_arg4 k 4) (m0 arg2 X_arg2 k 4) (m0 arg3 X_arg3 k 4) (w0 arg5 X_arg5 k 4)
          (advV (m0 arg4 X_arg4 k) (m0 arg3 X_arg3 k) (w0 arg5 X_arg5 k) (s0 arg11 f11) 4) (View.readAt (Elt F) arg7.view (Rect.unit (s := S2x1x256) ![0, 0, 0] S1x1x256.size inb_S2x1x256_S1x1x256_0_0_0).toLoadRect X_arg7) (w0 arg6 X_arg6 k 4)⟩,
      ⟨Rect.unit (s := S1x2048x512) (k0_off3 k (BitVec.ofNat 32 (Fin.ofNat 8 3).val)) S1x64x256.size (k0_off3_inb k (Fin.ofNat 8 3)),
        outV (m0 arg4 X_arg4 k 3) (m0 arg2 X_arg2 k 3) (m0 arg3 X_arg3 k 3) (w0 arg5 X_arg5 k 3)
          (advV (m0 arg4 X_arg4 k) (m0 arg3 X_arg3 k) (w0 arg5 X_arg5 k) (s0 arg11 f11) 3) (View.readAt (Elt F) arg7.view (Rect.unit (s := S2x1x256) ![0, 0, 0] S1x1x256.size inb_S2x1x256_S1x1x256_0_0_0).toLoadRect X_arg7) (w0 arg6 X_arg6 k 3)⟩,
      ⟨Rect.unit (s := S1x2048x512) (k0_off3 k (BitVec.ofNat 32 (Fin.ofNat 8 2).val)) S1x64x256.size (k0_off3_inb k (Fin.ofNat 8 2)),
        outV (m0 arg4 X_arg4 k 2) (m0 arg2 X_arg2 k 2) (m0 arg3 X_arg3 k 2) (w0 arg5 X_arg5 k 2)
          (advV (m0 arg4 X_arg4 k) (m0 arg3 X_arg3 k) (w0 arg5 X_arg5 k) (s0 arg11 f11) 2) (View.readAt (Elt F) arg7.view (Rect.unit (s := S2x1x256) ![0, 0, 0] S1x1x256.size inb_S2x1x256_S1x1x256_0_0_0).toLoadRect X_arg7) (w0 arg6 X_arg6 k 2)⟩,
      ⟨Rect.unit (s := S1x2048x512) (k0_off3 k (BitVec.ofNat 32 (Fin.ofNat 8 1).val)) S1x64x256.size (k0_off3_inb k (Fin.ofNat 8 1)),
        outV (m0 arg4 X_arg4 k 1) (m0 arg2 X_arg2 k 1) (m0 arg3 X_arg3 k 1) (w0 arg5 X_arg5 k 1)
          (advV (m0 arg4 X_arg4 k) (m0 arg3 X_arg3 k) (w0 arg5 X_arg5 k) (s0 arg11 f11) 1) (View.readAt (Elt F) arg7.view (Rect.unit (s := S2x1x256) ![0, 0, 0] S1x1x256.size inb_S2x1x256_S1x1x256_0_0_0).toLoadRect X_arg7) (w0 arg6 X_arg6 k 1)⟩,
      ⟨Rect.unit (s := S1x2048x512) (k0_off3 k (BitVec.ofNat 32 (Fin.ofNat 8 0).val)) S1x64x256.size (k0_off3_inb k (Fin.ofNat 8 0)),
        outV (m0 arg4 X_arg4 k 0) (m0 arg2 X_arg2 k 0) (m0 arg3 X_arg3 k 0) (w0 arg5 X_arg5 k 0)
          (advV (m0 arg4 X_arg4 k) (m0 arg3 X_arg3 k) (w0 arg5 X_arg5 k) (s0 arg11 f11) 0) (View.readAt (Elt F) arg7.view (Rect.unit (s := S2x1x256) ![0, 0, 0] S1x1x256.size inb_S2x1x256_S1x1x256_0_0_0).toLoadRect X_arg7) (w0 arg6 X_arg6 k 0)⟩] := by
  unfold trip_k0_t1
  rfl

end Cert.GlaIdeal.Value

end
-- ==== Proof.GlaBlock.lean ====
module

public import proofs.«01_k».proof.Proof.GlaTrip
public import Idealize.ShloMosaic.Lib.Pipeline.ValueKit
public import Idealize.ShloMosaic.Lib.Pointwise
public import Idealize.ShloMosaic.Lib.WritesUnit

@[expose] public section

set_option maxRecDepth 16384

noncomputable section

namespace Cert.GlaIdeal.Value

open Idealize.ShloMosaic Idealize.ShloMosaic.TcCoe
open Cert.GlaIdeal Cert.GlaIdeal.Gen
open Idealize.SL Idealize.SL.Sem

variable {F : FTy → Type} [FloatOps F]

/-! ## A block's chunks -/

/-- Chunk `n` (64 rows) of head `hd` of the pair: 128 columns of a block, -/
def cA (x : Vec F S1x2048x256 .f32) (hd : Fin 2) (n : ℕ) : Vec F S1x64x128 .f32 :=
  View.ld x (Rect.unit (s := S1x2048x256) ![0, 64 * (n % 32), 128 * hd.val] S1x64x128.size
    (by have := hd.isLt; have := Nat.mod_lt n (show 0 < 32 by decide); intro a; fin_cases a <;> simp <;> omega))

/-- and 256 columns of one. -/
def cB {e : EltTy} (x : Vec F S1x2048x512 e) (hd : Fin 2) (n : ℕ) : Vec F S1x64x256 e :=
  View.ld x (Rect.unit (s := S1x2048x512) ![0, 64 * (n % 32), 256 * hd.val] S1x64x256.size
    (by have := hd.isLt; have := Nat.mod_lt n (show 0 < 32 by decide); intro a; fin_cases a <;> simp <;> omega))

/-- The norm's scale for head `hd` of the pair. -/
def cG (x : Vec F S2x1x256 .f32) (hd : Fin 2) : Vec F S1x1x256 .f32 :=
  View.ld x (Rect.unit (s := S2x1x256) ![hd.val, 0, 0] S1x1x256.size
    (by have := hd.isLt; intro a; fin_cases a <;> simp <;> omega))

/-- The incoming state of head `hd`, transposed. -/
def cS (x : Vec F S1x2x128x256 .f32) (hd : Fin 2) : FVec F S256x128 .f32 :=
  transpose S256x128 [1, 0] (shapeCast S128x256 (View.ld x (Rect.unit (s := S1x2x128x256) ![0, hd.val, 0, 0] S1x1x128x256.size
    (by have := hd.isLt; intro a; fin_cases a <;> simp <;> omega))) shapeCasts_S1x1x128x256_S128x256) transposes_S128x256_p1_0_S256x128

/-- The transposed state of head `hd` before chunk `n`. -/
def SV (x1 x2 : Vec F S1x2048x256 .f32) (x3 : Vec F S1x2048x512 .bf16) (x6 : Vec F S1x2x128x256 .f32) (hd : Fin 2) (n : ℕ) : FVec F S256x128 .f32 :=
  advV (cA x2 hd) (cA x1 hd) (cB x3 hd) (cS x6 hd) n

/-- The stored output of chunk `n` of head `hd`. -/
def OV (x0 x1 x2 : Vec F S1x2048x256 .f32) (x3 : Vec F S1x2048x512 .bf16) (x4 : Vec F S1x2048x512 .f32) (x5 : Vec F S2x1x256 .f32)
    (x6 : Vec F S1x2x128x256 .f32) (hd : Fin 2) (n : ℕ) : FVec F S1x64x256 .bf16 :=
  outV (cA x2 hd n) (cA x0 hd n) (cA x1 hd n) (cB x3 hd n) (SV x1 x2 x3 x6 hd n) (cG x5 hd) (cB x4 hd n)

/-- The block of outputs: row `r` is row `r % 64` of chunk `r / 64`, column `l` column `l % 256` of head `l / 256`. -/
def OUT9 (x0 x1 x2 : Vec F S1x2048x256 .f32) (x3 : Vec F S1x2048x512 .bf16) (x4 : Vec F S1x2048x512 .f32) (x5 : Vec F S2x1x256 .f32)
    (x6 : Vec F S1x2x128x256 .f32) : Vec F S1x2048x512 .bf16 := fun y =>
  OV x0 x1 x2 x3 x4 x5 x6 ⟨(y 2).val / 256, by have : (y 2).val < 512 := (y 2).isLt; omega⟩ ((y 1).val / 64)
    (ix3 0 ⟨(y 1).val % 64, Nat.mod_lt _ (by decide)⟩ ⟨(y 2).val % 256, Nat.mod_lt _ (by decide)⟩)

/-- The block of final states. -/
def OUT10 (x1 x2 : Vec F S1x2048x256 .f32) (x3 : Vec F S1x2048x512 .bf16) (x6 : Vec F S1x2x128x256 .f32) : Vec F S1x2x128x256 .f32 := fun y =>
  SV x1 x2 x3 x6 (y 1) 32 (ix2 (y 3) (y 2))

/-! ## The loads are the chunks -/

theorem off1_eq : ∀ k : Fin k0_t1_loop.trips, ∀ r : Fin 8, k0_off1 k (BitVec.ofNat 32 r.val) = ![0, 64 * (8 * k.val + r.val), 0] := by decide +kernel
theorem off2_eq : ∀ k : Fin k0_t1_loop.trips, ∀ r : Fin 8, k0_off2 k (BitVec.ofNat 32 r.val) = ![0, 64 * (8 * k.val + r.val), 128] := by decide +kernel
theorem off3_eq : ∀ k : Fin k0_t1_loop.trips, ∀ r : Fin 8, k0_off3 k (BitVec.ofNat 32 r.val) = ![0, 64 * (8 * k.val + r.val), 0] := by decide +kernel
theorem off4_eq : ∀ k : Fin k0_t1_loop.trips, ∀ r : Fin 8, k0_off4 k (BitVec.ofNat 32 r.val) = ![0, 64 * (8 * k.val + r.val), 256] := by decide +kernel
theorem trips_eq : k0_t1_loop.trips = 4 := by decide +kernel

theorem mod32 (k : Fin k0_t1_loop.trips) (r : Fin 8) : (8 * k.val + r.val) % 32 = 8 * k.val + r.val := by
  have := lt_of_lt_of_eq k.isLt trips_eq
  have := r.isLt
  omega

theorem ofNat8 {u : ℕ} (h : u < 8) : (Fin.ofNat 8 u).val = u := Nat.mod_eq_of_lt h

theorem m0_unread {arg : Memref sig .tc .vmem S1x2048x256 .f32} (h : arg.IsWhole) (x : Vec F S1x2048x256 .f32) (k : Fin k0_t1_loop.trips) (u : ℕ) (hu : u < 8) :
    m0 arg (h.unread x) k u = cA x 0 (8 * k.val + u) := by
  unfold m0 cA
  rw [View.readAt_eq_ld, h.read_unread]
  refine funext fun y => congrArg x (funext fun a => Fin.ext ?_)
  have h2 := mod32 k (Fin.ofNat 8 u)
  have h1 : k0_off1 k (BitVec.ofNat 32 (Fin.ofNat 8 u).val) = ![0, 64 * ((8 * k.val + u) % 32), 128 * (0 : Fin 2).val] :=
    (off1_eq k (Fin.ofNat 8 u)).trans (by rw [ofNat8 hu] at h2 ⊢; rw [h2]; rfl)
  exact (Rect.idx_unit_val _ _ _ _ _).trans ((congrArg (· + (y a).val) (congrFun h1 a)).trans (Rect.idx_unit_val _ _ _ _ _).symm)
theorem m1_unread {arg : Memref sig .tc .vmem S1x2048x256 .f32} (h : arg.IsWhole) (x : Vec F S1x2048x256 .f32) (k : Fin k0_t1_loop.trips) (u : ℕ) (hu : u < 8) :
    m1 arg (h.unread x) k u = cA x 1 (8 * k.val + u) := by
  unfold m1 cA
  rw [View.readAt_eq_ld, h.read_unread]
  refine funext fun y => congrArg x (funext fun a => Fin.ext ?_)
  have h2 := mod32 k (Fin.ofNat 8 u)
  have h1 : k0_off2 k (BitVec.ofNat 32 (Fin.ofNat 8 u).val) = ![0, 64 * ((8 * k.val + u) % 32), 128 * (1 : Fin 2).val] :=
    (off2_eq k (Fin.ofNat 8 u)).trans (by rw [ofNat8 hu] at h2 ⊢; rw [h2]; rfl)
  exact (Rect.idx_unit_val _ _ _ _ _).trans ((congrArg (· + (y a).val) (congrFun h1 a)).trans (Rect.idx_unit_val _ _ _ _ _).symm)
theorem w0_unread {e : EltTy} {arg : Memref sig .tc .vmem S1x2048x512 e} (h : arg.IsWhole) (x : Vec F S1x2048x512 e) (k : Fin k0_t1_loop.trips) (u : ℕ) (hu : u < 8) :
    w0 arg (h.unread x) k u = cB x 0 (8 * k.val + u) := by
  unfold w0 cB
  rw [View.readAt_eq_ld, h.read_unread]
  refine funext fun y => congrArg x (funext fun a => Fin.ext ?_)
  have h2 := mod32 k (Fin.ofNat 8 u)
  have h1 : k0_off3 k (BitVec.ofNat 32 (Fin.ofNat 8 u).val) = ![0, 64 * ((8 * k.val + u) % 32), 256 * (0 : Fin 2).val] :=
    (off3_eq k (Fin.ofNat 8 u)).trans (by rw [ofNat8 hu] at h2 ⊢; rw [h2]; rfl)
  exact (Rect.idx_unit_val _ _ _ _ _).trans ((congrArg (· + (y a).val) (congrFun h1 a)).trans (Rect.idx_unit_val _ _ _ _ _).symm)
theorem w1_unread {e : EltTy} {arg : Memref sig .tc .vmem S1x2048x512 e} (h : arg.IsWhole) (x : Vec F S1x2048x512 e) (k : Fin k0_t1_loop.trips) (u : ℕ) (hu : u < 8) :
    w1 arg (h.unread x) k u = cB x 1 (8 * k.val + u) := by
  unfold w1 cB
  rw [View.readAt_eq_ld, h.read_unread]
  refine funext fun y => congrArg x (funext fun a => Fin.ext ?_)
  have h2 := mod32 k (Fin.ofNat 8 u)
  have h1 : k0_off4 k (BitVec.ofNat 32 (Fin.ofNat 8 u).val) = ![0, 64 * ((8 * k.val + u) % 32), 256 * (1 : Fin 2).val] :=
    (off4_eq k (Fin.ofNat 8 u)).trans (by rw [ofNat8 hu] at h2 ⊢; rw [h2]; rfl)
  exact (Rect.idx_unit_val _ _ _ _ _).trans ((congrArg (· + (y a).val) (congrFun h1 a)).trans (Rect.idx_unit_val _ _ _ _ _).symm)

/-- The group's steps continue the block's. -/
theorem advV_add (b k b' k' : ℕ → Vec F S1x64x128 .f32) (v v' : ℕ → Vec F S1x64x256 .bf16) (s : FVec F S256x128 .f32) (n : ℕ) (w : ℕ)
    (hb : ∀ u < w, b' u = b (n + u)) (hk : ∀ u < w, k' u = k (n + u)) (hv : ∀ u < w, v' u = v (n + u)) :
    advV b' k' v' (advV b k v s n) w = advV b k v s (n + w) := by
  induction w with
  | zero => rfl
  | succ w ih =>
    rw [advV, ih (fun u hu => hb u (by omega)) (fun u hu => hk u (by omega)) (fun u hu => hv u (by omega)),
      hb w (by omega), hk w (by omega), hv w (by omega)]
    rfl

/-! ## The scratch buffer -/

/-- Two stores, one per head, read back. -/
theorem s0_writes (arg : Memref sig .tc .vmem S2x256x128 .f32) (f : BufTy.Contents (Elt F) arg.view.ty) (a b : FVec F S256x128 .f32) :
    s0 arg (arg.view.writes (Elt F) f
      [⟨Rect.unit (s := S2x256x128) ![1, 0, 0] S1x256x128.size inb_S2x256x128_S1x256x128_1_0_0, shapeCast S1x256x128 b shapeCasts_S256x128_S1x256x128⟩,
       ⟨Rect.unit (s := S2x256x128) ![0, 0, 0] S1x256x128.size inb_S2x256x128_S1x256x128_0_0_0, shapeCast S1x256x128 a shapeCasts_S256x128_S1x256x128⟩]) = a := by
  unfold s0
  refine Eq.trans (congrArg (shapeCast S256x128 · shapeCasts_S1x256x128_S256x128) ?_) (shapeCast_shapeCast a shapeCasts_S256x128_S1x256x128 shapeCasts_S1x256x128_S256x128)
  funext y
  rw [View.readAt_eq_ld]
  show View.read (Elt F) arg.view _ _ = _
  rw [View.read_writes_cons_unit_of_not_mem arg.view f _ _ _ _ rfl 0 (Or.inl (by
    rw [Rect.idx_unit_val]
    have : (y 0).val < 1 := (y 0).isLt
    show 0 + (y 0).val < 1
    omega))]
  exact View.read_writes_cons_unit_of_mem arg.view f _ _ _ _ y rfl fun a => by rw [Rect.idx_unit_val]

theorem s1_writes (arg : Memref sig .tc .vmem S2x256x128 .f32) (f : BufTy.Contents (Elt F) arg.view.ty) (b : FVec F S256x128 .f32)
    (L : List (View.Piece (Elt F) S2x256x128 .f32)) :
    s1 arg (arg.view.writes (Elt F) f
      (⟨Rect.unit (s := S2x256x128) ![1, 0, 0] S1x256x128.size inb_S2x256x128_S1x256x128_1_0_0, shapeCast S1x256x128 b shapeCasts_S256x128_S1x256x128⟩ :: L)) = b := by
  unfold s1
  refine Eq.trans (congrArg (shapeCast S256x128 · shapeCasts_S1x256x128_S256x128) ?_) (shapeCast_shapeCast b shapeCasts_S256x128_S1x256x128 shapeCasts_S1x256x128_S256x128)
  funext y
  rw [View.readAt_eq_ld]
  exact View.read_writes_cons_unit_of_mem arg.view f _ _ _ _ y rfl fun a => by rw [Rect.idx_unit_val]

theorem mem16 {α : Type _} (P1 P0 : ℕ → α) (x : α) :
    x ∈ [P1 7, P1 6, P1 5, P1 4, P1 3, P1 2, P1 1, P1 0, P0 7, P0 6, P0 5, P0 4, P0 3, P0 2, P0 1, P0 0]
      ↔ ∃ u : ℕ, u < 8 ∧ (x = P1 u ∨ x = P0 u) := by
  simp only [List.mem_cons, List.not_mem_nil, or_false]
  constructor
  · rintro (h | h | h | h | h | h | h | h | h | h | h | h | h | h | h | h)
    exacts [⟨7, by decide, .inl h⟩, ⟨6, by decide, .inl h⟩, ⟨5, by decide, .inl h⟩, ⟨4, by decide, .inl h⟩, ⟨3, by decide, .inl h⟩, ⟨2, by decide, .inl h⟩,
      ⟨1, by decide, .inl h⟩, ⟨0, by decide, .inl h⟩, ⟨7, by decide, .inr h⟩, ⟨6, by decide, .inr h⟩, ⟨5, by decide, .inr h⟩, ⟨4, by decide, .inr h⟩,
      ⟨3, by decide, .inr h⟩, ⟨2, by decide, .inr h⟩, ⟨1, by decide, .inr h⟩, ⟨0, by decide, .inr h⟩]
  · rintro ⟨u, hu, h⟩
    have : u = 0 ∨ u = 1 ∨ u = 2 ∨ u = 3 ∨ u = 4 ∨ u = 5 ∨ u = 6 ∨ u = 7 := by omega
    rcases this with rfl | rfl | rfl | rfl | rfl | rfl | rfl | rfl <;> rcases h with h | h <;> simp [h]

section Loop

variable (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .bf16) (harg5 : arg5.IsWhole) (arg6 : Memref sig .tc .vmem S1x2048x512 .f32) (harg6 : arg6.IsWhole) (arg7 : Memref sig .tc .vmem S2x1x256 .f32) (harg7 : arg7.IsWhole) (arg8 : Memref sig .tc .vmem S1x2x128x256 .f32) (harg8 : arg8.IsWhole) (arg9 : Memref sig .tc .vmem S1x2048x512 .bf16) (harg9 : arg9.IsWhole) (arg10 : Memref sig .tc .vmem S1x2x128x256 .f32) (harg10 : arg10.IsWhole) (arg11 : Memref sig .tc .vmem S2x256x128 .f32) (harg11 : arg11.IsWhole)
variable (x0 x1 x2 : Vec F S1x2048x256 .f32) (x3 : Vec F S1x2048x512 .bf16) (x4 : Vec F S1x2048x512 .f32) (x5 : Vec F S2x1x256 .f32) (x6 : Vec F S1x2x128x256 .f32)
variable (G9 : BufTy.Contents (Elt F) arg9.view.ty) (G11 : BufTy.Contents (Elt F) arg11.view.ty)

/-- A trip takes the states before chunk `8 k` to those before chunk `8 (k + 1)`. -/
theorem state_trip (k : Fin k0_t1_loop.trips) (f9 : BufTy.Contents (Elt F) arg9.view.ty) (f11 : BufTy.Contents (Elt F) arg11.view.ty)
    (h0 : s0 arg11 f11 = SV x1 x2 x3 x6 0 (8 * k.val)) (h1 : s1 arg11 f11 = SV x1 x2 x3 x6 1 (8 * k.val)) :
    s0 arg11 (arg11.view.writes (Elt F) f11 ((trip_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) k).2.1 f9 f11)) = SV x1 x2 x3 x6 0 (8 * (k.val + 1))
    ∧ s1 arg11 (arg11.view.writes (Elt F) f11 ((trip_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) k).2.1 f9 f11)) = SV x1 x2 x3 x6 1 (8 * (k.val + 1)) := by
  rw [trip_state, s0_writes, s1_writes, h0, h1]
  unfold SV
  exact ⟨(advV_add _ _ _ _ _ _ _ (8 * k.val) 8 (fun u hu => m0_unread harg4 x2 k u hu) (fun u hu => m0_unread harg3 x1 k u hu)
      (fun u hu => w0_unread harg5 x3 k u hu)).trans (congrArg _ (by omega)),
    (advV_add _ _ _ _ _ _ _ (8 * k.val) 8 (fun u hu => m1_unread harg4 x2 k u hu) (fun u hu => m1_unread harg3 x1 k u hu)
      (fun u hu => w1_unread harg5 x3 k u hu)).trans (congrArg _ (by omega))⟩

/-- The states before trip `k` are the states before chunk `8 k`. -/
theorem state_inv (h0 : s0 arg11 G11 = cS x6 0) (h1 : s1 arg11 G11 = cS x6 1) : ∀ k : ℕ, k ≤ k0_t1_loop.trips →
    s0 arg11 (arg11.view.writes (Elt F) G11 (pb_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 k).2) = SV x1 x2 x3 x6 0 (8 * k)
    ∧ s1 arg11 (arg11.view.writes (Elt F) G11 (pb_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 k).2) = SV x1 x2 x3 x6 1 (8 * k)
  | 0, _ => ⟨h0, h1⟩
  | k + 1, hk => by
    obtain ⟨ih0, ih1⟩ := state_inv h0 h1 k (Nat.le_of_succ_le hk)
    have e := state_trip 𝒱 c bd i arg2 harg2 arg3 harg3 arg4 harg4 arg5 harg5 arg6 harg6 arg7 harg7 arg8 harg8 arg9 harg9 arg10 harg10 arg11 harg11 x0 x1 x2 x3 x4 x5 x6 ⟨k, hk⟩
      (arg9.view.writes (Elt F) G9 (pb_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 k).1) _ ih0 ih1
    rw [pb_k0_t1_succ 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 ⟨k, hk⟩, View.writes_append]
    exact e

/-- A stored chunk of head 0 is the block's output there; -/
theorem piece0 (k : Fin k0_t1_loop.trips) (u : ℕ) (hu : u < 8) (s : FVec F S256x128 .f32) (hs : s = SV x1 x2 x3 x6 0 (8 * k.val))
    (x : (Rect.unit (s := S1x2048x512) (k0_off3 k (BitVec.ofNat 32 (Fin.ofNat 8 u).val)) S1x64x256.size (k0_off3_inb k (Fin.ofNat 8 u))).shape.Idx) :
    outV (m0 arg4 (harg4.unread x2) k u) (m0 arg2 (harg2.unread x0) k u) (m0 arg3 (harg3.unread x1) k u) (w0 arg5 (harg5.unread x3) k u)
          (advV (m0 arg4 (harg4.unread x2) k) (m0 arg3 (harg3.unread x1) k) (w0 arg5 (harg5.unread x3) k) s u)
          (View.readAt (Elt F) arg7.view (Rect.unit (s := S2x1x256) ![0, 0, 0] S1x1x256.size inb_S2x1x256_S1x1x256_0_0_0).toLoadRect (harg7.unread x5)) (w0 arg6 (harg6.unread x4) k u) x
      = OUT9 x0 x1 x2 x3 x4 x5 x6 ((Rect.unit (s := S1x2048x512) (k0_off3 k (BitVec.ofNat 32 (Fin.ofNat 8 u).val)) S1x64x256.size (k0_off3_inb k (Fin.ofNat 8 u))).emb x) := by
  subst hs
  rw [m0_unread harg4 x2 k u hu, m0_unread harg2 x0 k u hu, m0_unread harg3 x1 k u hu, w0_unread harg5 x3 k u hu, w0_unread harg6 x4 k u hu]
  unfold SV
  rw [advV_add _ _ _ _ _ _ _ (8 * k.val) u (fun v hv => m0_unread harg4 x2 k v (by omega)) (fun v hv => m0_unread harg3 x1 k v (by omega)) (fun v hv => w0_unread harg5 x3 k v (by omega))]
  rw [View.readAt_eq_ld, harg7.read_unread]
  have e : ∀ a, ((Rect.unit (s := S1x2048x512) (k0_off3 k (BitVec.ofNat 32 (Fin.ofNat 8 u).val)) S1x64x256.size (k0_off3_inb k (Fin.ofNat 8 u))).emb x a).val
      = (![0, 64 * (8 * k.val + u), 0] : Fin 3 → ℕ) a + (x a).val := fun a => by
    have h1 : k0_off3 k (BitVec.ofNat 32 (Fin.ofNat 8 u).val) = ![0, 64 * (8 * k.val + u), 0] :=
      (off3_eq k (Fin.ofNat 8 u)).trans (by rw [ofNat8 hu])
    exact (Rect.idx_unit_val _ _ _ _ _).trans (congrArg (· + (x a).val) (congrFun h1 a))
  have e1 : ((Rect.unit (s := S1x2048x512) (k0_off3 k (BitVec.ofNat 32 (Fin.ofNat 8 u).val)) S1x64x256.size (k0_off3_inb k (Fin.ofNat 8 u))).emb x 1).val = 64 * (8 * k.val + u) + (x 1).val := e 1
  have e2 : ((Rect.unit (s := S1x2048x512) (k0_off3 k (BitVec.ofNat 32 (Fin.ofNat 8 u).val)) S1x64x256.size (k0_off3_inb k (Fin.ofNat 8 u))).emb x 2).val = 0 + (x 2).val := e 2
  have l0 : (x 0).val < 1 := (x 0).isLt
  have l1 : (x 1).val < 64 := (x 1).isLt
  have l2 : (x 2).val < 256 := (x 2).isLt
  unfold OUT9 OV SV
  have d1 : ((Rect.unit (s := S1x2048x512) (k0_off3 k (BitVec.ofNat 32 (Fin.ofNat 8 u).val)) S1x64x256.size (k0_off3_inb k (Fin.ofNat 8 u))).emb x 1).val / 64 = 8 * k.val + u := by omega
  have d2 : (⟨((Rect.unit (s := S1x2048x512) (k0_off3 k (BitVec.ofNat 32 (Fin.ofNat 8 u).val)) S1x64x256.size (k0_off3_inb k (Fin.ofNat 8 u))).emb x 2).val / 256, by omega⟩ : Fin 2) = 0 := Fin.ext (by show _ / 256 = 0; omega)
  rw [d1, d2]
  refine congrArg _ (funext fun a => ?_)
  fin_cases a
  · exact Fin.ext (by show (x 0).val = 0; omega)
  · exact Fin.ext (by show (x 1).val = _ % 64; omega)
  · exact Fin.ext (by show (x 2).val = _ % 256; omega)

/-- of head 1 likewise. -/
theorem piece1 (k : Fin k0_t1_loop.trips) (u : ℕ) (hu : u < 8) (s : FVec F S256x128 .f32) (hs : s = SV x1 x2 x3 x6 1 (8 * k.val))
    (x : (Rect.unit (s := S1x2048x512) (k0_off4 k (BitVec.ofNat 32 (Fin.ofNat 8 u).val)) S1x64x256.size (k0_off4_inb k (Fin.ofNat 8 u))).shape.Idx) :
    outV (m1 arg4 (harg4.unread x2) k u) (m1 arg2 (harg2.unread x0) k u) (m1 arg3 (harg3.unread x1) k u) (w1 arg5 (harg5.unread x3) k u)
          (advV (m1 arg4 (harg4.unread x2) k) (m1 arg3 (harg3.unread x1) k) (w1 arg5 (harg5.unread x3) k) s u)
          (View.readAt (Elt F) arg7.view (Rect.unit (s := S2x1x256) ![1, 0, 0] S1x1x256.size inb_S2x1x256_S1x1x256_1_0_0).toLoadRect (harg7.unread x5)) (w1 arg6 (harg6.unread x4) k u) x
      = OUT9 x0 x1 x2 x3 x4 x5 x6 ((Rect.unit (s := S1x2048x512) (k0_off4 k (BitVec.ofNat 32 (Fin.ofNat 8 u).val)) S1x64x256.size (k0_off4_inb k (Fin.ofNat 8 u))).emb x) := by
  subst hs
  rw [m1_unread harg4 x2 k u hu, m1_unread harg2 x0 k u hu, m1_unread harg3 x1 k u hu, w1_unread harg5 x3 k u hu, w1_unread harg6 x4 k u hu]
  unfold SV
  rw [advV_add _ _ _ _ _ _ _ (8 * k.val) u (fun v hv => m1_unread harg4 x2 k v (by omega)) (fun v hv => m1_unread harg3 x1 k v (by omega)) (fun v hv => w1_unread harg5 x3 k v (by omega))]
  rw [View.readAt_eq_ld, harg7.read_unread]
  have e : ∀ a, ((Rect.unit (s := S1x2048x512) (k0_off4 k (BitVec.ofNat 32 (Fin.ofNat 8 u).val)) S1x64x256.size (k0_off4_inb k (Fin.ofNat 8 u))).emb x a).val
      = (![0, 64 * (8 * k.val + u), 256] : Fin 3 → ℕ) a + (x a).val := fun a => by
    have h1 : k0_off4 k (BitVec.ofNat 32 (Fin.ofNat 8 u).val) = ![0, 64 * (8 * k.val + u), 256] :=
      (off4_eq k (Fin.ofNat 8 u)).trans (by rw [ofNat8 hu])
    exact (Rect.idx_unit_val _ _ _ _ _).trans (congrArg (· + (x a).val) (congrFun h1 a))
  have e1 : ((Rect.unit (s := S1x2048x512) (k0_off4 k (BitVec.ofNat 32 (Fin.ofNat 8 u).val)) S1x64x256.size (k0_off4_inb k (Fin.ofNat 8 u))).emb x 1).val = 64 * (8 * k.val + u) + (x 1).val := e 1
  have e2 : ((Rect.unit (s := S1x2048x512) (k0_off4 k (BitVec.ofNat 32 (Fin.ofNat 8 u).val)) S1x64x256.size (k0_off4_inb k (Fin.ofNat 8 u))).emb x 2).val = 256 + (x 2).val := e 2
  have l0 : (x 0).val < 1 := (x 0).isLt
  have l1 : (x 1).val < 64 := (x 1).isLt
  have l2 : (x 2).val < 256 := (x 2).isLt
  unfold OUT9 OV SV
  have d1 : ((Rect.unit (s := S1x2048x512) (k0_off4 k (BitVec.ofNat 32 (Fin.ofNat 8 u).val)) S1x64x256.size (k0_off4_inb k (Fin.ofNat 8 u))).emb x 1).val / 64 = 8 * k.val + u := by omega
  have d2 : (⟨((Rect.unit (s := S1x2048x512) (k0_off4 k (BitVec.ofNat 32 (Fin.ofNat 8 u).val)) S1x64x256.size (k0_off4_inb k (Fin.ofNat 8 u))).emb x 2).val / 256, by omega⟩ : Fin 2) = 1 := Fin.ext (by show _ / 256 = 1; omega)
  rw [d1, d2]
  refine congrArg _ (funext fun a => ?_)
  fin_cases a
  · exact Fin.ext (by show (x 0).val = 0; omega)
  · exact Fin.ext (by show (x 1).val = _ % 64; omega)
  · exact Fin.ext (by show (x 2).val = _ % 256; omega)

/-- The piece a trip stores for its chunk `u` of head 0, the state on entry being `s`. -/
def P0 (k : Fin k0_t1_loop.trips) (s : FVec F S256x128 .f32) (u : ℕ) : View.Piece (Elt F) S1x2048x512 .bf16 :=
  ⟨Rect.unit (s := S1x2048x512) (k0_off3 k (BitVec.ofNat 32 (Fin.ofNat 8 u).val)) S1x64x256.size (k0_off3_inb k (Fin.ofNat 8 u)),
    outV (m0 arg4 (harg4.unread x2) k u) (m0 arg2 (harg2.unread x0) k u) (m0 arg3 (harg3.unread x1) k u) (w0 arg5 (harg5.unread x3) k u)
      (advV (m0 arg4 (harg4.unread x2) k) (m0 arg3 (harg3.unread x1) k) (w0 arg5 (harg5.unread x3) k) s u)
      (View.readAt (Elt F) arg7.view (Rect.unit (s := S2x1x256) ![0, 0, 0] S1x1x256.size inb_S2x1x256_S1x1x256_0_0_0).toLoadRect (harg7.unread x5)) (w0 arg6 (harg6.unread x4) k u)⟩

/-- The piece a trip stores for its chunk `u` of head 1, the state on entry being `s`. -/
def P1 (k : Fin k0_t1_loop.trips) (s : FVec F S256x128 .f32) (u : ℕ) : View.Piece (Elt F) S1x2048x512 .bf16 :=
  ⟨Rect.unit (s := S1x2048x512) (k0_off4 k (BitVec.ofNat 32 (Fin.ofNat 8 u).val)) S1x64x256.size (k0_off4_inb k (Fin.ofNat 8 u)),
    outV (m1 arg4 (harg4.unread x2) k u) (m1 arg2 (harg2.unread x0) k u) (m1 arg3 (harg3.unread x1) k u) (w1 arg5 (harg5.unread x3) k u)
      (advV (m1 arg4 (harg4.unread x2) k) (m1 arg3 (harg3.unread x1) k) (w1 arg5 (harg5.unread x3) k) s u)
      (View.readAt (Elt F) arg7.view (Rect.unit (s := S2x1x256) ![1, 0, 0] S1x1x256.size inb_S2x1x256_S1x1x256_1_0_0).toLoadRect (harg7.unread x5)) (w1 arg6 (harg6.unread x4) k u)⟩

theorem trip_mem (k : Fin k0_t1_loop.trips) (f9 : BufTy.Contents (Elt F) arg9.view.ty) (f11 : BufTy.Contents (Elt F) arg11.view.ty) (pc : View.Piece (Elt F) S1x2048x512 .bf16) :
    pc ∈ (trip_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) k).1 f9 f11
      ↔ ∃ u : ℕ, u < 8 ∧ (pc = P1 arg2 harg2 arg3 harg3 arg4 harg4 arg5 harg5 arg6 harg6 arg7 harg7 x0 x1 x2 x3 x4 x5 k (s1 arg11 f11) u ∨ pc = P0 arg2 harg2 arg3 harg3 arg4 harg4 arg5 harg5 arg6 harg6 arg7 harg7 x0 x1 x2 x3 x4 x5 k (s0 arg11 f11) u) := by
  rw [trip_out]
  exact mem16 (P1 arg2 harg2 arg3 harg3 arg4 harg4 arg5 harg5 arg6 harg6 arg7 harg7 x0 x1 x2 x3 x4 x5 k (s1 arg11 f11)) (P0 arg2 harg2 arg3 harg3 arg4 harg4 arg5 harg5 arg6 harg6 arg7 harg7 x0 x1 x2 x3 x4 x5 k (s0 arg11 f11)) pc

/-- Every stored chunk is the block's output where it is stored. -/
theorem out_inv (h0 : s0 arg11 G11 = cS x6 0) (h1 : s1 arg11 G11 = cS x6 1) : ∀ k : ℕ, k ≤ k0_t1_loop.trips →
    ∀ pc ∈ (pb_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 k).1, ∀ x : pc.1.shape.Idx, pc.2 x = OUT9 x0 x1 x2 x3 x4 x5 x6 (pc.1.emb x)
  | 0, _, pc, hpc => absurd hpc List.not_mem_nil
  | k + 1, hk, pc, hpc => by
    obtain ⟨ih0, ih1⟩ := state_inv 𝒱 c bd i arg2 harg2 arg3 harg3 arg4 harg4 arg5 harg5 arg6 harg6 arg7 harg7 arg8 harg8 arg9 harg9 arg10 harg10 arg11 harg11 x0 x1 x2 x3 x4 x5 x6 G9 G11 h0 h1 k (Nat.le_of_succ_le hk)
    rw [pb_k0_t1_succ 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 ⟨k, hk⟩] at hpc
    rcases List.mem_append.mp hpc with hpc | hpc
    · obtain ⟨u, hu, rfl | rfl⟩ := (trip_mem 𝒱 c bd i arg2 harg2 arg3 harg3 arg4 harg4 arg5 harg5 arg6 harg6 arg7 harg7 arg8 harg8 arg9 harg9 arg10 harg10 arg11 harg11 x0 x1 x2 x3 x4 x5 ⟨k, hk⟩ _ _ pc).mp hpc
      · exact piece1 arg2 harg2 arg3 harg3 arg4 harg4 arg5 harg5 arg6 harg6 arg7 harg7 x0 x1 x2 x3 x4 x5 x6 ⟨k, hk⟩ u hu _ ih1
      · exact piece0 arg2 harg2 arg3 harg3 arg4 harg4 arg5 harg5 arg6 harg6 arg7 harg7 x0 x1 x2 x3 x4 x5 x6 ⟨k, hk⟩ u hu _ ih0
    · exact out_inv h0 h1 k (Nat.le_of_succ_le hk) pc hpc

/-- The stored chunks of the trips before `k` cover the rows before `512 k`. -/
theorem cover_inv : ∀ k : ℕ, k ≤ k0_t1_loop.trips → ∀ y : S1x2048x512.Idx, (y 1).val < 512 * k →
    ∃ pc ∈ (pb_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 k).1, y ∈ pc.1.set
  | 0, _, y, hy => absurd hy (by omega)
  | k + 1, hk, y, hy => by
    rw [pb_k0_t1_succ 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 ⟨k, hk⟩]
    by_cases h : (y 1).val < 512 * k
    · obtain ⟨pc, hpc, hm⟩ := cover_inv k (Nat.le_of_succ_le hk) y h
      exact ⟨pc, List.mem_append.mpr (Or.inr hpc), hm⟩
    · have y0 : (y 0).val < 1 := (y 0).isLt
      have y2 : (y 2).val < 512 := (y 2).isLt
      obtain ⟨u, hu⟩ : ∃ u : Fin 8, (y 1).val / 64 = 8 * k + u.val := ⟨⟨(y 1).val / 64 - 8 * k, by omega⟩, by show _ = 8 * k + (_ - 8 * k); omega⟩
      by_cases hc : (y 2).val < 256
      · refine ⟨_, List.mem_append.mpr (Or.inl ((trip_mem 𝒱 c bd i arg2 harg2 arg3 harg3 arg4 harg4 arg5 harg5 arg6 harg6 arg7 harg7 arg8 harg8 arg9 harg9 arg10 harg10 arg11 harg11 x0 x1 x2 x3 x4 x5 ⟨k, hk⟩ _ _ _).mpr ⟨u.val, u.isLt, Or.inr rfl⟩)), ?_⟩
        show y ∈ (Rect.unit (s := S1x2048x512) (k0_off3 ⟨k, hk⟩ (BitVec.ofNat 32 (Fin.ofNat 8 u.val).val)) S1x64x256.size (k0_off3_inb ⟨k, hk⟩ (Fin.ofNat 8 u.val))).set
        rw [Rect.mem_set_unit, show (Fin.ofNat 8 u.val) = u from Fin.ext (ofNat8 u.isLt), off3_eq]
        intro a; fin_cases a
        · exact ⟨Nat.zero_le _, by show (y 0).val < 0 + 1; omega⟩
        · exact ⟨by show 64 * (8 * k + u.val) ≤ (y 1).val; omega, by show (y 1).val < 64 * (8 * k + u.val) + 64; omega⟩
        · exact ⟨Nat.zero_le _, by show (y 2).val < 0 + 256; omega⟩
      · refine ⟨_, List.mem_append.mpr (Or.inl ((trip_mem 𝒱 c bd i arg2 harg2 arg3 harg3 arg4 harg4 arg5 harg5 arg6 harg6 arg7 harg7 arg8 harg8 arg9 harg9 arg10 harg10 arg11 harg11 x0 x1 x2 x3 x4 x5 ⟨k, hk⟩ _ _ _).mpr ⟨u.val, u.isLt, Or.inl rfl⟩)), ?_⟩
        show y ∈ (Rect.unit (s := S1x2048x512) (k0_off4 ⟨k, hk⟩ (BitVec.ofNat 32 (Fin.ofNat 8 u.val).val)) S1x64x256.size (k0_off4_inb ⟨k, hk⟩ (Fin.ofNat 8 u.val))).set
        rw [Rect.mem_set_unit, show (Fin.ofNat 8 u.val) = u from Fin.ext (ofNat8 u.isLt), off4_eq]
        intro a; fin_cases a
        · exact ⟨Nat.zero_le _, by show (y 0).val < 0 + 1; omega⟩
        · exact ⟨by show 64 * (8 * k + u.val) ≤ (y 1).val; omega, by show (y 1).val < 64 * (8 * k + u.val) + 64; omega⟩
        · exact ⟨by show 256 ≤ (y 2).val; omega, by show (y 2).val < 256 + 256; omega⟩

end Loop

end Cert.GlaIdeal.Value

end
-- ==== Proof.GlaRun.lean ====
module

public import proofs.«01_k».proof.Proof.Gen.GlaIdeal.Frame.Runs
public import proofs.«01_k».proof.Proof.GlaBlock
public import Idealize.ShloMosaic.Lib.Claim

@[expose] public section

set_option maxRecDepth 16384

noncomputable section

namespace Cert.GlaIdeal.Value

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Buffers

variable (𝒱 : Variants) (c : Dev nD) (bd : Option 𝒱.V) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .bf16) (harg5 : arg5.IsWhole) (arg6 : Memref sig .tc .vmem S1x2048x512 .f32) (harg6 : arg6.IsWhole) (arg7 : Memref sig .tc .vmem S2x1x256 .f32) (harg7 : arg7.IsWhole) (arg8 : Memref sig .tc .vmem S1x2x128x256 .f32) (harg8 : arg8.IsWhole) (arg9 : Memref sig .tc .vmem S1x2048x512 .bf16) (harg9 : arg9.IsWhole) (arg10 : Memref sig .tc .vmem S1x2x128x256 .f32) (harg10 : arg10.IsWhole) (arg11 : Memref sig .tc .vmem S2x256x128 .f32) (harg11 : arg11.IsWhole)
variable (x0 x1 x2 : Vec F S1x2048x256 .f32) (x3 : Vec F S1x2048x512 .bf16) (x4 : Vec F S1x2048x512 .f32) (x5 : Vec F S2x1x256 .f32) (x6 : Vec F S1x2x128x256 .f32)

/-- What the two stores before the loop leave in the scratch buffer: the incoming state of head 0, transposed, -/
theorem init_s0 (f : BufTy.Contents (Elt F) arg11.view.ty) :
    s0 arg11 (arg11.view.writes (Elt F) f [⟨Rect.unit (s := S2x256x128) ![1, 0, 0] S1x256x128.size inb_S2x256x128_S1x256x128_1_0_0, k0_pay224 (View.readAt (Elt F) arg8.view (Rect.unit (s := S1x2x128x256) ![0, 1, 0, 0] S1x1x128x256.size inb_S1x2x128x256_S1x1x128x256_0_1_0_0).toLoadRect (harg8.unread x6))⟩,
        ⟨Rect.unit (s := S2x256x128) ![0, 0, 0] S1x256x128.size inb_S2x256x128_S1x256x128_0_0_0, k0_pay223 (View.readAt (Elt F) arg8.view (Rect.unit (s := S1x2x128x256) ![0, 0, 0, 0] S1x1x128x256.size inb_S1x2x128x256_S1x1x128x256_0_0_0_0).toLoadRect (harg8.unread x6))⟩]) = cS x6 0 := by
  refine (s0_writes arg11 f _ _).trans ?_
  rw [View.readAt_eq_ld, harg8.read_unread]
  rfl

/-- and of head 1. -/
theorem init_s1 (f : BufTy.Contents (Elt F) arg11.view.ty) :
    s1 arg11 (arg11.view.writes (Elt F) f [⟨Rect.unit (s := S2x256x128) ![1, 0, 0] S1x256x128.size inb_S2x256x128_S1x256x128_1_0_0, k0_pay224 (View.readAt (Elt F) arg8.view (Rect.unit (s := S1x2x128x256) ![0, 1, 0, 0] S1x1x128x256.size inb_S1x2x128x256_S1x1x128x256_0_1_0_0).toLoadRect (harg8.unread x6))⟩,
        ⟨Rect.unit (s := S2x256x128) ![0, 0, 0] S1x256x128.size inb_S2x256x128_S1x256x128_0_0_0, k0_pay223 (View.readAt (Elt F) arg8.view (Rect.unit (s := S1x2x128x256) ![0, 0, 0, 0] S1x1x128x256.size inb_S1x2x128x256_S1x1x128x256_0_0_0_0).toLoadRect (harg8.unread x6))⟩]) = cS x6 1 := by
  refine (s1_writes arg11 f _ _).trans ?_
  rw [View.readAt_eq_ld, harg8.read_unread]
  rfl

/-- The loop's stores leave the block of outputs. -/
theorem out9_read (G9 : BufTy.Contents (Elt F) arg9.view.ty) (G11 : BufTy.Contents (Elt F) arg11.view.ty)
    (h0 : s0 arg11 G11 = cS x6 0) (h1 : s1 arg11 G11 = cS x6 1) :
    View.read (Elt F) arg9.view (arg9.view.writes (Elt F) G9 (pb_k0_t1 𝒱 c bd i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) G9 G11 k0_t1_loop.trips).1) = OUT9 x0 x1 x2 x3 x4 x5 x6 := by
  funext y
  have hc := cover_inv 𝒱 c bd i arg2 harg2 arg3 harg3 arg4 harg4 arg5 harg5 arg6 harg6 arg7 harg7 arg8 harg8 arg9 harg9 arg10 harg10 arg11 harg11 x0 x1 x2 x3 x4 x5 G9 G11 k0_t1_loop.trips le_rfl y
    (by rw [trips_eq]; exact (y 1).isLt)
  rw [View.read_writes_apply_eq_canon _ _ _ _ hc]
  exact View.canon_apply_of_pieces _ _ (out_inv 𝒱 c bd i arg2 harg2 arg3 harg3 arg4 harg4 arg5 harg5 arg6 harg6 arg7 harg7 arg8 harg8 arg9 harg9 arg10 harg10 arg11 harg11 x0 x1 x2 x3 x4 x5 x6 G9 G11 h0 h1 k0_t1_loop.trips le_rfl) y hc

/-- The two stores after the loop leave the block of final states. -/
theorem out10_read (f8 : BufTy.Contents (Elt F) arg10.view.ty) (G : BufTy.Contents (Elt F) arg11.view.ty)
    (h0 : s0 arg11 G = SV x1 x2 x3 x6 0 32) (h1 : s1 arg11 G = SV x1 x2 x3 x6 1 32) :
    View.read (Elt F) arg10.view (arg10.view.writes (Elt F) f8
      [⟨Rect.unit (s := S1x2x128x256) ![0, 1, 0, 0] S1x1x128x256.size inb_S1x2x128x256_S1x1x128x256_0_1_0_0, k0_pay1 (k0_pay228 (View.readAt (Elt F) arg11.view (Rect.unit (s := S2x256x128) ![1, 0, 0] S1x256x128.size inb_S2x256x128_S1x256x128_1_0_0).toLoadRect G))⟩,
       ⟨Rect.unit (s := S1x2x128x256) ![0, 0, 0, 0] S1x1x128x256.size inb_S1x2x128x256_S1x1x128x256_0_0_0_0, k0_pay227 (View.readAt (Elt F) arg11.view (Rect.unit (s := S2x256x128) ![0, 0, 0] S1x256x128.size inb_S2x256x128_S1x256x128_0_0_0).toLoadRect G)⟩]) = OUT10 x1 x2 x3 x6 := by
  funext y
  have e1 : k0_pay1 (k0_pay228 (View.readAt (Elt F) arg11.view (Rect.unit (s := S2x256x128) ![1, 0, 0] S1x256x128.size inb_S2x256x128_S1x256x128_1_0_0).toLoadRect G))
      = shapeCast S1x1x128x256 (transpose S128x256 [1, 0] (SV x1 x2 x3 x6 1 32) transposes_S256x128_p1_0_S128x256) shapeCasts_S128x256_S1x1x128x256 := by
    rw [← h1]; rfl
  have e0 : k0_pay227 (View.readAt (Elt F) arg11.view (Rect.unit (s := S2x256x128) ![0, 0, 0] S1x256x128.size inb_S2x256x128_S1x256x128_0_0_0).toLoadRect G)
      = shapeCast S1x1x128x256 (transpose S128x256 [1, 0] (SV x1 x2 x3 x6 0 32) transposes_S256x128_p1_0_S128x256) shapeCasts_S128x256_S1x1x128x256 := by
    rw [← h0]; rfl
  rw [e1, e0]
  have y0 : (y 0).val < 1 := (y 0).isLt
  have y1 : (y 1).val < 2 := (y 1).isLt
  by_cases h : (y 1).val = 1
  · have hx : ∀ a, (y a).val = (![0, 1, 0, 0] : Fin 4 → ℕ) a + (ix4 (0 : Fin 1) (0 : Fin 1) (⟨(y 2).val, (y 2).isLt⟩ : Fin 128) (⟨(y 3).val, (y 3).isLt⟩ : Fin 256) a).val := fun a => by
      fin_cases a
      · show (y 0).val = 0 + 0; omega
      · show (y 1).val = 1 + 0; omega
      · exact (Nat.zero_add _).symm
      · exact (Nat.zero_add _).symm
    refine (View.read_writes_cons_unit_of_mem arg10.view f8 inb_S1x2x128x256_S1x1x128x256_0_1_0_0 _ _ y _ rfl hx).trans ?_
    have e : (⟨(y 1).val, (y 1).isLt⟩ : Fin 2) = 1 := Fin.ext h
    show _ = SV x1 x2 x3 x6 ⟨(y 1).val, (y 1).isLt⟩ 32 (ix2 ⟨(y 3).val, (y 3).isLt⟩ ⟨(y 2).val, (y 2).isLt⟩)
    rw [e]
    pointwise
    try rfl
  · have h' : (y 1).val = 0 := by omega
    have hx : ∀ a, (y a).val = (![0, 0, 0, 0] : Fin 4 → ℕ) a + (ix4 (0 : Fin 1) (0 : Fin 1) (⟨(y 2).val, (y 2).isLt⟩ : Fin 128) (⟨(y 3).val, (y 3).isLt⟩ : Fin 256) a).val := fun a => by
      fin_cases a
      · show (y 0).val = 0 + 0; omega
      · show (y 1).val = 0 + 0; omega
      · exact (Nat.zero_add _).symm
      · exact (Nat.zero_add _).symm
    refine (View.read_writes_cons_unit_of_not_mem arg10.view f8 inb_S1x2x128x256_S1x1x128x256_0_1_0_0 _ _ y rfl 1 (Or.inl (by show (y 1).val < 1; omega))).trans ?_
    refine (View.read_writes_cons_unit_of_mem arg10.view f8 inb_S1x2x128x256_S1x1x128x256_0_0_0_0 _ _ y _ rfl hx).trans ?_
    have e : (⟨(y 1).val, (y 1).isLt⟩ : Fin 2) = 0 := Fin.ext h'
    show _ = SV x1 x2 x3 x6 ⟨(y 1).val, (y 1).isLt⟩ 32 (ix2 ⟨(y 3).val, (y 3).isLt⟩ ⟨(y 2).val, (y 2).isLt⟩)
    rw [e]
    pointwise
    try rfl

end Buffers

set_option maxHeartbeats 2000000 in
/-- The body on whole buffers: the inputs stay, the outputs end as the block functions `OUT9` and `OUT10` of the inputs. -/
theorem body_run (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .bf16) (harg5 : arg5.IsWhole) (arg6 : Memref sig .tc .vmem S1x2048x512 .f32) (harg6 : arg6.IsWhole) (arg7 : Memref sig .tc .vmem S2x1x256 .f32) (harg7 : arg7.IsWhole) (arg8 : Memref sig .tc .vmem S1x2x128x256 .f32) (harg8 : arg8.IsWhole) (arg9 : Memref sig .tc .vmem S1x2048x512 .bf16) (harg9 : arg9.IsWhole) (arg10 : Memref sig .tc .vmem S1x2x128x256 .f32) (harg10 : arg10.IsWhole) (arg11 : Memref sig .tc .vmem S2x256x128 .f32) (harg11 : arg11.IsWhole)
    (x0 : Vec F S1x2048x256 .f32) (x1 : Vec F S1x2048x256 .f32) (x2 : Vec F S1x2048x256 .f32) (x3 : Vec F S1x2048x512 .bf16) (x4 : Vec F S1x2048x512 .f32) (x5 : Vec F S2x1x256 .f32) (x6 : Vec F S1x2x128x256 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (OUT9 x0 x1 x2 x3 x4 x5 x6) ∗ owns (c : Thread nD τ) arg10 fullShare (OUT10 x1 x2 x3 x6) ∗ (∃ d, owns (c : Thread nD τ) arg11 fullShare d)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K := by
  simp only [cc0_gla_eq_skeleton]; unfold cc0_gla_skel
  simp only [k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    exact out9_read Variants.none c none i arg2 harg2 arg3 harg3 arg4 harg4 arg5 harg5 arg6 harg6 arg7 harg7 arg8 harg8 arg9 harg9 arg10 harg10 arg11 harg11 x0 x1 x2 x3 x4 x5 x6 f7 _ (init_s0 arg8 harg8 arg11 x6 _) (init_s1 arg8 harg8 arg11 x6 _)
  isplitl [H8]
  · iexists _; isplitr
    swap; · iexact H8
    ipureintro
    have hs := state_inv Variants.none c none i arg2 harg2 arg3 harg3 arg4 harg4 arg5 harg5 arg6 harg6 arg7 harg7 arg8 harg8 arg9 harg9 arg10 harg10 arg11 harg11 x0 x1 x2 x3 x4 x5 x6 f7 _ (init_s0 arg8 harg8 arg11 x6 arg11.view.junk) (init_s1 arg8 harg8 arg11 x6 arg11.view.junk) k0_t1_loop.trips le_rfl
    rw [← View.writes_append] at hs
    have e : 8 * k0_t1_loop.trips = 32 := by rw [trips_eq]
    rw [e] at hs
    exact out10_read arg10 arg11 x1 x2 x3 x6 f8 _ hs.1 hs.2
  iexists _, _; isplitr; swap; · iexact HS0
  ipureintro; rfl

/-! ## The launch -/

/-- What the outputs' staging buffers hold after the body at point `t` (as a tuple, in window order): the run's contents at
    the point's memrefs and input blocks. -/
def outsAt0 (c : Dev nD) (t : Fin cfg0.N) : Vec F S1x2048x512 .bf16 × Vec F S1x2x128x256 .f32 :=
  (OUT9 (iblk m c 0 t) (iblk m c 1 t) (iblk m c 2 t) (iblk m c 3 t) (iblk m c 4 t) (iblk m c 5 t) (iblk m c 6 t), OUT10 (iblk m c 1 t) (iblk m c 2 t) (iblk m c 3 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: every argument array ends unchanged and every counter at zero, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GlaIdeal.Value

end
-- ==== Proof.GlaValue.lean ====
/- What the gated linear attention kernel computes, over the extended reals: the state every chunk of 64 rows begins with,
   as a recurrence over the chunks, and the two result arrays as expressions of the arrays the call is given. -/
module

public import proofs.«01_k».proof.Proof.GlaRun
public import Idealize.ShloMosaic.Lib.Pipeline.ValueKit
public import Idealize.ShloMosaic.Lib.Pointwise
public import Idealize.ShloMosaic.Lib.Claim

@[expose] public section

set_option maxRecDepth 16384

noncomputable section

namespace Cert.GlaIdeal.Value

open Cert.GlaIdeal Cert.GlaIdeal.Gen
open Idealize.ShloMosaic Idealize.ShloMosaic.TcCoe Idealize.SL.Sem
open Idealize.ShloMosaic.Pipeline (Dat)

/-! ## The attention as a recurrence over chunks -/

section Spec
variable (QK : FVec Ideal S16x2048x1024 .f32) (B : FVec Ideal S16x2048x512 .f32) (V : FVec Ideal S16x2048x1024 .bf16)
  (RB : FVec Ideal S16x2048x1024 .f32) (G : FVec Ideal S4x256 .f32) (S0 : FVec Ideal S16x4x128x256 .f32)

/-- Row `j` of chunk `n`. -/
def row (n : ℕ) (j : Fin 64) : Fin 2048 := ⟨64 * (n % 32) + j.val, by have := j.isLt; have := Nat.mod_lt n (show 0 < 32 by decide); omega⟩

/-- The query, -/
def qs (b : Fin 16) (h : Fin 4) (n : ℕ) (j : Fin 64) (d : Fin 128) : EReal :=
  QK (ix3 b (row n j) ⟨128 * h.val + d.val, by have := h.isLt; have := d.isLt; omega⟩)

/-- the key, -/
def ks (b : Fin 16) (h : Fin 4) (n : ℕ) (j : Fin 64) (d : Fin 128) : EReal :=
  QK (ix3 b (row n j) ⟨512 + 128 * h.val + d.val, by have := h.isLt; have := d.isLt; omega⟩)

/-- the cumulative log decay, -/
def bs (b : Fin 16) (h : Fin 4) (n : ℕ) (j : Fin 64) (d : Fin 128) : EReal :=
  B (ix3 b (row n j) ⟨128 * h.val + d.val, by have := h.isLt; have := d.isLt; omega⟩)

/-- the value of row `j` of chunk `n` of head `h`. -/
def vs (b : Fin 16) (h : Fin 4) (n : ℕ) (j : Fin 64) (e : Fin 256) : EReal :=
  V (ix3 b (row n j) ⟨256 * h.val + e.val, by have := h.isLt; have := e.isLt; omega⟩)

/-- The state before chunk `n`: the incoming one decayed, and the decayed outer products of keys and values added, chunk by chunk. -/
def ST (b : Fin 16) (h : Fin 4) : ℕ → Fin 128 → Fin 256 → EReal
  | 0, d, e => S0 (ix4 b h d e)
  | n + 1, d, e => ST b h n d e * Ideal.exp (bs B b h n 63 d)
      + ∑ j : Fin 64, vs V b h n j e * (ks QK b h n j d * Ideal.exp (bs B b h n 63 d - bs B b h n j d))

theorem ST_succ (b : Fin 16) (h : Fin 4) (n : ℕ) (d : Fin 128) (e : Fin 256) :
    ST QK B V S0 b h (n + 1) d e = ST QK B V S0 b h n d e * Ideal.exp (bs B b h n 63 d)
      + ∑ j : Fin 64, vs V b h n j e * (ks QK b h n j d * Ideal.exp (bs B b h n 63 d - bs B b h n j d)) := rfl

/-- The attention's output at row `i` of chunk `n`: within the chunk the masked decayed scores, across chunks the state. -/
def OO (b : Fin 16) (h : Fin 4) (n : ℕ) (i : Fin 64) (e : Fin 256) : EReal :=
  (∑ j : Fin 64, (if j.val ≤ i.val then
      ∑ d : Fin 128, qs QK b h n i d * Ideal.exp (bs B b h n i d) * (ks QK b h n j d * Ideal.exp (0 - bs B b h n j d)) else 0) * vs V b h n j e)
    + ∑ d : Fin 128, qs QK b h n i d * Ideal.exp (bs B b h n i d) * ST QK B V S0 b h n d e

/-- The output's root-mean-square norm over the head, scaled, times the gate. -/
def RS (b : Fin 16) (h : Fin 4) (n : ℕ) (i : Fin 64) (e : Fin 256) : EReal :=
  OO QK B V S0 b h n i e * Ideal.rsqrt (Ideal.div (∑ e' : Fin 256, OO QK B V S0 b h n i e' * OO QK B V S0 b h n i e') (Ideal.ofBits .f32 0x43800000#32)
      + Ideal.ofBits .f32 0x358637BD#32) * G (ix2 h e)
    * (RB (ix3 b (row n i) ⟨256 * h.val + e.val, by have := h.isLt; have := e.isLt; omega⟩)
      * Ideal.logistic (RB (ix3 b (row n i) ⟨256 * h.val + e.val, by have := h.isLt; have := e.isLt; omega⟩)))

/-- The array of outputs. -/
def RES : FVec Ideal S16x2048x1024 .bf16 := fun y =>
  RS QK B V RB G S0 (y 0) ⟨(y 2).val / 256, by have : (y 2).val < 1024 := (y 2).isLt; omega⟩ ((y 1).val / 64)
    ⟨(y 1).val % 64, Nat.mod_lt _ (by decide)⟩ ⟨(y 2).val % 256, Nat.mod_lt _ (by decide)⟩

theorem ix3_ext {n0 n1 n2 : ℕ} {a a' : Fin n0} {b b' : Fin n1} {d d' : Fin n2} (h0 : a.val = a'.val) (h1 : b.val = b'.val) (h2 : d.val = d'.val) :
    ix3 a b d = ix3 a' b' d' := by
  rw [Fin.ext h0, Fin.ext h1, Fin.ext h2]

theorem RES_at (b : Fin 16) (r : Fin 2048) (l : Fin 1024) : RES QK B V RB G S0 (ix3 b r l)
    = OO QK B V S0 b ⟨l.val / 256, by have := l.isLt; omega⟩ (r.val / 64) ⟨r.val % 64, Nat.mod_lt _ (by decide)⟩ ⟨l.val % 256, Nat.mod_lt _ (by decide)⟩
      * Ideal.rsqrt (Ideal.div (∑ e' : Fin 256, OO QK B V S0 b ⟨l.val / 256, by have := l.isLt; omega⟩ (r.val / 64) ⟨r.val % 64, Nat.mod_lt _ (by decide)⟩ e'
          * OO QK B V S0 b ⟨l.val / 256, by have := l.isLt; omega⟩ (r.val / 64) ⟨r.val % 64, Nat.mod_lt _ (by decide)⟩ e') (Ideal.ofBits .f32 0x43800000#32)
        + Ideal.ofBits .f32 0x358637BD#32) * G (ix2 ⟨l.val / 256, by have := l.isLt; omega⟩ ⟨l.val % 256, Nat.mod_lt _ (by decide)⟩)
      * (RB (ix3 b r l) * Ideal.logistic (RB (ix3 b r l))) := by
  show RS QK B V RB G S0 b ⟨l.val / 256, _⟩ (r.val / 64) ⟨r.val % 64, _⟩ ⟨l.val % 256, _⟩ = _
  unfold RS
  have hix : (ix3 b (row (r.val / 64) ⟨r.val % 64, Nat.mod_lt _ (by decide)⟩) ⟨256 * (l.val / 256) + l.val % 256, by have := l.isLt; omega⟩ : S16x2048x1024.Idx) = ix3 b r l :=
    ix3_ext rfl (by unfold row; have := r.isLt; simp only; omega) (by simp only; omega)
  rw [hix]

/-- The array of final states. -/
def FIN : FVec Ideal S16x4x128x256 .f32 := fun y => ST QK B V S0 (y 0) (y 1) 32 (y 2) (y 3)
end Spec

/-! ## The kernel's words at an index -/

theorem stepV_at (b k : Vec Ideal S1x64x128 .f32) (v : Vec Ideal S1x64x256 .bf16) (s : FVec Ideal S256x128 .f32) (e : Fin 256) (d : Fin 128) :
    stepV b k v s (ix2 e d) = s (ix2 e d) * Ideal.exp (b (ix3 0 63 d))
      + ∑ x : Fin 64, v (ix3 0 x e) * (k (ix3 0 x d) * Ideal.exp (b (ix3 0 63 d) - b (ix3 0 x d))) := by
  pointwise [stepV, delV, keV, lastV]

theorem mask_at : ∀ j i : Fin 64, IntOp.cmpi .sle (BitVec.ofNat 32 j.val) (BitVec.ofNat 32 i.val) = if j.val ≤ i.val then 1#1 else 0#1 := by
  decide +kernel

theorem oV_at (b q k : Vec Ideal S1x64x128 .f32) (v : Vec Ideal S1x64x256 .bf16) (s : FVec Ideal S256x128 .f32)
    (i : Fin 64) (e : Fin 256) :
    oV b q k v s (ix2 i e) = (∑ j : Fin 64, (if j.val ≤ i.val then
        ∑ d : Fin 128, q (ix3 0 i d) * Ideal.exp (b (ix3 0 i d)) * (k (ix3 0 j d) * Ideal.exp (0 - b (ix3 0 j d))) else 0) * v (ix3 0 j e))
      + ∑ d : Fin 128, q (ix3 0 i d) * Ideal.exp (b (ix3 0 i d)) * s (ix2 e d) := by
  pointwise [oV, attV, qdV, kiV]
  refine Ideal.add_congr (Finset.sum_congr rfl fun j _ => ?_) rfl
  rw [mask_at]
  by_cases h : j.val ≤ i.val
  · rw [if_pos h, if_pos h]; first | rfl | simp [Scalar.select]
  · rw [if_neg h, if_neg h]; first | rfl | simp [Scalar.select]

theorem outV_at (b q k : Vec Ideal S1x64x128 .f32) (v : Vec Ideal S1x64x256 .bf16) (s : FVec Ideal S256x128 .f32) (g : Vec Ideal S1x1x256 .f32)
    (rb : Vec Ideal S1x64x256 .f32) (i : Fin 64) (e : Fin 256) :
    outV b q k v s g rb (ix3 0 i e) = oV b q k v s (ix2 i e) * Ideal.rsqrt (Ideal.div (∑ x : Fin 256, oV b q k v s (ix2 i x) * oV b q k v s (ix2 i x)) (Ideal.ofBits .f32 0x43800000#32)
      + Ideal.ofBits .f32 0x358637BD#32) * g (ix3 0 0 e) * (rb (ix3 0 i e) * Ideal.logistic (rb (ix3 0 i e))) := by
  pointwise [outV, nV]

theorem cA_at (x : Vec Ideal S1x2048x256 .f32) (hd : Fin 2) (n : ℕ) (i : Fin 64) (d : Fin 128) :
    cA x hd n (ix3 0 i d) = x (ix3 0 (row n i) ⟨128 * hd.val + d.val, by have := hd.isLt; have := d.isLt; omega⟩) := by
  pointwise [cA, row]

theorem cB_at {e : EltTy} (x : Vec Ideal S1x2048x512 e) (hd : Fin 2) (n : ℕ) (i : Fin 64) (d : Fin 256) :
    cB x hd n (ix3 0 i d) = x (ix3 0 (row n i) ⟨256 * hd.val + d.val, by have := hd.isLt; have := d.isLt; omega⟩) := by
  pointwise [cB, row]

theorem cG_at (x : Vec Ideal S2x1x256 .f32) (hd : Fin 2) (d : Fin 256) : cG x hd (ix3 0 0 d) = x (ix3 hd 0 d) := by
  pointwise [cG]

theorem tr_at (y : Vec Ideal S1x1x128x256 .f32) (e : Fin 256) (d : Fin 128) :
    transpose S256x128 [1, 0] (shapeCast S128x256 y shapeCasts_S1x1x128x256_S128x256) transposes_S128x256_p1_0_S256x128 (ix2 e d) = y (ix4 0 0 d e) := by
  pointwise

theorem cS_at (x : Vec Ideal S1x2x128x256 .f32) (hd : Fin 2) (e : Fin 256) (d : Fin 128) : cS x hd (ix2 e d) = x (ix4 0 hd d e) := by
  refine (tr_at _ e d).trans (congrArg x (funext fun a => Fin.ext ((Rect.idx_unit_val _ _ _ _ _).trans ?_)))
  fin_cases a <;> simp

/-! ## The blocks of a grid point -/

variable (m : (ℓ : Loc nD τ sig) → Buf (Elt Ideal) ℓ) (ρ : Dev nD → PrngReg)

/-- The block indices at every grid point: batch `t / 2`, head pair `t % 2`. -/
theorem idx : ∀ t : Fin cfg0.N, win0_0.index t = ![t.val / 2, 0, t.val % 2] ∧ win0_1.index t = ![t.val / 2, 0, 2 + t.val % 2]
    ∧ win0_2.index t = ![t.val / 2, 0, t.val % 2] ∧ win0_3.index t = ![t.val / 2, 0, t.val % 2] ∧ win0_4.index t = ![t.val / 2, 0, t.val % 2]
    ∧ win0_5.index t = ![t.val % 2, 0, 0] ∧ win0_6.index t = ![t.val / 2, t.val % 2, 0, 0]
    ∧ win0_7.index t = ![t.val / 2, 0, t.val % 2] ∧ win0_8.index t = ![t.val / 2, t.val % 2, 0, 0] :=
  (by decide +kernel : ∀ t : Fin grid0.N, _)

/-- The batch of point `t`, -/
def tb (t : Fin cfg0.N) : Fin 16 := ⟨t.val / 2, by have : t.val < 32 := lt_of_lt_of_eq t.isLt (show cfg0.N = 32 from N_0); omega⟩
/-- and head `hd` of its pair. -/
def th (t : Fin cfg0.N) (hd : Fin 2) : Fin 4 := ⟨2 * (t.val % 2) + hd.val, by have := hd.isLt; omega⟩

/-- The arrays of the call on core `c`. -/
abbrev aQK (c : Dev nD) : FVec Ideal S16x2048x1024 .f32 := V m c main_arg0
abbrev aB (c : Dev nD) : FVec Ideal S16x2048x512 .f32 := V m c main_arg1
abbrev aV (c : Dev nD) : FVec Ideal S16x2048x1024 .bf16 := V m c main_arg2
abbrev aRB (c : Dev nD) : FVec Ideal S16x2048x1024 .f32 := V m c main_arg3
abbrev aG (c : Dev nD) : FVec Ideal S4x256 .f32 := m ((c : Thread nD τ).loc main_arg4)
abbrev aS0 (c : Dev nD) : FVec Ideal S16x4x128x256 .f32 := V m c main_arg5

theorem V_v0 (c : Dev nD) : V m c main_v0 = (broadcastInDim S4x1x256 ![0, 2] bcast_S4x256_S4x1x256_0_2 (aG m c) : FVec Ideal S4x1x256 .f32) := by
  show StableHlo.after hostOps0 (fun b => m (c, b)) (Proc.devRef .tc main_v0) = _
  after_results <;> rfl

theorem v0_at (c : Dev nD) (h : Fin 4) (e : Fin 256) : (show FVec Ideal S4x1x256 .f32 from V m c main_v0) (ix3 h 0 e) = aG m c (ix2 h e) := by
  rw [V_v0]; pointwise

theorem qs_blk (c : Dev nD) (t : Fin cfg0.N) (hd : Fin 2) (n : ℕ) (i : Fin 64) (d : Fin 128) :
    cA (F := Ideal) (iblk m c 0 t) hd n (ix3 0 i d) = qs (aQK m c) (tb t) (th t hd) n i d := by
  rw [cA_at]; unfold qs tb th
  blk_point [iblk, idx t]

theorem ks_blk (c : Dev nD) (t : Fin cfg0.N) (hd : Fin 2) (n : ℕ) (i : Fin 64) (d : Fin 128) :
    cA (F := Ideal) (iblk m c 1 t) hd n (ix3 0 i d) = ks (aQK m c) (tb t) (th t hd) n i d := by
  rw [cA_at]; unfold ks tb th
  blk_point [iblk, idx t]

theorem bs_blk (c : Dev nD) (t : Fin cfg0.N) (hd : Fin 2) (n : ℕ) (i : Fin 64) (d : Fin 128) :
    cA (F := Ideal) (iblk m c 2 t) hd n (ix3 0 i d) = bs (aB m c) (tb t) (th t hd) n i d := by
  rw [cA_at]; unfold bs tb th
  blk_point [iblk, idx t]

theorem vs_blk (c : Dev nD) (t : Fin cfg0.N) (hd : Fin 2) (n : ℕ) (i : Fin 64) (e : Fin 256) :
    cB (F := Ideal) (e := .bf16) (iblk m c 3 t) hd n (ix3 0 i e) = vs (aV m c) (tb t) (th t hd) n i e := by
  rw [cB_at]; unfold vs tb th
  blk_point [iblk, idx t]

theorem rb_blk (c : Dev nD) (t : Fin cfg0.N) (hd : Fin 2) (n : ℕ) (i : Fin 64) (e : Fin 256) :
    cB (F := Ideal) (e := .f32) (iblk m c 4 t) hd n (ix3 0 i e)
      = aRB m c (ix3 (tb t) (row n i) ⟨256 * (th t hd).val + e.val, by have := (th t hd).isLt; have := e.isLt; omega⟩) := by
  rw [cB_at]; unfold tb th
  blk_point [iblk, idx t]

theorem g_blk (c : Dev nD) (t : Fin cfg0.N) (hd : Fin 2) (e : Fin 256) :
    cG (F := Ideal) (iblk m c 5 t) hd (ix3 0 0 e) = aG m c (ix2 (th t hd) e) := by
  rw [cG_at, ← v0_at]; unfold th
  blk_point [iblk, idx t]

theorem s0_blk (c : Dev nD) (t : Fin cfg0.N) (hd : Fin 2) (e : Fin 256) (d : Fin 128) :
    cS (F := Ideal) (iblk m c 6 t) hd (ix2 e d) = aS0 m c (ix4 (tb t) (th t hd) d e) := by
  rw [cS_at]; unfold tb th
  blk_point [iblk, idx t]

/-- The state a point holds before chunk `n` of head `hd` of its pair is the recurrence's. -/
theorem SV_eq (c : Dev nD) (t : Fin cfg0.N) (hd : Fin 2) (n : ℕ) (e : Fin 256) (d : Fin 128) :
    SV (F := Ideal) (iblk m c 1 t) (iblk m c 2 t) (iblk m c 3 t) (iblk m c 6 t) hd n (ix2 e d)
      = ST (aQK m c) (aB m c) (aV m c) (aS0 m c) (tb t) (th t hd) n d e := by
  induction n generalizing e d with
  | zero => exact s0_blk m c t hd e d
  | succ n ih =>
    show stepV _ _ _ (SV (F := Ideal) (iblk m c 1 t) (iblk m c 2 t) (iblk m c 3 t) (iblk m c 6 t) hd n) (ix2 e d) = _
    rw [stepV_at, ih]
    rw [ST_succ]
    simp only [ks_blk, bs_blk, vs_blk]

theorem oV_eq (c : Dev nD) (t : Fin cfg0.N) (hd : Fin 2) (n : ℕ) (i : Fin 64) (e : Fin 256) :
    oV (F := Ideal) (cA (iblk m c 2 t) hd n) (cA (iblk m c 0 t) hd n) (cA (iblk m c 1 t) hd n) (cB (e := .bf16) (iblk m c 3 t) hd n)
      (SV (iblk m c 1 t) (iblk m c 2 t) (iblk m c 3 t) (iblk m c 6 t) hd n) (ix2 i e)
      = OO (aQK m c) (aB m c) (aV m c) (aS0 m c) (tb t) (th t hd) n i e := by
  rw [oV_at]; unfold OO
  simp only [qs_blk, ks_blk, bs_blk, vs_blk, SV_eq]

theorem OV_eq (c : Dev nD) (t : Fin cfg0.N) (hd : Fin 2) (n : ℕ) (i : Fin 64) (e : Fin 256) :
    OV (F := Ideal) (iblk m c 0 t) (iblk m c 1 t) (iblk m c 2 t) (iblk m c 3 t) (iblk m c 4 t) (iblk m c 5 t) (iblk m c 6 t) hd n (ix3 0 i e)
      = RS (aQK m c) (aB m c) (aV m c) (aRB m c) (aG m c) (aS0 m c) (tb t) (th t hd) n i e := by
  unfold OV; rw [outV_at]; unfold RS
  simp only [oV_eq, rb_blk, g_blk]

theorem OUT9_eq (c : Dev nD) (t : Fin cfg0.N) (y : S1x2048x512.Idx) :
    OUT9 (F := Ideal) (iblk m c 0 t) (iblk m c 1 t) (iblk m c 2 t) (iblk m c 3 t) (iblk m c 4 t) (iblk m c 5 t) (iblk m c 6 t) y
      = RES (aQK m c) (aB m c) (aV m c) (aRB m c) (aG m c) (aS0 m c)
          (ix3 (tb t) (y 1) ⟨512 * (t.val % 2) + (y 2).val, by have : (y 2).val < 512 := (y 2).isLt; omega⟩) := by
  unfold OUT9 RES
  have hy : (y 2).val < 512 := (y 2).isLt
  have hh : th t ⟨(y 2).val / 256, by omega⟩ = ⟨(512 * (t.val % 2) + (y 2).val) / 256, by omega⟩ := Fin.ext (by unfold th; show _ = _; simp only; omega)
  have he : (⟨(y 2).val % 256, Nat.mod_lt _ (by decide)⟩ : Fin 256) = ⟨(512 * (t.val % 2) + (y 2).val) % 256, Nat.mod_lt _ (by decide)⟩ := Fin.ext (by simp only; omega)
  refine (OV_eq m c t _ _ _ _).trans ?_
  rw [hh, he]
  rfl

theorem final7 (c : Dev nD) : (dats m 0 c).arrAt 7 cfg0.N = RES (aQK m c) (aB m c) (aV m c) (aRB m c) (aG m c) (aS0 m c) := by
  refine (dats m 0 c).arrAt_eq_of_covers 7 _ (by decide +kernel) fun t hf y => ?_
  blk_simp
  rw [after0_7]
  refine (OUT9_eq m c t y).trans (congrArg _ ?_)
  unfold tb
  blk_ext [idx t]

theorem OUT10_eq (c : Dev nD) (t : Fin cfg0.N) (y : S1x2x128x256.Idx) :
    OUT10 (F := Ideal) (iblk m c 1 t) (iblk m c 2 t) (iblk m c 3 t) (iblk m c 6 t) y
      = FIN (aQK m c) (aB m c) (aV m c) (aS0 m c) (ix4 (tb t) (th t (y 1)) (y 2) (y 3)) := by
  unfold OUT10 FIN
  exact SV_eq m c t (y 1) 32 (y 3) (y 2)

theorem final8 (c : Dev nD) : (dats m 0 c).arrAt 8 cfg0.N = FIN (aQK m c) (aB m c) (aV m c) (aS0 m c) := by
  refine (dats m 0 c).arrAt_eq_of_covers 8 _ (by decide +kernel) fun t hf y => ?_
  blk_simp
  rw [after0_8]
  refine (OUT10_eq m c t y).trans (congrArg _ ?_)
  unfold tb th
  blk_ext [idx t]

/-- The run: the result arrays hold the attention's outputs and final states of the arguments, which are unchanged. -/
theorem run_value : θ_run defs (onTc (τ := τ) (main (F := Ideal))) ⟨m, fun _ => 0, ρ⟩ (fun r => ∀ c : Dev nD,
    r.2.mem ((c : Thread nD τ).loc main_v1_0) = RES (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
    ∧ r.2.mem ((c : Thread nD τ).loc main_v1_1) = FIN (m ((c : Thread nD τ).loc main_arg0)) (m ((c : Thread nD τ).loc main_arg1)) (m ((c : Thread nD τ).loc main_arg2))
        (m ((c : Thread nD τ).loc main_arg5))
    ∧ (r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5))) := by
  refine (θ_run defs _ _).mono (fun r h c => ⟨?_, ?_, ?_⟩) (θ_run_and (run_main m ρ) (unchanged m ρ))
  · refine ((h.1 c).1 7).trans ((final7 m c).trans ?_)
    unfold aQK aB aV aRB aG aS0
    rw [V_main_arg0, V_main_arg1, V_main_arg2, V_main_arg3, V_main_arg5]
  · refine ((h.1 c).1 8).trans ((final8 m c).trans ?_)
    unfold aQK aB aV aS0
    rw [V_main_arg0, V_main_arg1, V_main_arg2, V_main_arg5]
  · exact h.2 c

end Cert.GlaIdeal.Value

end
-- ==== Proof.GlaRef.lean ====
/- The reference of the gated linear attention over the extended reals: its operations before, in and after the loop over
   chunks read at an index, its run, and the value claim. -/
module

public import proofs.«01_k».proof.Proof.GlaValue
public import proofs.«01_k».proof.Proof.Gen.GlaRefIdeal.Run
public import proofs.«01_k».proof.Defs
public import Idealize.ShloMosaic.Lib.Pointwise
public import Idealize.ShloMosaic.Lib.Claim
public import Idealize.ShloMosaic.Lib.DynamicIndex
public import Idealize.ShloMosaic.Lib.WordCmp
public import Idealize.ShloMosaic.Lib.StableHlo.RunRead
public import Idealize.ShloMosaic.Lib.Quiescent

@[expose] public section

set_option maxRecDepth 16384

noncomputable section

namespace Cert.GlaRefIdeal.Value

open Cert.GlaRefIdeal Cert.GlaRefIdeal.Gen
open Idealize.ShloMosaic Idealize.ShloMosaic.TcCoe Idealize.SL.Sem
open Idealize.ShloMosaic.StableHlo
open Cert.GlaIdeal.Value (ST OO RS RES RES_at ix3_ext FIN row qs ks bs vs ST_succ)

/-! ## The operations as expressions of the arguments -/

section Pure
variable (QK : FVec Ideal S16x2048x1024 .f32) (B : FVec Ideal S16x2048x512 .f32) (V : FVec Ideal S16x2048x1024 .bf16)
  (RB : FVec Ideal S16x2048x1024 .f32) (G : FVec Ideal S4x256 .f32) (S0 : FVec Ideal S16x4x128x256 .f32)

/-- The queries in chunks, -/
def qC : FVec Ideal S16x32x64x4x128 .f32 :=
  shapeCast S16x32x64x4x128 (extractStridedSlice S16x2048x512 ![0, 0, 0] QK slices_S16x2048x1024_S16x2048x512_0_0_0) shapeCasts_S16x2048x512_S16x32x64x4x128
/-- the keys, -/
def kC : FVec Ideal S16x32x64x4x128 .f32 :=
  shapeCast S16x32x64x4x128 (extractStridedSlice S16x2048x512 ![0, 0, 512] QK slices_S16x2048x1024_S16x2048x512_0_0_512) shapeCasts_S16x2048x512_S16x32x64x4x128
/-- the log decays, -/
def bC : FVec Ideal S16x32x64x4x128 .f32 := shapeCast S16x32x64x4x128 B shapeCasts_S16x2048x512_S16x32x64x4x128
/-- the values, -/
def vC : FVec Ideal S16x32x64x4x256 .f32 := shapeCast S16x32x64x4x256 (extf .f32 V bitsLt_bf16_f32 : FVec Ideal S16x2048x1024 .f32) shapeCasts_S16x2048x1024_S16x32x64x4x256
/-- and each chunk's last log decay. -/
def lC : FVec Ideal S16x32x4x128 .f32 :=
  shapeCast S16x32x4x128 (extractStridedSlice S16x32x1x4x128 ![0, 0, 63, 0, 0] (bC B) slices_S16x32x64x4x128_S16x32x1x4x128_0_0_63_0_0) shapeCasts_S16x32x1x4x128_S16x32x4x128
/-- The decayed queries, -/
def qD : FVec Ideal S16x32x64x4x128 .f32 := mulf (qC QK) (Host.exp (bC B))
/-- the keys with the decay undone. -/
def kI : FVec Ideal S16x32x64x4x128 .f32 := mulf (kC QK) (Host.exp (Host.negf (bC B)))
/-- The causal mask. -/
def TRI : Vec Ideal S64x64 .i1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- The masked scores within each chunk. -/
def ATT : FVec Ideal S16x32x4x64x64 .f32 :=
  select (broadcastInDim S16x32x4x64x64 ![3, 4] bcast_S64x64_S16x32x4x64x64_3_4 TRI)
    (Host.dotGeneral dot_S16x32x64x4x128_S16x32x64x4x128_S16x32x4x64x64_4_4_2_2_013_013 none (qD QK B) (kI QK B))
    (broadcastInDim S16x32x4x64x64 ![] bcast_S_S16x32x4x64x64 (constant (F := Ideal) S_ .f32 0x00000000#32))
/-- The output within each chunk. -/
def INTRA : FVec Ideal S16x32x64x4x256 .f32 :=
  transpose S16x32x64x4x256 [0, 1, 4, 2, 3] (Host.dotGeneral dot_S16x32x64x4x256_S16x32x4x64x64_S16x32x4x256x64_2_4_4_3_013_012 none (vC V) (ATT QK B) : FVec Ideal S16x32x4x256x64 .f32)
    transposes_S16x32x4x256x64_S16x32x64x4x256_0_1_4_2_3
/-- The decay over each chunk, chunks first. -/
def DEC : FVec Ideal S32x16x4x128 .f32 := transpose S32x16x4x128 [1, 0, 2, 3] (Host.exp (lC B)) transposes_S16x32x4x128_S32x16x4x128_1_0_2_3
/-- What each chunk adds to the state, chunks first. -/
def DEL : FVec Ideal S32x16x4x128x256 .f32 :=
  transpose S32x16x4x128x256 [1, 0, 2, 3, 4] (Host.dotGeneral dot_S16x32x64x4x128_S16x32x64x4x256_S16x32x4x128x256_2_2_4_4_013_013 none
    (mulf (kC QK) (Host.exp (subf (broadcastInDim S16x32x64x4x128 ![0, 1, 2, 3, 4] bcast_S16x32x1x4x128_S16x32x64x4x128_0_1_2_3_4
      (broadcastInDim S16x32x1x4x128 ![0, 1, 3, 4] bcast_S16x32x4x128_S16x32x1x4x128_0_1_3_4 (lC B))) (bC B)))) (vC V)) transposes_S16x32x4x128x256_S32x16x4x128x256_1_0_2_3_4

theorem qC_at (b : Fin 16) (n : Fin 32) (i : Fin 64) (h : Fin 4) (d : Fin 128) : qC QK (ix5 b n i h d) = qs QK b h n i d := by
  have := n.isLt
  pointwise [qC, qs, row]
  exact congrArg QK (ix3_ext rfl (by simp only; omega) (by simp only; omega))
theorem kC_at (b : Fin 16) (n : Fin 32) (i : Fin 64) (h : Fin 4) (d : Fin 128) : kC QK (ix5 b n i h d) = ks QK b h n i d := by
  have := n.isLt
  pointwise [kC, ks, row]
  exact congrArg QK (ix3_ext rfl (by simp only; omega) (by simp only; omega))
theorem bC_at (b : Fin 16) (n : Fin 32) (i : Fin 64) (h : Fin 4) (d : Fin 128) : bC B (ix5 b n i h d) = bs B b h n i d := by
  have := n.isLt
  pointwise [bC, bs, row]
  exact congrArg B (ix3_ext rfl (by simp only; omega) (by simp only; omega))
theorem vC_at (b : Fin 16) (n : Fin 32) (i : Fin 64) (h : Fin 4) (e : Fin 256) : vC V (ix5 b n i h e) = vs V b h n i e := by
  have := n.isLt
  pointwise [vC, vs, row]
  exact congrArg V (ix3_ext rfl (by simp only; omega) (by simp only; omega))
theorem lC_at (b : Fin 16) (n : Fin 32) (h : Fin 4) (d : Fin 128) : lC B (ix4 b n h d) = bs B b h n 63 d := by
  have := n.isLt
  pointwise [lC, bC, bs, row]
  exact congrArg B (ix3_ext rfl (by simp only; omega) (by simp only; omega))
theorem DEC_at (b : Fin 16) (n : Fin 32) (h : Fin 4) (d : Fin 128) : DEC B (ix4 n b h d) = Ideal.exp (bs B b h n 63 d) := by
  rw [← lC_at]; pointwise [DEC]
theorem qD_at (b : Fin 16) (n : Fin 32) (i : Fin 64) (h : Fin 4) (d : Fin 128) : qD QK B (ix5 b n i h d) = qs QK b h n i d * Ideal.exp (bs B b h n i d) := by
  rw [← qC_at, ← bC_at]; pointwise [qD]
theorem kI_at (b : Fin 16) (n : Fin 32) (i : Fin 64) (h : Fin 4) (d : Fin 128) : kI QK B (ix5 b n i h d) = ks QK b h n i d * Ideal.exp (0 - bs B b h n i d) := by
  rw [← kC_at, ← bC_at, zero_sub]; pointwise [kI]
theorem DEL_at (b : Fin 16) (n : Fin 32) (h : Fin 4) (d : Fin 128) (e : Fin 256) : DEL QK B V (ix5 n b h d e)
    = ∑ j : Fin 64, vs V b h n j e * (ks QK b h n j d * Ideal.exp (bs B b h n 63 d - bs B b h n j d)) := by
  have e' : DEL QK B V (ix5 n b h d e) = ∑ x : Fin 64, kC QK (ix5 b n x h d) * Ideal.exp (lC B (ix4 b n h d) - bC B (ix5 b n x h d)) * vC V (ix5 b n x h e) := by
    pointwise [DEL]
  rw [e']
  refine Finset.sum_congr rfl fun j _ => ?_
  rw [kC_at, lC_at, bC_at, vC_at, mul_comm]
theorem TRI_at : ∀ i j : Fin 64, TRI (ix2 i j) = if j.val ≤ i.val then 1#1 else 0#1 := by
  have h : ∀ i j : Fin 64, Scalar.select (IntOp.cmpi .sge (IntOp.addi (BitVec.ofNat 32 i.val) 0#32) (BitVec.ofNat 32 j.val)) (1#1) (0#1) = if j.val ≤ i.val then 1#1 else 0#1 := by
    decide +kernel
  intro i j
  refine Eq.trans ?_ (h i j)
  rfl
theorem ATT_at (b : Fin 16) (n : Fin 32) (h : Fin 4) (i j : Fin 64) : ATT QK B (ix5 b n h i j)
    = if j.val ≤ i.val then ∑ d : Fin 128, qs QK b h n i d * Ideal.exp (bs B b h n i d) * (ks QK b h n j d * Ideal.exp (0 - bs B b h n j d)) else 0 := by
  simp only [← qD_at, ← kI_at]
  pointwise [ATT]
  rw [TRI_at]
  by_cases hh : j.val ≤ i.val
  · rw [if_pos hh, if_pos hh]; first | rfl | simp [Scalar.select]
  · rw [if_neg hh, if_neg hh]; first | rfl | simp [Scalar.select]
theorem INTRA_at (b : Fin 16) (n : Fin 32) (i : Fin 64) (h : Fin 4) (e : Fin 256) : INTRA QK B V (ix5 b n i h e)
    = ∑ j : Fin 64, (if j.val ≤ i.val then ∑ d : Fin 128, qs QK b h n i d * Ideal.exp (bs B b h n i d) * (ks QK b h n j d * Ideal.exp (0 - bs B b h n j d)) else 0) * vs V b h n j e := by
  have e' : INTRA QK B V (ix5 b n i h e) = ∑ j : Fin 64, vC V (ix5 b n j h e) * ATT QK B (ix5 b n h i j) := by
    pointwise [INTRA]
  rw [e']
  refine Finset.sum_congr rfl fun j _ => ?_
  rw [vC_at, ATT_at, mul_comm]

/-- The outputs from the states before each chunk and the outputs within each chunk: the norm, the scale and the gate. -/
def OC (P : FVec Ideal S32x16x4x128x256 .f32) (Q : FVec Ideal S16x32x64x4x128 .f32) (A : FVec Ideal S16x32x64x4x256 .f32) : FVec Ideal S16x2048x4x256 .f32 :=
  shapeCast S16x2048x4x256 (addf A (transpose S16x32x64x4x256 [0, 1, 4, 2, 3]
    (Host.dotGeneral dot_S32x16x4x128x256_S16x32x64x4x128_S16x32x4x256x64_3_4_4_2_102_013 none P Q : FVec Ideal S16x32x4x256x64 .f32)
    transposes_S16x32x4x256x64_S16x32x64x4x256_0_1_4_2_3) : FVec Ideal S16x32x64x4x256 .f32) shapeCasts_S16x32x64x4x256_S16x2048x4x256
def NC (O : FVec Ideal S16x2048x4x256 .f32) : FVec Ideal S16x2048x4x256 .f32 :=
  mulf (mulf O (broadcastInDim S16x2048x4x256 ![0, 1, 2, 3] bcast_S16x2048x4x1_S16x2048x4x256_0_1_2_3
    (Host.rsqrt (addf (Host.divf (broadcastInDim S16x2048x4x1 ![0, 1, 2] bcast_S16x2048x4_S16x2048x4x1_0_1_2
        (Host.reduceAdd (mulf O O) (constant (F := Ideal) S_ .f32 0x00000000#32) reducesTo_S16x2048x4x256_S16x2048x4_d3 h_S_))
      (broadcastInDim S16x2048x4x1 ![] bcast_S_S16x2048x4x1 (constant (F := Ideal) S_ .f32 0x43800000#32)))
      (broadcastInDim S16x2048x4x1 ![] bcast_S_S16x2048x4x1 (constant (F := Ideal) S_ .f32 0x358637BD#32))))))
    (broadcastInDim S16x2048x4x256 ![0, 1, 2, 3] bcast_S1x1x4x256_S16x2048x4x256_0_1_2_3 (broadcastInDim S1x1x4x256 ![2, 3] bcast_S4x256_S1x1x4x256_2_3 G))
def SIL : FVec Ideal S16x2048x1024 .f32 :=
  mulf RB (Host.divf (broadcastInDim S16x2048x1024 ![] bcast_S_S16x2048x1024 (constant (F := Ideal) S_ .f32 0x3F800000#32))
    (addf (broadcastInDim S16x2048x1024 ![] bcast_S_S16x2048x1024 (constant (F := Ideal) S_ .f32 0x3F800000#32)) (Host.exp (Host.negf RB))))
def OUTC (O : FVec Ideal S16x2048x4x256 .f32) : FVec Ideal S16x2048x1024 .bf16 :=
  (truncf .bf16 (mulf (shapeCast S16x2048x1024 (NC G O) shapeCasts_S16x2048x4x256_S16x2048x1024) (SIL RB) : FVec Ideal S16x2048x1024 .f32) bitsLt_bf16_f32)

theorem SIL_at (y : S16x2048x1024.Idx) : SIL RB y = RB y * Ideal.logistic (RB y) := by
  pointwise [SIL]
  rfl

theorem OC_at (P : FVec Ideal S32x16x4x128x256 .f32) (Q : FVec Ideal S16x32x64x4x128 .f32) (A : FVec Ideal S16x32x64x4x256 .f32)
    (b : Fin 16) (r : Fin 2048) (h : Fin 4) (e : Fin 256) (n : Fin 32) (i : Fin 64) (hn : n.val = r.val / 64) (hi : i.val = r.val % 64) :
    OC P Q A (ix4 b r h e) = A (ix5 b n i h e) + ∑ d : Fin 128, Q (ix5 b n i h d) * P (ix5 n b h d e) := by
  have en : n = ⟨r.val / 64, by have := r.isLt; omega⟩ := Fin.ext hn
  have ei : i = ⟨r.val % 64, Nat.mod_lt _ (by decide)⟩ := Fin.ext hi
  rw [en, ei]
  simp only [mul_comm (Q _)]
  pointwise [OC]

theorem NC_at (O : FVec Ideal S16x2048x4x256 .f32) (b : Fin 16) (r : Fin 2048) (h : Fin 4) (e : Fin 256) :
    NC G O (ix4 b r h e) = O (ix4 b r h e) * Ideal.rsqrt (Ideal.div (∑ x : Fin 256, O (ix4 b r h x) * O (ix4 b r h x)) (Ideal.ofBits .f32 0x43800000#32)
      + Ideal.ofBits .f32 0x358637BD#32) * G (ix2 h e) := by
  pointwise [NC]

theorem OUTC_at (O : FVec Ideal S16x2048x4x256 .f32) (b : Fin 16) (r : Fin 2048) (l : Fin 1024) :
    OUTC RB G O (ix3 b r l) = NC G O (ix4 b r ⟨l.val / 256, by have := l.isLt; omega⟩ ⟨l.val % 256, Nat.mod_lt _ (by decide)⟩)
      * (RB (ix3 b r l) * Ideal.logistic (RB (ix3 b r l))) := by
  rw [← SIL_at]
  pointwise [OUTC]

/-- Where `P` is the states before each chunk, the attention's outputs. -/
theorem OC_eq (P : FVec Ideal S32x16x4x128x256 .f32)
    (hP : ∀ (n : Fin 32) (b : Fin 16) (h : Fin 4) (d : Fin 128) (e : Fin 256), P (ix5 n b h d e) = ST QK B V S0 b h n d e)
    (b : Fin 16) (r : Fin 2048) (h : Fin 4) (e : Fin 256) :
    OC P (qD QK B) (INTRA QK B V) (ix4 b r h e) = OO QK B V S0 b h (r.val / 64) ⟨r.val % 64, Nat.mod_lt _ (by decide)⟩ e := by
  rw [OC_at _ _ _ b r h e ⟨r.val / 64, by have := r.isLt; omega⟩ ⟨r.val % 64, Nat.mod_lt _ (by decide)⟩ rfl rfl, INTRA_at]
  unfold OO
  exact Ideal.add_congr rfl (Finset.sum_congr rfl fun d _ => Ideal.mul_congr (qD_at _ _ _ _ _ _ _) (hP _ _ _ _ _))

/-- Where `O` is the attention's outputs, the result is the array of outputs. -/
theorem OUTC_eq (O : FVec Ideal S16x2048x4x256 .f32)
    (hO : ∀ (b : Fin 16) (r : Fin 2048) (h : Fin 4) (e : Fin 256), O (ix4 b r h e) = OO QK B V S0 b h (r.val / 64) ⟨r.val % 64, Nat.mod_lt _ (by decide)⟩ e) :
    OUTC RB G O = RES QK B V RB G S0 := by
  have h : ∀ (b : Fin 16) (r : Fin 2048) (l : Fin 1024), OUTC RB G O (ix3 b r l) = RES QK B V RB G S0 (ix3 b r l) := by
    intro b r l
    rw [OUTC_at, NC_at, RES_at]
    simp only [hO]
  funext y
  idx_vars y
  exact h _ _ _
end Pure

/-! ## The loop -/

theorem iv_eq : ∀ k : Fin 32, Scf.iv 0#32 1#32 k.val = BitVec.ofNat 32 k.val := by decide

theorem fits4 (k : Fin 32) : S32x16x4x128.Slices ![k.val, 0, 0, 0] S1x16x4x128 :=
  ⟨rfl, fun a => by have := k.isLt; fin_cases a <;> simp <;> omega⟩

theorem fits5 (k : Fin 32) : S32x16x4x128x256.Slices ![k.val, 0, 0, 0, 0] S1x16x4x128x256 :=
  ⟨rfl, fun a => by have := k.isLt; fin_cases a <;> simp <;> omega⟩

theorem start4 (k : Fin 32) (a : Fin 4) : (((![fun _ => BitVec.ofNat 32 k.val, constantI S_ 32 0#32, constantI S_ 32 0#32, constantI S_ 32 0#32] :
    Fin 4 → (⟨S_, .i32⟩ : BufTy).Contents (Elt Ideal))) a (Shape.Idx.first h_S_)).toInt = ((![k.val, 0, 0, 0] a : ℕ) : Int) := by
  fin_cases a
  · exact toInt_ofNat_of_lt (by have := k.isLt; omega)
  all_goals rfl

theorem start5 (k : Fin 32) (a : Fin 5) : (((![fun _ => BitVec.ofNat 32 k.val, constantI S_ 32 0#32, constantI S_ 32 0#32, constantI S_ 32 0#32, constantI S_ 32 0#32] :
    Fin 5 → (⟨S_, .i32⟩ : BufTy).Contents (Elt Ideal))) a (Shape.Idx.first h_S_)).toInt = ((![k.val, 0, 0, 0, 0] a : ℕ) : Int) := by
  fin_cases a
  · exact toInt_ofNat_of_lt (by have := k.isLt; omega)
  all_goals rfl

theorem step3_at (X : Valuation τ sig (Elt Ideal)) (D : FVec Ideal S32x16x4x128 .f32) (L : FVec Ideal S32x16x4x128x256 .f32) (S : FVec Ideal S16x4x128x256 .f32)
    (k : Fin 32) (h0 : X (Proc.devRef .tc main_v30_0) = D) (h1 : X (Proc.devRef .tc main_v30_1) = L)
    (h2 : X (Proc.devRef .tc main_v30_2) = fun _ => BitVec.ofNat 32 k.val) (h3 : X (Proc.devRef .tc main_v30_3) = S)
    (b : Fin 16) (h : Fin 4) (d : Fin 128) (e : Fin 256) :
    (show FVec Ideal S16x4x128x256 .f32 from step_main_v30_3 X) (ix4 b h d e) = D (ix4 k b h d) * S (ix4 b h d e) + L (ix5 k b h d e) := by
  have hk := k.isLt
  unfold step_main_v30_3
  rw [h0, h1, h2, h3]
  have e4 : ∀ st, (∀ a, st a = ((![k.val, 0, 0, 0] a : ℕ) : Int)) → Host.dynamicSlice S1x16x4x128 D st sliceFits_S32x16x4x128_S1x16x4x128
      = extractStridedSlice S1x16x4x128 ![k.val, 0, 0, 0] D (fits4 k) := fun st hs => WordCmp.dynamicSlice_eq_extract _ D _ _ _ (fits4 k) hs
  have e5 : ∀ st, (∀ a, st a = ((![k.val, 0, 0, 0, 0] a : ℕ) : Int)) → Host.dynamicSlice S1x16x4x128x256 L st sliceFits_S32x16x4x128x256_S1x16x4x128x256
      = extractStridedSlice S1x16x4x128x256 ![k.val, 0, 0, 0, 0] L (fits5 k) := fun st hs => WordCmp.dynamicSlice_eq_extract _ L _ _ _ (fits5 k) hs
  rw [e4, e5]
  · simp only [id]
    pointwise
  · exact start5 k
  · exact start4 k

theorem step4_at (X : Valuation τ sig (Elt Ideal)) (P : FVec Ideal S32x16x4x128x256 .f32) (S : FVec Ideal S16x4x128x256 .f32)
    (k : Fin 32) (h4 : X (Proc.devRef .tc main_v30_4) = P)
    (h2 : X (Proc.devRef .tc main_v30_2) = fun _ => BitVec.ofNat 32 k.val) (h3 : X (Proc.devRef .tc main_v30_3) = S)
    (n : Fin 32) (b : Fin 16) (h : Fin 4) (d : Fin 128) (e : Fin 256) :
    (show FVec Ideal S32x16x4x128x256 .f32 from step_main_v30_4 X) (ix5 n b h d e) = if n.val = k.val then S (ix4 b h d e) else P (ix5 n b h d e) := by
  have hk := k.isLt
  unfold step_main_v30_4
  rw [h2, h3, h4]
  have e5 : ∀ (U : FVec Ideal S1x16x4x128x256 .f32) st, (∀ a, st a = ((![k.val, 0, 0, 0, 0] a : ℕ) : Int)) → Host.dynamicUpdateSlice P U st updateFits_S32x16x4x128x256_S1x16x4x128x256
      = updateSlice P U ![k.val, 0, 0, 0, 0] (fits5 k) := fun U st hs => WordCmp.dynamicUpdateSlice_eq_update P U _ _ _ (fits5 k) hs
  rw [e5]
  · simp only [id]
    pointwise
    by_cases hh : n.val = k.val
    · rw [if_pos hh, dif_pos (by omega)]
    · rw [if_neg hh, dif_neg (by omega)]
  · exact start5 k

/-! ## The memory before, through and after the loop -/

variable (m : (ℓ : Loc nD τ sig) → Buf (Elt Ideal) ℓ) (ρ : Dev nD → PrngReg)

abbrev rQK (c : Dev nD) : FVec Ideal S16x2048x1024 .f32 := m ((c : Thread nD τ).loc main_arg0)
abbrev rB (c : Dev nD) : FVec Ideal S16x2048x512 .f32 := m ((c : Thread nD τ).loc main_arg1)
abbrev rV (c : Dev nD) : FVec Ideal S16x2048x1024 .bf16 := m ((c : Thread nD τ).loc main_arg2)
abbrev rRB (c : Dev nD) : FVec Ideal S16x2048x1024 .f32 := m ((c : Thread nD τ).loc main_arg3)
abbrev rG (c : Dev nD) : FVec Ideal S4x256 .f32 := m ((c : Thread nD τ).loc main_arg4)
abbrev rS0 (c : Dev nD) : FVec Ideal S16x4x128x256 .f32 := m ((c : Thread nD τ).loc main_arg5)

theorem entry_0 (c : Dev nD) : entryContents preI m c (Proc.devRef .tc main_v30_0) = DEC (rB m c) := by
  simp only [entryContents, afterL_cons, afterL_nil]
  after_reads_simp
  rfl

theorem entry_1 (c : Dev nD) : entryContents preI m c (Proc.devRef .tc main_v30_1) = DEL (rQK m c) (rB m c) (rV m c) := by
  simp only [entryContents, afterL_cons, afterL_nil]
  after_reads_simp
  rfl

theorem entry_3 (c : Dev nD) : entryContents preI m c (Proc.devRef .tc main_v30_3) = rS0 m c := by
  simp only [entryContents, afterL_cons, afterL_nil]
  after_reads_simp
  rfl

theorem entry_v10 (c : Dev nD) : entryContents preI m c (Proc.devRef .tc main_v10) = qD (rQK m c) (rB m c) := by
  simp only [entryContents, afterL_cons, afterL_nil]
  after_reads_simp
  rfl

theorem entry_v19 (c : Dev nD) : entryContents preI m c (Proc.devRef .tc main_v19) = INTRA (rQK m c) (rB m c) (rV m c) := by
  simp only [entryContents, afterL_cons, afterL_nil]
  after_reads_simp
  rfl

/-- A buffer no operation before the loop writes is as launched at its entry. -/
theorem entry_keep (c : Dev nD) (r : Ref sig .tc) (h0 : r ∉ hostOps0_W) (h1 : r ∉ hostOps0_1_W) (h2 : r ∉ hostOps0_2_W) (h3 : r ∉ hostOps0_3_W) (h4 : r ∉ hostOps0_4_W) :
    entryContents preI m c (Proc.devRef .tc r) = m ((c : Thread nD τ).loc r) := by
  simp only [entryContents, afterL_cons, afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- A buffer no operation of a trip writes is through every trip as at the loop's entry. -/
theorem atK_keep (c : Dev nD) (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc, atK_keep c r hc h0 h1 h2 h3 h4 k]
    rfl

theorem atK_0 (c : Dev nD) : ∀ k, atK m k c (Proc.devRef .tc main_v30_0) = DEC (rB m c)
  | 0 => entry_0 m c
  | k + 1 => (trip_agree (atK m k c) main_v30_0 (by decide)).trans ((STEP_main_v30_0 _).trans (atK_0 c k))

theorem atK_1 (c : Dev nD) : ∀ k, atK m k c (Proc.devRef .tc main_v30_1) = DEL (rQK m c) (rB m c) (rV m c)
  | 0 => entry_1 m c
  | k + 1 => (trip_agree (atK m k c) main_v30_1 (by decide)).trans ((STEP_main_v30_1 _).trans (atK_1 c k))

/-- The state carried into trip `k` is the recurrence's. -/
theorem atK_3 (c : Dev nD) (k : ℕ) (hk : k ≤ 32) (b : Fin 16) (h : Fin 4) (d : Fin 128) (e : Fin 256) :
    (show FVec Ideal S16x4x128x256 .f32 from atK m k c (Proc.devRef .tc main_v30_3)) (ix4 b h d e) = ST (rQK m c) (rB m c) (rV m c) (rS0 m c) b h k d e := by
  induction k generalizing b h d e with
  | zero => rw [show atK m 0 c = entryContents preI m c from rfl, entry_3]; rfl
  | succ k ih =>
    rw [show atK m (k + 1) c (Proc.devRef .tc main_v30_3) = step_main_v30_3 (atK m k c) from
      (trip_agree (atK m k c) main_v30_3 (by decide)).trans (STEP_main_v30_3 _)]
    rw [step3_at (atK m k c) _ _ _ ⟨k, by omega⟩ (atK_0 m c k) (atK_1 m c k) ((atK_ctr m c k).trans (funext fun _ => iv_eq ⟨k, by omega⟩)) rfl,
      DEC_at, DEL_at, ST_succ]
    exact Ideal.add_congr ((mul_comm _ _).trans (congrArg (· * _) (ih (by omega) b h d e))) rfl

/-- Before trip `k` the first `k` rows of the collected states are the states before each chunk. -/
theorem atK_4 (c : Dev nD) (k : ℕ) (hk : k ≤ 32) (n : Fin 32) (hn : n.val < k) (b : Fin 16) (h : Fin 4) (d : Fin 128) (e : Fin 256) :
    (show FVec Ideal S32x16x4x128x256 .f32 from atK m k c (Proc.devRef .tc main_v30_4)) (ix5 n b h d e) = ST (rQK m c) (rB m c) (rV m c) (rS0 m c) b h n d e := by
  induction k with
  | zero => omega
  | succ k ih =>
    rw [show atK m (k + 1) c (Proc.devRef .tc main_v30_4) = step_main_v30_4 (atK m k c) from
      (trip_agree (atK m k c) main_v30_4 (by decide)).trans (STEP_main_v30_4 _)]
    rw [step4_at (atK m k c) _ _ ⟨k, by omega⟩ rfl ((atK_ctr m c k).trans (funext fun _ => iv_eq ⟨k, by omega⟩)) rfl]
    by_cases hh : n.val = k
    · rw [if_pos hh, hh]; exact atK_3 m c k (by omega) b h d e
    · rw [if_neg hh]; exact ih (by omega) (by omega)

theorem post_v51 (X : Valuation τ sig (Elt Ideal)) : afterL postI (after condOps X) (Proc.devRef .tc main_v51)
    = OUTC (X (Proc.devRef .tc main_arg3)) (X (Proc.devRef .tc main_arg4)) (OC (X (Proc.devRef .tc main_v30_4)) (X (Proc.devRef .tc main_v10)) (X (Proc.devRef .tc main_v19))) := by
  simp only [afterL_cons, afterL_nil]
  after_reads_simp
  rfl

theorem post_keep (X : Valuation τ sig (Elt Ideal)) (r : Ref sig .tc) (hr : r ∈ [main_v30_3, main_arg0, main_arg1, main_arg2, main_arg3, main_arg4, main_arg5]) :
    afterL postI (after condOps X) (Proc.devRef .tc r) = X (Proc.devRef .tc r) := by
  simp only [afterL_cons, afterL_nil]
  fin_cases hr <;> after_reads_simp

theorem loop_arg (c : Dev nD) (r : Ref sig .tc) (hr : r ∈ [main_arg0, main_arg1, main_arg2, main_arg3, main_arg4, main_arg5]) :
    atK m 32 c (Proc.devRef .tc r) = m ((c : Thread nD τ).loc r) := by
  fin_cases hr <;> exact (atK_keep m c _ (by decide) (by decide) (by decide) (by decide) (by decide) (by decide) 32).trans
    (entry_keep m c _ (by decide) (by decide) (by decide) (by decide) (by decide))

/-- The reference's second result is the array of final states, -/
theorem final_state (c : Dev nD) : finalContents condOps preI bodyI postI 32 m c (Proc.devRef .tc main_v30_3) = FIN (rQK m c) (rB m c) (rV m c) (rS0 m c) := by
  refine (post_keep _ main_v30_3 (by decide)).trans (funext fun y => ?_)
  idx_vars y
  exact atK_3 m c 32 le_rfl _ _ _ _

/-- and its first the array of outputs. -/
theorem final_out (c : Dev nD) : finalContents condOps preI bodyI postI 32 m c (Proc.devRef .tc main_v51)
    = RES (rQK m c) (rB m c) (rV m c) (rRB m c) (rG m c) (rS0 m c) := by
  refine (post_v51 (atK m 32 c)).trans ?_
  rw [loop_arg m c main_arg3 (by decide), loop_arg m c main_arg4 (by decide),
    atK_keep m c main_v10 (by decide) (by decide) (by decide) (by decide) (by decide) (by decide) 32,
    atK_keep m c main_v19 (by decide) (by decide) (by decide) (by decide) (by decide) (by decide) 32, entry_v10, entry_v19]
  have hO : ∀ (b : Fin 16) (r : Fin 2048) (h : Fin 4) (e : Fin 256),
      OC (atK m 32 c (Proc.devRef .tc main_v30_4)) (qD (rQK m c) (rB m c)) (INTRA (rQK m c) (rB m c) (rV m c)) (ix4 b r h e)
        = OO (rQK m c) (rB m c) (rV m c) (rS0 m c) b h (r.val / 64) ⟨r.val % 64, Nat.mod_lt _ (by decide)⟩ e := by
    intro b r h e
    exact OC_eq _ _ _ _ _ (fun n b h d e => atK_4 m c 32 le_rfl n n.isLt b h d e) b r h e
  exact OUTC_eq _ _ _ _ _ _ _ hO

/-- The reference's run: its results, its arguments unchanged. -/
theorem run : θ_run (defs (F := Ideal)) (onTc (τ := τ) (main (F := Ideal))) ⟨m, fun _ => 0, ρ⟩ (fun r => ∀ c : Dev nD,
    r.2.mem ((c.tc : Thread nD τ).loc main_v51) = RES (rQK m c) (rB m c) (rV m c) (rRB m c) (rG m c) (rS0 m c)
    ∧ r.2.mem ((c.tc : Thread nD τ).loc main_v30_3) = FIN (rQK m c) (rB m c) (rV m c) (rS0 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run _ _ _).mono (fun r h c => ?_) (run_fold m ρ)
  have ha : ∀ a ∈ [main_arg0, main_arg1, main_arg2, main_arg3, main_arg4, main_arg5], (Proc.devRef .tc a : DevRef τ sig).isScoped = false →
      r.2.mem ((c.tc : Thread nD τ).loc a) = m ((c.tc : Thread nD τ).loc a) := fun a hm hs =>
    (h c a hs).trans ((post_keep _ a (List.mem_cons_of_mem _ hm)).trans (loop_arg m c a hm))
  exact ⟨(h c main_v51 rfl).trans (final_out m c), (h c main_v30_3 rfl).trans (final_state m c), ha _ (by decide) rfl, ha _ (by decide) rfl,
    ha _ (by decide) rfl, ha _ (by decide) rfl, ha _ (by decide) rfl, ha _ (by decide) rfl⟩

/-- The reference ends with its arguments unchanged and every counter at zero. -/
theorem frame : Cert.quiescent_GlaRefIdeal := by
  intro m g _
  exact (θ_run Cert.GlaRefIdeal.defs _ _).mono (fun r h => ⟨fun c => (h c).2.2, sem_eq_zero_of_no_sems (by decide) r.2⟩) (run m g)

/-- The kernel's results are the reference's, over the extended reals. -/
theorem algebraic : Cert.algebraic_GlaIdeal_GlaRefIdeal := by
  intro m g m' g' _ hagree
  refine ⟨fun c => RES (m ((c.tc : Thread Cert.GlaIdeal.nD Cert.GlaIdeal.τ).loc Cert.GlaIdeal.main_arg0)) (m ((c.tc : Thread Cert.GlaIdeal.nD Cert.GlaIdeal.τ).loc Cert.GlaIdeal.main_arg1))
      (m ((c.tc : Thread Cert.GlaIdeal.nD Cert.GlaIdeal.τ).loc Cert.GlaIdeal.main_arg2)) (m ((c.tc : Thread Cert.GlaIdeal.nD Cert.GlaIdeal.τ).loc Cert.GlaIdeal.main_arg3))
      (m ((c.tc : Thread Cert.GlaIdeal.nD Cert.GlaIdeal.τ).loc Cert.GlaIdeal.main_arg4)) (m ((c.tc : Thread Cert.GlaIdeal.nD Cert.GlaIdeal.τ).loc Cert.GlaIdeal.main_arg5)),
    fun c => FIN (m ((c.tc : Thread Cert.GlaIdeal.nD Cert.GlaIdeal.τ).loc Cert.GlaIdeal.main_arg0)) (m ((c.tc : Thread Cert.GlaIdeal.nD Cert.GlaIdeal.τ).loc Cert.GlaIdeal.main_arg1))
      (m ((c.tc : Thread Cert.GlaIdeal.nD Cert.GlaIdeal.τ).loc Cert.GlaIdeal.main_arg2)) (m ((c.tc : Thread Cert.GlaIdeal.nD Cert.GlaIdeal.τ).loc Cert.GlaIdeal.main_arg5)),
    (θ_run _ _ _).mono (fun _ h c => h c) (Cert.GlaIdeal.Value.run_value m g),
    (θ_run _ _ _).mono (fun _ h c => ?_) (run m' g')⟩
  obtain ⟨a0, a1, a2, a3, a4, a5⟩ := hagree c
  refine ⟨(h c).1.trans ?_, (h c).2.1.trans ?_, (h c).2.2⟩
  · unfold rQK rB rV rRB rG rS0; rw [a0, a1, a2, a3, a4, a5]
  · unfold rQK rB rV rS0; rw [a0, a1, a2, a5]

end Cert.GlaRefIdeal.Value

end
-- ==== Proof.InpBlock.lean ====
/- The input projection on one block of 256 rows: the normalized rows, their products with the slabs of the weights, and
   what the body's stores leave in each output buffer. -/
module

public import proofs.«01_k».proof.Proof.Gen.InpIdeal.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.InpIdeal.Value

open Idealize.ShloMosaic Idealize.ShloMosaic.TcCoe
open Cert.InpIdeal Cert.InpIdeal.Gen
open Idealize.SL Idealize.SL.Sem

variable {F : FTy → Type} [FloatOps F] [Named F]

/-! ## Eight heads side by side, and eight heads interleaved -/

/-- Eight blocks of 128 columns side by side. -/
def cols (p : Fin 8 → FVec F S256x128 .f32) : Vec F S256x1024 .f32 := fun y =>
  p ⟨(y 1).val / 128, by have : (y 1).val < 1024 := (y 1).isLt; omega⟩
    (ix2 (⟨(y 0).val, (y 0).isLt⟩ : Fin 256) (⟨(y 1).val % 128, Nat.mod_lt _ (by decide)⟩ : Fin 128))

/-- Eight blocks of 256 rows interleaved: row `8 n + h` is row `n` of block `h`. -/
def rows (p : Fin 8 → FVec F S256x128 .f32) : Vec F S2048x128 .f32 := fun y =>
  p ⟨(y 0).val % 8, Nat.mod_lt _ (by decide)⟩
    (ix2 (⟨(y 0).val / 8, by have : (y 0).val < 2048 := (y 0).isLt; omega⟩ : Fin 256) (⟨(y 1).val, (y 1).isLt⟩ : Fin 128))

theorem cols_at (p : Fin 8 → FVec F S256x128 .f32) (h : Fin 8) (x : S256x128.Idx) (y : S256x1024.Idx)
    (h0 : (y 0).val = (x 0).val) (h1 : (y 1).val = 128 * h.val + (x 1).val) : cols p y = p h x := by
  have hx : (x 1).val < 128 := (x 1).isLt
  have e : (⟨(y 1).val / 128, by have : (y 1).val < 1024 := (y 1).isLt; omega⟩ : Fin 8) = h := Fin.ext (by show (y 1).val / 128 = h.val; omega)
  unfold cols
  rw [e]
  refine congrArg (p h) (funext fun a => ?_)
  fin_cases a
  · exact Fin.ext h0
  · exact Fin.ext (by show (y 1).val % 128 = (x 1).val; omega)

theorem rows_at (p : Fin 8 → FVec F S256x128 .f32) (h : Fin 8) (x : S256x128.Idx) (y : S2048x128.Idx)
    (h0 : (y 0).val = h.val + 8 * (x 0).val) (h1 : (y 1).val = (x 1).val) : rows p y = p h x := by
  have hh := h.isLt
  have e : (⟨(y 0).val % 8, Nat.mod_lt _ (by decide)⟩ : Fin 8) = h := Fin.ext (by show (y 0).val % 8 = h.val; omega)
  unfold rows
  rw [e]
  refine congrArg (p h) (funext fun a => ?_)
  fin_cases a
  · exact Fin.ext (by show (y 0).val / 8 = (x 0).val; omega)
  · exact Fin.ext h1

/-- Eight stores of 128 columns each leave the eight blocks side by side. -/
theorem tiles8 {arg : Memref sig .tc .vmem S256x1024 .f32} (f : BufTy.Contents (Elt F) arg.view.ty) (p : Fin 8 → FVec F S256x128 .f32) :
    View.read (Elt F) arg.view (arg.view.writes (Elt F) f
      [⟨Rect.unit (s := S256x1024) ![0, 896] S256x128.size inb_S256x1024_S256x128_0_896, p 7⟩,
       ⟨Rect.unit (s := S256x1024) ![0, 768] S256x128.size inb_S256x1024_S256x128_0_768, p 6⟩,
       ⟨Rect.unit (s := S256x1024) ![0, 640] S256x128.size inb_S256x1024_S256x128_0_640, p 5⟩,
       ⟨Rect.unit (s := S256x1024) ![0, 512] S256x128.size inb_S256x1024_S256x128_0_512, p 4⟩,
       ⟨Rect.unit (s := S256x1024) ![0, 384] S256x128.size inb_S256x1024_S256x128_0_384, p 3⟩,
       ⟨Rect.unit (s := S256x1024) ![0, 256] S256x128.size inb_S256x1024_S256x128_0_256, p 2⟩,
       ⟨Rect.unit (s := S256x1024) ![0, 128] S256x128.size inb_S256x1024_S256x128_0_128, p 1⟩,
       ⟨Rect.unit (s := S256x1024) ![0, 0] S256x128.size inb_S256x1024_S256x128_0_0, p 0⟩]) = cols p := by
  funext y
  have hd : (y 1).val / 128 < 8 := by have : (y 1).val < 1024 := (y 1).isLt; omega
  refine (View.read_writes_apply_eq_canon _ _ _ _ ?hc).trans (View.canon_apply_of_pieces _ _ ?_ y ?hc)
  case hc =>
    have hcase : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
    rcases hcase with h | h | h | h | h | h | h | h
    · have e : (Rect.unit (s := S256x1024) ![0, 0] S256x128.size inb_S256x1024_S256x128_0_0).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 0 + 1 * ((y 1).val % 128) = (y 1).val; omega)
      exact ⟨⟨Rect.unit (s := S256x1024) ![0, 0] S256x128.size inb_S256x1024_S256x128_0_0, p 0⟩, List.Mem.tail _ (List.Mem.tail _ (List.Mem.tail _ (List.Mem.tail _ (List.Mem.tail _ (List.Mem.tail _ (List.Mem.tail _ (List.Mem.head _))))))), e ▸ (Rect.unit (s := S256x1024) ![0, 0] S256x128.size inb_S256x1024_S256x128_0_0).idx_mem (ix2 (⟨(y 0).val, (y 0).isLt⟩ : Fin 256) (⟨(y 1).val % 128, Nat.mod_lt _ (by decide)⟩ : Fin 128))⟩
    · have e : (Rect.unit (s := S256x1024) ![0, 128] S256x128.size inb_S256x1024_S256x128_0_128).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 128 + 1 * ((y 1).val % 128) = (y 1).val; omega)
      exact ⟨⟨Rect.unit (s := S256x1024) ![0, 128] S256x128.size inb_S256x1024_S256x128_0_128, p 1⟩, List.Mem.tail _ (List.Mem.tail _ (List.Mem.tail _ (List.Mem.tail _ (List.Mem.tail _ (List.Mem.tail _ (List.Mem.head _)))))), e ▸ (Rect.unit (s := S256x1024) ![0, 128] S256x128.size inb_S256x1024_S256x128_0_128).idx_mem (ix2 (⟨(y 0).val, (y 0).isLt⟩ : Fin 256) (⟨(y 1).val % 128, Nat.mod_lt _ (by decide)⟩ : Fin 128))⟩
    · have e : (Rect.unit (s := S256x1024) ![0, 256] S256x128.size inb_S256x1024_S256x128_0_256).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 256 + 1 * ((y 1).val % 128) = (y 1).val; omega)
      exact ⟨⟨Rect.unit (s := S256x1024) ![0, 256] S256x128.size inb_S256x1024_S256x128_0_256, p 2⟩, List.Mem.tail _ (List.Mem.tail _ (List.Mem.tail _ (List.Mem.tail _ (List.Mem.tail _ (List.Mem.head _))))), e ▸ (Rect.unit (s := S256x1024) ![0, 256] S256x128.size inb_S256x1024_S256x128_0_256).idx_mem (ix2 (⟨(y 0).val, (y 0).isLt⟩ : Fin 256) (⟨(y 1).val % 128, Nat.mod_lt _ (by decide)⟩ : Fin 128))⟩
    · have e : (Rect.unit (s := S256x1024) ![0, 384] S256x128.size inb_S256x1024_S256x128_0_384).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 384 + 1 * ((y 1).val % 128) = (y 1).val; omega)
      exact ⟨⟨Rect.unit (s := S256x1024) ![0, 384] S256x128.size inb_S256x1024_S256x128_0_384, p 3⟩, List.Mem.tail _ (List.Mem.tail _ (List.Mem.tail _ (List.Mem.tail _ (List.Mem.head _)))), e ▸ (Rect.unit (s := S256x1024) ![0, 384] S256x128.size inb_S256x1024_S256x128_0_384).idx_mem (ix2 (⟨(y 0).val, (y 0).isLt⟩ : Fin 256) (⟨(y 1).val % 128, Nat.mod_lt _ (by decide)⟩ : Fin 128))⟩
    · have e : (Rect.unit (s := S256x1024) ![0, 512] S256x128.size inb_S256x1024_S256x128_0_512).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 512 + 1 * ((y 1).val % 128) = (y 1).val; omega)
      exact ⟨⟨Rect.unit (s := S256x1024) ![0, 512] S256x128.size inb_S256x1024_S256x128_0_512, p 4⟩, List.Mem.tail _ (List.Mem.tail _ (List.Mem.tail _ (List.Mem.head _))), e ▸ (Rect.unit (s := S256x1024) ![0, 512] S256x128.size inb_S256x1024_S256x128_0_512).idx_mem (ix2 (⟨(y 0).val, (y 0).isLt⟩ : Fin 256) (⟨(y 1).val % 128, Nat.mod_lt _ (by decide)⟩ : Fin 128))⟩
    · have e : (Rect.unit (s := S256x1024) ![0, 640] S256x128.size inb_S256x1024_S256x128_0_640).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 640 + 1 * ((y 1).val % 128) = (y 1).val; omega)
      exact ⟨⟨Rect.unit (s := S256x1024) ![0, 640] S256x128.size inb_S256x1024_S256x128_0_640, p 5⟩, List.Mem.tail _ (List.Mem.tail _ (List.Mem.head _)), e ▸ (Rect.unit (s := S256x1024) ![0, 640] S256x128.size inb_S256x1024_S256x128_0_640).idx_mem (ix2 (⟨(y 0).val, (y 0).isLt⟩ : Fin 256) (⟨(y 1).val % 128, Nat.mod_lt _ (by decide)⟩ : Fin 128))⟩
    · have e : (Rect.unit (s := S256x1024) ![0, 768] S256x128.size inb_S256x1024_S256x128_0_768).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 768 + 1 * ((y 1).val % 128) = (y 1).val; omega)
      exact ⟨⟨Rect.unit (s := S256x1024) ![0, 768] S256x128.size inb_S256x1024_S256x128_0_768, p 6⟩, List.Mem.tail _ (List.Mem.head _), e ▸ (Rect.unit (s := S256x1024) ![0, 768] S256x128.size inb_S256x1024_S256x128_0_768).idx_mem (ix2 (⟨(y 0).val, (y 0).isLt⟩ : Fin 256) (⟨(y 1).val % 128, Nat.mod_lt _ (by decide)⟩ : Fin 128))⟩
    · have e : (Rect.unit (s := S256x1024) ![0, 896] S256x128.size inb_S256x1024_S256x128_0_896).idx (ix2 (⟨(y 0).val, (y 0).isLt⟩ : Fin 256) (⟨(y 1).val % 128, Nat.mod_lt _ (by decide)⟩ : Fin 128)) = y := by
        funext a; fin_cases a
        · exact Fin.ext (by show 0 + 1 * (y 0).val = (y 0).val; omega)
        · exact Fin.ext (by show 896 + 1 * ((y 1).val % 128) = (y 1).val; omega)
      exact ⟨⟨Rect.unit (s := S256x1024) ![0, 896] S256x128.size inb_S256x1024_S256x128_0_896, p 7⟩, List.Mem.head _, e ▸ (Rect.unit (s := S256x1024) ![0, 896] S256x128.size inb_S256x1024_S256x128_0_896).idx_mem (ix2 (⟨(y 0).val, (y 0).isLt⟩ : Fin 256) (⟨(y 1).val % 128, Nat.mod_lt _ (by decide)⟩ : Fin 128))⟩
  · intro q hq
    simp only [List.mem_cons, List.not_mem_nil, or_false] at hq
    rcases hq with rfl | rfl | rfl | rfl | rfl | rfl | rfl | rfl
    · exact fun x => (cols_at p 7 x _ (by show 0 + 1 * (x 0).val = (x 0).val; omega) (by show 896 + 1 * (x 1).val = 128 * 7 + (x 1).val; omega)).symm
    · exact fun x => (cols_at p 6 x _ (by show 0 + 1 * (x 0).val = (x 0).val; omega) (by show 768 + 1 * (x 1).val = 128 * 6 + (x 1).val; omega)).symm
    · exact fun x => (cols_at p 5 x _ (by show 0 + 1 * (x 0).val = (x 0).val; omega) (by show 640 + 1 * (x 1).val = 128 * 5 + (x 1).val; omega)).symm
    · exact fun x => (cols_at p 4 x _ (by show 0 + 1 * (x 0).val = (x 0).val; omega) (by show 512 + 1 * (x 1).val = 128 * 4 + (x 1).val; omega)).symm
    · exact fun x => (cols_at p 3 x _ (by show 0 + 1 * (x 0).val = (x 0).val; omega) (by show 384 + 1 * (x 1).val = 128 * 3 + (x 1).val; omega)).symm
    · exact fun x => (cols_at p 2 x _ (by show 0 + 1 * (x 0).val = (x 0).val; omega) (by show 256 + 1 * (x 1).val = 128 * 2 + (x 1).val; omega)).symm
    · exact fun x => (cols_at p 1 x _ (by show 0 + 1 * (x 0).val = (x 0).val; omega) (by show 128 + 1 * (x 1).val = 128 * 1 + (x 1).val; omega)).symm
    · exact fun x => (cols_at p 0 x _ (by show 0 + 1 * (x 0).val = (x 0).val; omega) (by show 0 + 1 * (x 1).val = 128 * 0 + (x 1).val; omega)).symm

/-- Eight stores of every eighth row each leave the eight blocks interleaved. -/
theorem strided8 {arg : Memref sig .tc .vmem S2048x128 .f32} (f : BufTy.Contents (Elt F) arg.view.ty) (p : Fin 8 → FVec F S256x128 .f32) :
    View.read (Elt F) arg.view (arg.view.writes (Elt F) f
      [⟨⟨⟨![7, 0], S256x128.size, ![8, 1], inb_S2048x128_S256x128_7_0_s_8_1⟩, spos_8_1⟩, p 7⟩,
       ⟨⟨⟨![6, 0], S256x128.size, ![8, 1], inb_S2048x128_S256x128_6_0_s_8_1⟩, spos_8_1⟩, p 6⟩,
       ⟨⟨⟨![5, 0], S256x128.size, ![8, 1], inb_S2048x128_S256x128_5_0_s_8_1⟩, spos_8_1⟩, p 5⟩,
       ⟨⟨⟨![4, 0], S256x128.size, ![8, 1], inb_S2048x128_S256x128_4_0_s_8_1⟩, spos_8_1⟩, p 4⟩,
       ⟨⟨⟨![3, 0], S256x128.size, ![8, 1], inb_S2048x128_S256x128_3_0_s_8_1⟩, spos_8_1⟩, p 3⟩,
       ⟨⟨⟨![2, 0], S256x128.size, ![8, 1], inb_S2048x128_S256x128_2_0_s_8_1⟩, spos_8_1⟩, p 2⟩,
       ⟨⟨⟨![1, 0], S256x128.size, ![8, 1], inb_S2048x128_S256x128_1_0_s_8_1⟩, spos_8_1⟩, p 1⟩,
       ⟨⟨⟨![0, 0], S256x128.size, ![8, 1], inb_S2048x128_S256x128_0_0_s_8_1⟩, spos_8_1⟩, p 0⟩]) = rows p := by
  funext y
  have hd : (y 0).val % 8 < 8 := by omega
  refine (View.read_writes_apply_eq_canon _ _ _ _ ?hc).trans (View.canon_apply_of_pieces _ _ ?_ y ?hc)
  case hc =>
    have hcase : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases hcase with h | h | h | h | h | h | h | h
    · have e : ((⟨⟨![0, 0], S256x128.size, ![8, 1], inb_S2048x128_S256x128_0_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 0 + 8 * ((y 0).val / 8) = (y 0).val; omega)
        · exact Fin.ext (by show 0 + 1 * (y 1).val = (y 1).val; omega)
      exact ⟨⟨(⟨⟨![0, 0], S256x128.size, ![8, 1], inb_S2048x128_S256x128_0_0_s_8_1⟩, spos_8_1⟩ : Rect S2048x128), p 0⟩, List.Mem.tail _ (List.Mem.tail _ (List.Mem.tail _ (List.Mem.tail _ (List.Mem.tail _ (List.Mem.tail _ (List.Mem.tail _ (List.Mem.head _))))))), e ▸ ((⟨⟨![0, 0], S256x128.size, ![8, 1], inb_S2048x128_S256x128_0_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![1, 0], S256x128.size, ![8, 1], inb_S2048x128_S256x128_1_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 1 + 8 * ((y 0).val / 8) = (y 0).val; omega)
        · exact Fin.ext (by show 0 + 1 * (y 1).val = (y 1).val; omega)
      exact ⟨⟨(⟨⟨![1, 0], S256x128.size, ![8, 1], inb_S2048x128_S256x128_1_0_s_8_1⟩, spos_8_1⟩ : Rect S2048x128), p 1⟩, List.Mem.tail _ (List.Mem.tail _ (List.Mem.tail _ (List.Mem.tail _ (List.Mem.tail _ (List.Mem.tail _ (List.Mem.head _)))))), e ▸ ((⟨⟨![1, 0], S256x128.size, ![8, 1], inb_S2048x128_S256x128_1_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![2, 0], S256x128.size, ![8, 1], inb_S2048x128_S256x128_2_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 2 + 8 * ((y 0).val / 8) = (y 0).val; omega)
        · exact Fin.ext (by show 0 + 1 * (y 1).val = (y 1).val; omega)
      exact ⟨⟨(⟨⟨![2, 0], S256x128.size, ![8, 1], inb_S2048x128_S256x128_2_0_s_8_1⟩, spos_8_1⟩ : Rect S2048x128), p 2⟩, List.Mem.tail _ (List.Mem.tail _ (List.Mem.tail _ (List.Mem.tail _ (List.Mem.tail _ (List.Mem.head _))))), e ▸ ((⟨⟨![2, 0], S256x128.size, ![8, 1], inb_S2048x128_S256x128_2_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![3, 0], S256x128.size, ![8, 1], inb_S2048x128_S256x128_3_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 3 + 8 * ((y 0).val / 8) = (y 0).val; omega)
        · exact Fin.ext (by show 0 + 1 * (y 1).val = (y 1).val; omega)
      exact ⟨⟨(⟨⟨![3, 0], S256x128.size, ![8, 1], inb_S2048x128_S256x128_3_0_s_8_1⟩, spos_8_1⟩ : Rect S2048x128), p 3⟩, List.Mem.tail _ (List.Mem.tail _ (List.Mem.tail _ (List.Mem.tail _ (List.Mem.head _)))), e ▸ ((⟨⟨![3, 0], S256x128.size, ![8, 1], inb_S2048x128_S256x128_3_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![4, 0], S256x128.size, ![8, 1], inb_S2048x128_S256x128_4_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 4 + 8 * ((y 0).val / 8) = (y 0).val; omega)
        · exact Fin.ext (by show 0 + 1 * (y 1).val = (y 1).val; omega)
      exact ⟨⟨(⟨⟨![4, 0], S256x128.size, ![8, 1], inb_S2048x128_S256x128_4_0_s_8_1⟩, spos_8_1⟩ : Rect S2048x128), p 4⟩, List.Mem.tail _ (List.Mem.tail _ (List.Mem.tail _ (List.Mem.head _))), e ▸ ((⟨⟨![4, 0], S256x128.size, ![8, 1], inb_S2048x128_S256x128_4_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![5, 0], S256x128.size, ![8, 1], inb_S2048x128_S256x128_5_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 5 + 8 * ((y 0).val / 8) = (y 0).val; omega)
        · exact Fin.ext (by show 0 + 1 * (y 1).val = (y 1).val; omega)
      exact ⟨⟨(⟨⟨![5, 0], S256x128.size, ![8, 1], inb_S2048x128_S256x128_5_0_s_8_1⟩, spos_8_1⟩ : Rect S2048x128), p 5⟩, List.Mem.tail _ (List.Mem.tail _ (List.Mem.head _)), e ▸ ((⟨⟨![5, 0], S256x128.size, ![8, 1], inb_S2048x128_S256x128_5_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![6, 0], S256x128.size, ![8, 1], inb_S2048x128_S256x128_6_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 6 + 8 * ((y 0).val / 8) = (y 0).val; omega)
        · exact Fin.ext (by show 0 + 1 * (y 1).val = (y 1).val; omega)
      exact ⟨⟨(⟨⟨![6, 0], S256x128.size, ![8, 1], inb_S2048x128_S256x128_6_0_s_8_1⟩, spos_8_1⟩ : Rect S2048x128), p 6⟩, List.Mem.tail _ (List.Mem.head _), e ▸ ((⟨⟨![6, 0], S256x128.size, ![8, 1], inb_S2048x128_S256x128_6_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
    · have e : ((⟨⟨![7, 0], S256x128.size, ![8, 1], inb_S2048x128_S256x128_7_0_s_8_1⟩, spos_8_1⟩ : Rect S2048x128)).idx (ix2 (⟨(y 0).val / 8, by have : (y 0).val < 2048 := (y 0).isLt; omega⟩ : Fin 256) (⟨(y 1).val, (y 1).isLt⟩ : Fin 128)) = y := by
        funext a; fin_cases a
        · exact Fin.ext (by show 7 + 8 * ((y 0).val / 8) = (y 0).val; omega)
        · exact Fin.ext (by show 0 + 1 * (y 1).val = (y 1).val; omega)
      exact ⟨⟨(⟨⟨![7, 0], S256x128.size, ![8, 1], inb_S2048x128_S256x128_7_0_s_8_1⟩, spos_8_1⟩ : Rect S2048x128), p 7⟩, List.Mem.head _, e ▸ ((⟨⟨![7, 0], S256x128.size, ![8, 1], inb_S2048x128_S256x128_7_0_s_8_1⟩, spos_8_1⟩ : Rect S2048x128)).idx_mem (ix2 (⟨(y 0).val / 8, by have : (y 0).val < 2048 := (y 0).isLt; omega⟩ : Fin 256) (⟨(y 1).val, (y 1).isLt⟩ : Fin 128))⟩
  · intro q hq
    simp only [List.mem_cons, List.not_mem_nil, or_false] at hq
    rcases hq with rfl | rfl | rfl | rfl | rfl | rfl | rfl | rfl
    · exact fun x => (rows_at p 7 x _ (by show 7 + 8 * (x 0).val = 7 + 8 * (x 0).val; rfl) (by show 0 + 1 * (x 1).val = (x 1).val; omega)).symm
    · exact fun x => (rows_at p 6 x _ (by show 6 + 8 * (x 0).val = 6 + 8 * (x 0).val; rfl) (by show 0 + 1 * (x 1).val = (x 1).val; omega)).symm
    · exact fun x => (rows_at p 5 x _ (by show 5 + 8 * (x 0).val = 5 + 8 * (x 0).val; rfl) (by show 0 + 1 * (x 1).val = (x 1).val; omega)).symm
    · exact fun x => (rows_at p 4 x _ (by show 4 + 8 * (x 0).val = 4 + 8 * (x 0).val; rfl) (by show 0 + 1 * (x 1).val = (x 1).val; omega)).symm
    · exact fun x => (rows_at p 3 x _ (by show 3 + 8 * (x 0).val = 3 + 8 * (x 0).val; rfl) (by show 0 + 1 * (x 1).val = (x 1).val; omega)).symm
    · exact fun x => (rows_at p 2 x _ (by show 2 + 8 * (x 0).val = 2 + 8 * (x 0).val; rfl) (by show 0 + 1 * (x 1).val = (x 1).val; omega)).symm
    · exact fun x => (rows_at p 1 x _ (by show 1 + 8 * (x 0).val = 1 + 8 * (x 0).val; rfl) (by show 0 + 1 * (x 1).val = (x 1).val; omega)).symm
    · exact fun x => (rows_at p 0 x _ (by show 0 + 8 * (x 0).val = 0 + 8 * (x 0).val; rfl) (by show 0 + 1 * (x 1).val = (x 1).val; omega)).symm

/-! ## The block -/

/-- The normalized rows. -/
def HN (x0 : Vec F S256x2048 .f32) (x1 : Vec F S1x2048 .f32) : FVec F S256x2048 .bf16 :=
  k0_pay2 (View.ld x0 (Rect.unit (s := S256x2048) ![0, 0] S256x2048.size inb_S256x2048_S256x2048_0_0)) (View.ld x1 (Rect.unit (s := S1x2048) ![0, 0] S1x2048.size inb_S1x2048_S1x2048_0_0))

/-- The product of the normalized rows with 1024 columns of the weights. -/
def PJ (x0 : Vec F S256x2048 .f32) (x1 : Vec F S1x2048 .f32) (w : Vec F S2048x1024 .bf16) : FVec F S256x1024 .f32 :=
  k0_pay1 (HN x0 x1) w

/-- The slab of 1024 columns from each of the five first columns. -/
def W0 (x2 : Vec F S2048x6272 .bf16) : Vec F S2048x1024 .bf16 := View.ld x2 (Rect.unit (s := S2048x6272) ![0, 0] S2048x1024.size inb_S2048x6272_S2048x1024_0_0)
def W1 (x2 : Vec F S2048x6272 .bf16) : Vec F S2048x1024 .bf16 := View.ld x2 (Rect.unit (s := S2048x6272) ![0, 1024] S2048x1024.size inb_S2048x6272_S2048x1024_0_1024)
def W2 (x2 : Vec F S2048x6272 .bf16) : Vec F S2048x1024 .bf16 := View.ld x2 (Rect.unit (s := S2048x6272) ![0, 2048] S2048x1024.size inb_S2048x6272_S2048x1024_0_2048)
def W3 (x2 : Vec F S2048x6272 .bf16) : Vec F S2048x1024 .bf16 := View.ld x2 (Rect.unit (s := S2048x6272) ![0, 3072] S2048x1024.size inb_S2048x6272_S2048x1024_0_3072)
def W4 (x2 : Vec F S2048x6272 .bf16) : Vec F S2048x1024 .bf16 := View.ld x2 (Rect.unit (s := S2048x6272) ![0, 4096] S2048x1024.size inb_S2048x6272_S2048x1024_0_4096)
def W5 (x2 : Vec F S2048x6272 .bf16) : Vec F S2048x1024 .bf16 := View.ld x2 (Rect.unit (s := S2048x6272) ![0, 5120] S2048x1024.size inb_S2048x6272_S2048x1024_0_5120)

/-- The norm's gain as loaded. -/
def G1 (x : Vec F S1x128 .f32) : Vec F S1x128 .f32 := View.ld x (Rect.unit (s := S1x128) ![0, 0] S1x128.size inb_S1x128_S1x128_0_0)

/-- The eight heads of a product. -/
def hd (P : FVec F S256x1024 .f32) : Fin 8 → FVec F S256x128 .f32 :=
  ![extractStridedSlice S256x128 ![0, 0] P slices_S256x1024_o0_0_S256x128,
    extractStridedSlice S256x128 ![0, 128] P slices_S256x1024_o0_128_S256x128,
    extractStridedSlice S256x128 ![0, 256] P slices_S256x1024_o0_256_S256x128,
    extractStridedSlice S256x128 ![0, 384] P slices_S256x1024_o0_384_S256x128,
    extractStridedSlice S256x128 ![0, 512] P slices_S256x1024_o0_512_S256x128,
    extractStridedSlice S256x128 ![0, 640] P slices_S256x1024_o0_640_S256x128,
    extractStridedSlice S256x128 ![0, 768] P slices_S256x1024_o0_768_S256x128,
    extractStridedSlice S256x128 ![0, 896] P slices_S256x1024_o0_896_S256x128]

/-- The normalized heads of a product. -/
def hdn (P : FVec F S256x1024 .f32) (g : Vec F S1x128 .f32) : Fin 8 → FVec F S256x128 .f32 := fun h => k0_pay26 (hd P h) g

/-- The log decays of the block's rows. -/
def LA (x0 : Vec F S256x2048 .f32) (x1 : Vec F S1x2048 .f32) (x2 : Vec F S2048x6272 .bf16) (x3 : Vec F S128x512 .bf16) (x4 : Vec F S1x512 .f32) : FVec F S256x512 .f32 :=
  k0_pay6 (k0_pay4 (HN x0 x1) (View.ld x2 (Rect.unit (s := S2048x6272) ![0, 6144] S2048x128.size inb_S2048x6272_S2048x128_0_6144)) (View.ld x3 (Rect.unit (s := S128x512) ![0, 0] S128x512.size inb_S128x512_S128x512_0_0)) (View.ld x4 (Rect.unit (s := S1x512) ![0, 0] S1x512.size inb_S1x512_S1x512_0_0)))
    (k0_pay5 (HN x0 x1) (View.ld x2 (Rect.unit (s := S2048x6272) ![0, 6144] S2048x128.size inb_S2048x6272_S2048x128_0_6144)) (View.ld x3 (Rect.unit (s := S128x512) ![0, 0] S128x512.size inb_S128x512_S128x512_0_0)) (View.ld x4 (Rect.unit (s := S1x512) ![0, 0] S1x512.size inb_S1x512_S1x512_0_0)))

section Outs
variable (x0 : Vec F S256x2048 .f32) (x1 : Vec F S1x2048 .f32) (x2 : Vec F S2048x6272 .bf16) (x3 : Vec F S128x512 .bf16) (x4 : Vec F S1x512 .f32) (x5 x6 : Vec F S1x128 .f32)

/-- What the body leaves in each output buffer: normalized queries and keys and the values of the attention, -/
def OUT8 : Vec F S256x1024 .f32 := cols (hdn (PJ x0 x1 (W0 x2)) (G1 x5))
def OUT9 : Vec F S256x1024 .f32 := cols (hdn (PJ x0 x1 (W1 x2)) (G1 x6))
def OUT10 : Vec F S256x1024 .f32 := cols (hd (PJ x0 x1 (W2 x2)))
/-- the keys and values again, a row per head, -/
def OUT11 : Vec F S2048x128 .f32 := rows (hdn (PJ x0 x1 (W1 x2)) (G1 x6))
def OUT12 : Vec F S2048x128 .f32 := rows (hd (PJ x0 x1 (W2 x2)))
/-- the scaled queries and the keys of the linear attention, its values and its output gate, -/
def OUT13 : Vec F S256x1024 .f32 := fun y =>
  if h : (y 1).val < 512 then k0_pay47 (HN x0 x1) (W3 x2) (ix2 (⟨(y 0).val, (y 0).isLt⟩ : Fin 256) (⟨(y 1).val, h⟩ : Fin 512))
  else k0_pay48 (HN x0 x1) (W3 x2) (ix2 (⟨(y 0).val, (y 0).isLt⟩ : Fin 256) (⟨(y 1).val - 512, by have : (y 1).val < 1024 := (y 1).isLt; omega⟩ : Fin 512))
def OUT14 : Vec F S256x1024 .bf16 := k0_pay49 (HN x0 x1) (W4 x2)
def OUT15 : Vec F S256x1024 .f32 := PJ x0 x1 (W5 x2)
/-- and the log decays summed within each chunk. -/
def OUT16 : Vec F S256x512 .f32 := fun y =>
  if h : (y 0).val < 128 then k0_pay20 (LA x0 x1 x2 x3 x4) (ix2 (⟨(y 0).val, h⟩ : Fin 128) (⟨(y 1).val, (y 1).isLt⟩ : Fin 512))
  else k0_pay21 (LA x0 x1 x2 x3 x4) (ix2 (⟨(y 0).val - 128, by have : (y 0).val < 256 := (y 0).isLt; omega⟩ : Fin 128) (⟨(y 1).val, (y 1).isLt⟩ : Fin 512))
end Outs

/-! ## The stored values are the heads -/

section Payloads
variable (A : Vec F S256x2048 .bf16) (w : Vec F S2048x1024 .bf16) (P : FVec F S256x1024 .f32) (g : Vec F S1x128 .f32)
theorem p7_eq : k0_pay7 A w = k0_pay1 A w := rfl
theorem p22_eq : k0_pay22 A w = k0_pay1 A w := rfl
theorem p37_eq : k0_pay37 A w = k0_pay1 A w := rfl
theorem p8_eq : k0_pay8 A w g = hdn (k0_pay1 A w) g 0 := rfl
theorem p9_eq : k0_pay9 A w g = hdn (k0_pay1 A w) g 1 := rfl
theorem p10_eq : k0_pay10 P g = hdn P g 2 := rfl
theorem p11_eq : k0_pay11 P g = hdn P g 3 := rfl
theorem p15_eq : k0_pay15 (k0_pay12 P) (k0_pay13 g) (k0_pay14 P) = hdn P g 4 := rfl
theorem p16_eq : k0_pay16 P g = hdn P g 5 := rfl
theorem p17_eq : k0_pay17 P g = hdn P g 6 := rfl
theorem p18_eq : k0_pay18 P g = hdn P g 7 := rfl
theorem p23_eq : k0_pay23 A w g = hdn (k0_pay1 A w) g 0 := rfl
theorem p24_eq : k0_pay24 A w g = hdn (k0_pay1 A w) g 1 := rfl
theorem p26_eq : k0_pay26 (k0_pay25 A w) g = hdn (k0_pay1 A w) g 2 := rfl
theorem p27_eq : k0_pay27 P g = hdn P g 3 := rfl
theorem p30_eq : k0_pay30 (k0_pay28 P) (k0_pay29 g) = hdn P g 4 := rfl
theorem p31_eq : k0_pay31 P g = hdn P g 5 := rfl
theorem p35_eq : k0_pay35 (k0_pay32 P) (k0_pay33 g) (k0_pay34 P) = hdn P g 6 := rfl
theorem p36_eq : k0_pay36 P g = hdn P g 7 := rfl
theorem p38_eq : k0_pay38 A w = hd (k0_pay1 A w) 0 := rfl
theorem p39_eq : k0_pay39 P = hd P 1 := rfl
theorem p40_eq : k0_pay40 P = hd P 2 := rfl
theorem p41_eq : k0_pay41 P = hd P 3 := rfl
theorem p42_eq : k0_pay42 P = hd P 4 := rfl
theorem p43_eq : k0_pay43 P = hd P 5 := rfl
theorem p44_eq : k0_pay44 P = hd P 6 := rfl
theorem p45_eq : k0_pay45 P = hd P 7 := rfl
end Payloads

/-- Two stores of 512 columns each. -/
theorem halves_cols {arg : Memref sig .tc .vmem S256x1024 .f32} (f : BufTy.Contents (Elt F) arg.view.ty) (a b : FVec F S256x512 .f32) :
    View.read (Elt F) arg.view (arg.view.writes (Elt F) f
      [⟨Rect.unit (s := S256x1024) ![0, 512] S256x512.size inb_S256x1024_S256x512_0_512, b⟩,
       ⟨Rect.unit (s := S256x1024) ![0, 0] S256x512.size inb_S256x1024_S256x512_0_0, a⟩]) = fun y =>
      if h : (y 1).val < 512 then a (ix2 (⟨(y 0).val, (y 0).isLt⟩ : Fin 256) (⟨(y 1).val, h⟩ : Fin 512))
      else b (ix2 (⟨(y 0).val, (y 0).isLt⟩ : Fin 256) (⟨(y 1).val - 512, by have : (y 1).val < 1024 := (y 1).isLt; omega⟩ : Fin 512)) := by
  funext y
  have y1 : (y 1).val < 1024 := (y 1).isLt
  by_cases h : (y 1).val < 512
  · rw [dif_pos h]
    refine (View.read_writes_cons_unit_of_not_mem arg.view f inb_S256x1024_S256x512_0_512 _ _ y rfl 1 (Or.inl (by show (y 1).val < 512; omega))).trans ?_
    refine View.read_writes_cons_unit_of_mem arg.view f inb_S256x1024_S256x512_0_0 _ _ y _ rfl fun a => ?_
    fin_cases a
    · exact (Nat.zero_add _).symm
    · exact (Nat.zero_add _).symm
  · rw [dif_neg h]
    refine View.read_writes_cons_unit_of_mem arg.view f inb_S256x1024_S256x512_0_512 _ _ y _ rfl fun a => ?_
    fin_cases a
    · exact (Nat.zero_add _).symm
    · show (y 1).val = 512 + ((y 1).val - 512); omega

/-- Two stores of 128 rows each. -/
theorem halves_rows {arg : Memref sig .tc .vmem S256x512 .f32} (f : BufTy.Contents (Elt F) arg.view.ty) (a b : FVec F S128x512 .f32) :
    View.read (Elt F) arg.view (arg.view.writes (Elt F) f
      [⟨Rect.unit (s := S256x512) ![128, 0] S128x512.size inb_S256x512_S128x512_128_0, b⟩,
       ⟨Rect.unit (s := S256x512) ![0, 0] S128x512.size inb_S256x512_S128x512_0_0, a⟩]) = fun y =>
      if h : (y 0).val < 128 then a (ix2 (⟨(y 0).val, h⟩ : Fin 128) (⟨(y 1).val, (y 1).isLt⟩ : Fin 512))
      else b (ix2 (⟨(y 0).val - 128, by have : (y 0).val < 256 := (y 0).isLt; omega⟩ : Fin 128) (⟨(y 1).val, (y 1).isLt⟩ : Fin 512)) := by
  funext y
  have y0 : (y 0).val < 256 := (y 0).isLt
  by_cases h : (y 0).val < 128
  · rw [dif_pos h]
    refine (View.read_writes_cons_unit_of_not_mem arg.view f inb_S256x512_S128x512_128_0 _ _ y rfl 0 (Or.inl (by show (y 0).val < 128; omega))).trans ?_
    refine View.read_writes_cons_unit_of_mem arg.view f inb_S256x512_S128x512_0_0 _ _ y _ rfl fun a => ?_
    fin_cases a
    · exact (Nat.zero_add _).symm
    · exact (Nat.zero_add _).symm
  · rw [dif_neg h]
    refine View.read_writes_cons_unit_of_mem arg.view f inb_S256x512_S128x512_128_0 _ _ y _ rfl fun a => ?_
    fin_cases a
    · show (y 0).val = 128 + ((y 0).val - 128); omega
    · exact (Nat.zero_add _).symm

/-- One store of a whole buffer leaves what it stored. -/
theorem whole_f32 {arg : Memref sig .tc .vmem S256x1024 .f32} (f : BufTy.Contents (Elt F) arg.view.ty) (a : FVec F S256x1024 .f32) :
    View.read (Elt F) arg.view (arg.view.writes (Elt F) f
      [⟨Rect.unit (s := S256x1024) ![0, 0] S256x1024.size inb_S256x1024_S256x1024_0_0, a⟩]) = a := by
  funext y
  refine View.read_writes_cons_unit_of_mem arg.view f inb_S256x1024_S256x1024_0_0 _ _ y y rfl fun a => ?_
  fin_cases a
  · exact (Nat.zero_add _).symm
  · exact (Nat.zero_add _).symm

theorem whole_bf16 {arg : Memref sig .tc .vmem S256x1024 .bf16} (f : BufTy.Contents (Elt F) arg.view.ty) (a : FVec F S256x1024 .bf16) :
    View.read (Elt F) arg.view (arg.view.writes (Elt F) f
      [⟨Rect.unit (s := S256x1024) ![0, 0] S256x1024.size inb_S256x1024_S256x1024_0_0, a⟩]) = a := by
  funext y
  refine View.read_writes_cons_unit_of_mem arg.view f inb_S256x1024_S256x1024_0_0 _ _ y y rfl fun a => ?_
  fin_cases a
  · exact (Nat.zero_add _).symm
  · exact (Nat.zero_add _).symm

/-- Reading the scratch buffer back after the store that fills it gives the normalized rows. -/
theorem scratch_read {arg : Memref sig .tc .vmem S256x2048 .bf16} (a : FVec F S256x2048 .bf16) :
    arg.view.readCov (Val := Elt F) [⟨Rect.unit (s := S256x2048) ![0, 0] S256x2048.size inb_S256x2048_S256x2048_0_0, a⟩]
      (Rect.unit (s := S256x2048) ![0, 0] S256x2048.size inb_S256x2048_S256x2048_0_0).toLoadRect = a := by
  funext y
  have e : (Rect.unit (s := S256x2048) ![0, 0] S256x2048.size inb_S256x2048_S256x2048_0_0).toLoadRect.idx y = y := by
    funext a; fin_cases a
    · exact Fin.ext (by show 0 + 1 * (y 0).val = (y 0).val; omega)
    · exact Fin.ext (by show 0 + 1 * (y 1).val = (y 1).val; omega)
  show View.read (Elt F) arg.view (arg.view.writes (Elt F) arg.view.junk _) (LoadRect.idx _ y) = a y
  rw [e]
  refine View.read_writes_cons_unit_of_mem arg.view _ inb_S256x2048_S256x2048_0_0 _ _ y y rfl fun a => ?_
  fin_cases a
  · exact (Nat.zero_add _).symm
  · exact (Nat.zero_add _).symm

end Cert.InpIdeal.Value

end
-- ==== Proof.InpSpec.lean ====
/- What the input projection computes, over the extended reals, as sums over the argument arrays; and each block the body
   leaves as those sums at the block's rows. -/
module

public import proofs.«01_k».proof.Proof.InpBlock
public import Idealize.ShloMosaic.Lib.Pipeline.ValueKit
public import Idealize.ShloMosaic.Lib.Pointwise
public import Idealize.ShloMosaic.Lib.Claim

@[expose] public section

set_option maxRecDepth 16384

noncomputable section

namespace Cert.InpIdeal.Value

open Cert.InpIdeal Cert.InpIdeal.Gen
open Idealize.ShloMosaic Idealize.ShloMosaic.TcCoe Idealize.SL.Sem

/-! ## The sums -/

section Spec
variable (X : FVec Ideal S16x2048x2048 .f32) (G : FVec Ideal S2048 .f32) (W : FVec Ideal S2048x6160 .f32)
  (QG KG : FVec Ideal S128 .f32) (WG : FVec Ideal S16x512 .f32) (BG : FVec Ideal S512 .f32)

/-- Entry `k` of row `r` of the residual stream (row `r` is position `r % 2048` of sequence `r / 2048`). -/
def XR (r : Fin 32768) (k : Fin 2048) : EReal := X (ix3 (⟨r.val / 2048, by omega⟩ : Fin 16) (⟨r.val % 2048, by omega⟩ : Fin 2048) k)

/-- Entry `k` of the root-mean-square norm of row `r`. -/
def HR (r : Fin 32768) (k : Fin 2048) : EReal :=
  XR X r k * Ideal.rsqrt (Ideal.div (∑ l : Fin 2048, XR X r l * XR X r l) (Ideal.ofBits .f32 0x45000000#32) + Ideal.ofBits .f32 0x358637BD#32) * G (ix1 k)

/-- Column `l` of the projection of row `r`. -/
def PR (r : Fin 32768) (l : Fin 6160) : EReal := ∑ k : Fin 2048, HR X G r k * W (ix2 k l)

/-- Entry `d` of the root-mean-square norm of the head `P`, with gain `g`. -/
def HD (P : Fin 128 → EReal) (g : FVec Ideal S128 .f32) (d : Fin 128) : EReal :=
  P d * Ideal.rsqrt (Ideal.div (∑ e : Fin 128, P e * P e) (Ideal.ofBits .f32 0x43000000#32) + Ideal.ofBits .f32 0x358637BD#32) * g (ix1 d)

/-- The gate's logit `j` of row `r`. -/
def ZR (r : Fin 32768) (j : Fin 512) : EReal := (∑ k : Fin 16, PR X G W r ⟨6144 + k.val, by omega⟩ * WG (ix2 k j)) + BG (ix1 j)

/-- Its log decay, of the logit `z`: a sixteenth of the logarithm of the sigmoid. -/
def LZ (z : EReal) : EReal :=
  (min z 0 - Ideal.log1p (Ideal.exp (0 - FloatOps.absf (F := Ideal) (φ := .f32) z))) * Ideal.ofBits .f32 0x3D800000#32

/-- The log decays of row `r`'s chunk of 64 rows summed up to and including the row. -/
def BR (r : Fin 32768) (j : Fin 512) : EReal :=
  ∑ i : Fin 64, if i.val ≤ r.val % 64 then LZ (ZR X G W WG BG ⟨64 * (r.val / 64) + i.val, by omega⟩ j) else 0

/-- Head `h` of the 1024 columns from column `base` on, at row `r`. -/
def HB (base : Nat) (hb : base ≤ 5120) (r : Fin 32768) (h : Fin 8) (e : Fin 128) : EReal := PR X G W r ⟨base + (128 * h.val + e.val), by omega⟩

/-- The nine results: the normalized queries and keys and the values of the attention, -/
def R0 : FVec Ideal S32768x1024 .f32 := fun i =>
  HD (HB X G W 0 (by omega) (i 0) ⟨(i 1).val / 128, by have : (i 1).val < 1024 := (i 1).isLt; omega⟩) QG ⟨(i 1).val % 128, by omega⟩
def R1 : FVec Ideal S32768x1024 .f32 := fun i =>
  HD (HB X G W 1024 (by omega) (i 0) ⟨(i 1).val / 128, by have : (i 1).val < 1024 := (i 1).isLt; omega⟩) KG ⟨(i 1).val % 128, by omega⟩
def R2 : FVec Ideal S32768x1024 .f32 := fun i => PR X G W (i 0) ⟨2048 + (i 1).val, by have : (i 1).val < 1024 := (i 1).isLt; omega⟩
/-- the keys and values again, a row per head, -/
def R3 : FVec Ideal S262144x128 .f32 := fun i =>
  HD (HB X G W 1024 (by omega) ⟨(i 0).val / 8, by have : (i 0).val < 262144 := (i 0).isLt; omega⟩ ⟨(i 0).val % 8, by omega⟩) KG (i 1)
def R4 : FVec Ideal S262144x128 .f32 := fun i =>
  HB X G W 2048 (by omega) ⟨(i 0).val / 8, by have : (i 0).val < 262144 := (i 0).isLt; omega⟩ ⟨(i 0).val % 8, by omega⟩ (i 1)
/-- the scaled queries and the keys of the linear attention, its values, its output gate, -/
def R5 : FVec Ideal S32768x1024 .f32 := fun i =>
  if (i 1).val < 512 then PR X G W (i 0) ⟨3072 + (i 1).val, by have : (i 1).val < 1024 := (i 1).isLt; omega⟩ * (Named.named (F := Ideal) κ "s" (φ := .f32) 0x3DB504F3#32 : EReal)
  else PR X G W (i 0) ⟨3072 + (i 1).val, by have : (i 1).val < 1024 := (i 1).isLt; omega⟩
def R6 : FVec Ideal S32768x1024 .bf16 := fun i => PR X G W (i 0) ⟨4096 + (i 1).val, by have : (i 1).val < 1024 := (i 1).isLt; omega⟩
def R7 : FVec Ideal S32768x1024 .f32 := fun i => PR X G W (i 0) ⟨5120 + (i 1).val, by have : (i 1).val < 1024 := (i 1).isLt; omega⟩
/-- and the summed log decays. -/
def R8 : FVec Ideal S32768x512 .f32 := fun i => BR X G W WG BG (i 0) (i 1)
end Spec

/-! ## The causal sum within chunks -/

/-- The mask's bit: the column is in the row's chunk and not after the row. -/
theorem mask_bit : ∀ a k : Fin 128,
    (BitVec.setWidth 32 (IntOp.andi
      (IntOp.cmpi CmpIPredicate.eq (IntOp.shrsi ArithUnit.vector (BitVec.ofNat 32 a.val) 6#32) (IntOp.shrsi ArithUnit.vector (BitVec.ofNat 32 k.val) 6#32))
      (IntOp.cmpi CmpIPredicate.sle (BitVec.ofNat 32 k.val) (BitVec.ofNat 32 a.val))) : BitVec 32)
      = if a.val / 64 = k.val / 64 ∧ k.val ≤ a.val then 1#32 else 0#32 := by
  decide +kernel

/-- The masked sum over 128 rows is the sum over the row's chunk up to the row. -/
theorem mask_sum (f : Fin 128 → EReal) (a : Fin 128) :
    ∑ x : Fin 128, FloatOps.sitofp (F := Ideal) FTy.f32 (BitVec.setWidth 32 (IntOp.andi
      (IntOp.cmpi CmpIPredicate.eq (IntOp.shrsi ArithUnit.vector (BitVec.ofNat 32 a.val) 6#32) (IntOp.shrsi ArithUnit.vector (BitVec.ofNat 32 x.val) 6#32))
      (IntOp.cmpi CmpIPredicate.sle (BitVec.ofNat 32 x.val) (BitVec.ofNat 32 a.val)))) * f x
    = ∑ i : Fin 64, if i.val ≤ a.val % 64 then f ⟨64 * (a.val / 64) + i.val, by omega⟩ else 0 := by
  have e : ∀ x : Fin 128, FloatOps.sitofp (F := Ideal) FTy.f32 (BitVec.setWidth 32 (IntOp.andi
      (IntOp.cmpi CmpIPredicate.eq (IntOp.shrsi ArithUnit.vector (BitVec.ofNat 32 a.val) 6#32) (IntOp.shrsi ArithUnit.vector (BitVec.ofNat 32 x.val) 6#32))
      (IntOp.cmpi CmpIPredicate.sle (BitVec.ofNat 32 x.val) (BitVec.ofNat 32 a.val)))) * f x
      = if a.val / 64 = x.val / 64 ∧ x.val ≤ a.val then f x else 0 := fun x => by
    rw [mask_bit]
    split
    · have : FloatOps.sitofp (F := Ideal) FTy.f32 1#32 = (1 : EReal) := by
        show (((1#32 : BitVec 32).toInt : ℝ) : EReal) = 1
        norm_num
      rw [this, one_mul]
    · have : FloatOps.sitofp (F := Ideal) FTy.f32 0#32 = (0 : EReal) := by
        show (((0#32 : BitVec 32).toInt : ℝ) : EReal) = 0
        norm_num
      rw [this, zero_mul]
  rw [Finset.sum_congr rfl fun x _ => e x, ← Finset.sum_filter, ← Finset.sum_filter]
  refine Finset.sum_bij' (fun (x : Fin 128) _ => (⟨x.val % 64, by omega⟩ : Fin 64)) (fun (i : Fin 64) _ => (⟨64 * (a.val / 64) + i.val, by omega⟩ : Fin 128)) ?_ ?_ ?_ ?_ ?_
  · intro x hx
    simp only [Finset.mem_filter, Finset.mem_univ, true_and] at hx ⊢
    omega
  · intro i hi
    simp only [Finset.mem_filter, Finset.mem_univ, true_and] at hi ⊢
    omega
  · intro x hx
    simp only [Finset.mem_filter, Finset.mem_univ, true_and] at hx
    exact Fin.ext (by simp only; omega)
  · intro i hi
    exact Fin.ext (by simp only; omega)
  · intro x hx
    simp only [Finset.mem_filter, Finset.mem_univ, true_and] at hx
    exact congrArg f (Fin.ext (by simp only; omega))

/-! ## The body's blocks at an index -/

section Block
variable (X : FVec Ideal S16x2048x2048 .f32) (G : FVec Ideal S2048 .f32) (W : FVec Ideal S2048x6160 .f32)
  (QG KG : FVec Ideal S128 .f32) (WG : FVec Ideal S16x512 .f32) (BG : FVec Ideal S512 .f32)
  (x0 : Vec Ideal S256x2048 .f32) (x1 : Vec Ideal S1x2048 .f32) (x2 : Vec Ideal S2048x6272 .bf16)
  (x3 : Vec Ideal S128x512 .bf16) (x4 : Vec Ideal S1x512 .f32) (x5 x6 : Vec Ideal S1x128 .f32)
  (rw : Fin 256 → Fin 32768)

/-- The block's rows are the rows `rw` of the stream, and the buffers of the weights hold the weights, padded by zeros. -/
structure Holds : Prop where
  h0 : ∀ a k, x0 (ix2 a k) = XR X (rw a) k
  h1 : ∀ k, x1 (ix2 0 k) = G (ix1 k)
  h2 : ∀ k (l : Fin 6160), x2 (ix2 k ⟨l.val, by omega⟩) = W (ix2 k l)
  h2z : ∀ k (l : Fin 112), x2 (ix2 k ⟨6160 + l.val, by omega⟩) = 0

/-- The buffers of the gate hold the gate's weights, padded by zeros, and its bias. -/
structure HoldsGate : Prop where
  h3 : ∀ (k : Fin 16) j, x3 (ix2 ⟨k.val, by omega⟩ j) = WG (ix2 k j)
  h3z : ∀ (k : Fin 112) j, x3 (ix2 ⟨16 + k.val, by omega⟩ j) = 0
  h4 : ∀ j, x4 (ix2 0 j) = BG (ix1 j)

variable {X G W WG BG x0 x1 x2 x3 x4 x5 x6 rw}

theorem HN_at (H : Holds X G W x0 x1 x2 rw) (a : Fin 256) (k : Fin 2048) : HN x0 x1 (ix2 a k) = HR X G (rw a) k := by
  pointwise [HN, k0_pay2]
  simp only [H.h0, H.h1]
  rfl

/-- The product with a slab is the projection's columns. -/
theorem pay1_at (H : Holds X G W x0 x1 x2 rw) (w : Vec Ideal S2048x1024 .bf16) (base : Nat) (hb : base ≤ 5120)
    (hw : ∀ (k : Fin 2048) (j : Fin 1024), w (ix2 k j) = x2 (ix2 k ⟨base + j.val, by omega⟩)) (a : Fin 256) (j : Fin 1024) :
    PJ x0 x1 w (ix2 a j) = PR X G W (rw a) ⟨base + j.val, by omega⟩ := by
  pointwise [PJ, k0_pay1]
  unfold PR
  refine Finset.sum_congr rfl fun k _ => ?_
  rw [HN_at H, hw, ← H.h2 k ⟨base + j.val, by omega⟩]

theorem W0_at (k : Fin 2048) (j : Fin 1024) : W0 x2 (ix2 k j) = x2 (ix2 k ⟨0 + j.val, by omega⟩) := by pointwise [W0]
theorem W1_at (k : Fin 2048) (j : Fin 1024) : W1 x2 (ix2 k j) = x2 (ix2 k ⟨1024 + j.val, by omega⟩) := by pointwise [W1]
theorem W2_at (k : Fin 2048) (j : Fin 1024) : W2 x2 (ix2 k j) = x2 (ix2 k ⟨2048 + j.val, by omega⟩) := by pointwise [W2]
theorem W3_at (k : Fin 2048) (j : Fin 1024) : W3 x2 (ix2 k j) = x2 (ix2 k ⟨3072 + j.val, by omega⟩) := by pointwise [W3]
theorem W4_at (k : Fin 2048) (j : Fin 1024) : W4 x2 (ix2 k j) = x2 (ix2 k ⟨4096 + j.val, by omega⟩) := by pointwise [W4]
theorem W5_at (k : Fin 2048) (j : Fin 1024) : W5 x2 (ix2 k j) = x2 (ix2 k ⟨5120 + j.val, by omega⟩) := by pointwise [W5]

theorem hd_at (P : FVec Ideal S256x1024 .f32) (h : Fin 8) (a : Fin 256) (d : Fin 128) :
    hd P h (ix2 a d) = P (ix2 a ⟨128 * h.val + d.val, by omega⟩) := by
  fin_cases h <;> pointwise [hd] <;> refine congrArg P (congrArg (ix2 a) (Fin.ext ?_)) <;> simp

theorem hdn_at (P : FVec Ideal S256x1024 .f32) (g : Vec Ideal S1x128 .f32) (gv : FVec Ideal S128 .f32) (hg : ∀ d, g (ix2 0 d) = gv (ix1 d))
    (h : Fin 8) (a : Fin 256) (d : Fin 128) :
    hdn P (G1 g) h (ix2 a d) = HD (fun e => P (ix2 a ⟨128 * h.val + e.val, by omega⟩)) gv d := by
  pointwise [hdn, k0_pay26, G1]
  simp only [hd_at, hg]
  rfl

/-- The log decays of the block's rows. -/
theorem LA_at (H : Holds X G W x0 x1 x2 rw) (K : HoldsGate WG BG x3 x4) (a : Fin 256) (j : Fin 512) :
    LA x0 x1 x2 x3 x4 (ix2 a j) = LZ (ZR X G W WG BG (rw a) j) := by
  have hz : (∑ x : Fin 128, (∑ k : Fin 2048, HN x0 x1 (ix2 a k) * x2 (ix2 k ⟨6144 + x.val, by omega⟩)) * x3 (ix2 x j)) + x4 (ix2 0 j)
      = ZR X G W WG BG (rw a) j := by
    unfold ZR
    rw [K.h4]
    refine congrArg (· + BG (ix1 j)) ?_
    refine (Fin.sum_univ_add (a := 16) (b := 112) (fun x => (∑ k : Fin 2048, HN x0 x1 (ix2 a k) * x2 (ix2 k ⟨6144 + x.val, by omega⟩)) * x3 (ix2 x j))).trans ?_
    rw [Finset.sum_eq_zero (s := (Finset.univ : Finset (Fin 112))) (fun k _ => ?_), add_zero]
    · refine Finset.sum_congr rfl fun x _ => Ideal.mul_congr ?_ (K.h3 x j)
      unfold PR
      refine Finset.sum_congr rfl fun k _ => ?_
      rw [HN_at H, ← H.h2 k ⟨6144 + x.val, by omega⟩]
      rfl
    · have := K.h3z k j
      refine (congrArg (_ * ·) this).trans (mul_zero _)
  rw [← hz]
  pointwise [LA, k0_pay6, k0_pay4, k0_pay5, k0_pay3, LZ]

theorem out8_at (H : Holds X G W x0 x1 x2 rw) (h5 : ∀ d, x5 (ix2 0 d) = QG (ix1 d)) (y : S256x1024.Idx) :
    OUT8 x0 x1 x2 x5 y = HD (HB X G W 0 (by omega) (rw ⟨(y 0).val, (y 0).isLt⟩) ⟨(y 1).val / 128, by have : (y 1).val < 1024 := (y 1).isLt; omega⟩) QG ⟨(y 1).val % 128, by omega⟩ := by
  unfold OUT8 cols
  rw [hdn_at _ _ QG h5]
  refine congrArg (fun P => HD P QG _) (funext fun e => ?_)
  exact pay1_at H _ 0 (by omega) W0_at _ _

theorem out9_at (H : Holds X G W x0 x1 x2 rw) (h6 : ∀ d, x6 (ix2 0 d) = KG (ix1 d)) (y : S256x1024.Idx) :
    OUT9 x0 x1 x2 x6 y = HD (HB X G W 1024 (by omega) (rw ⟨(y 0).val, (y 0).isLt⟩) ⟨(y 1).val / 128, by have : (y 1).val < 1024 := (y 1).isLt; omega⟩) KG ⟨(y 1).val % 128, by omega⟩ := by
  unfold OUT9 cols
  rw [hdn_at _ _ KG h6]
  refine congrArg (fun P => HD P KG _) (funext fun e => ?_)
  exact pay1_at H _ 1024 (by omega) W1_at _ _

theorem out10_at (H : Holds X G W x0 x1 x2 rw) (y : S256x1024.Idx) :
    OUT10 x0 x1 x2 y = PR X G W (rw ⟨(y 0).val, (y 0).isLt⟩) ⟨2048 + (y 1).val, by have : (y 1).val < 1024 := (y 1).isLt; omega⟩ := by
  unfold OUT10 cols
  rw [hd_at, pay1_at H _ 2048 (by omega) W2_at]
  refine congrArg (PR X G W _) (Fin.ext ?_)
  simp only
  omega

theorem out11_at (H : Holds X G W x0 x1 x2 rw) (h6 : ∀ d, x6 (ix2 0 d) = KG (ix1 d)) (y : S2048x128.Idx) :
    OUT11 x0 x1 x2 x6 y = HD (HB X G W 1024 (by omega) (rw ⟨(y 0).val / 8, by have : (y 0).val < 2048 := (y 0).isLt; omega⟩) ⟨(y 0).val % 8, by omega⟩) KG ⟨(y 1).val, (y 1).isLt⟩ := by
  unfold OUT11 rows
  rw [hdn_at _ _ KG h6]
  refine congrArg (fun P => HD P KG _) (funext fun e => ?_)
  exact pay1_at H _ 1024 (by omega) W1_at _ _

theorem out12_at (H : Holds X G W x0 x1 x2 rw) (y : S2048x128.Idx) :
    OUT12 x0 x1 x2 y = HB X G W 2048 (by omega) (rw ⟨(y 0).val / 8, by have : (y 0).val < 2048 := (y 0).isLt; omega⟩) ⟨(y 0).val % 8, by omega⟩ ⟨(y 1).val, (y 1).isLt⟩ := by
  unfold OUT12 rows
  rw [hd_at, pay1_at H _ 2048 (by omega) W2_at]
  rfl

theorem out13_at (H : Holds X G W x0 x1 x2 rw) (y : S256x1024.Idx) :
    OUT13 x0 x1 x2 y = if (y 1).val < 512 then PR X G W (rw ⟨(y 0).val, (y 0).isLt⟩) ⟨3072 + (y 1).val, by have : (y 1).val < 1024 := (y 1).isLt; omega⟩ * (Named.named (F := Ideal) κ "s" (φ := .f32) 0x3DB504F3#32 : EReal)
      else PR X G W (rw ⟨(y 0).val, (y 0).isLt⟩) ⟨3072 + (y 1).val, by have : (y 1).val < 1024 := (y 1).isLt; omega⟩ := by
  have h1024 : (y 1).val < 1024 := (y 1).isLt
  have key := fun (a : Fin 256) (j : Fin 1024) => pay1_at H (W3 x2) 3072 (by omega) W3_at a j
  unfold OUT13
  split
  · next h =>
    pointwise [k0_pay47]
    refine congrArg (· * _) ?_
    exact key _ ⟨(y 1).val, h1024⟩
  · next h =>
    pointwise [k0_pay48]
    refine Eq.trans ?_ (key _ ⟨(y 1).val, h1024⟩)
    show k0_pay46 _ _ _ = k0_pay46 _ _ _
    refine congrArg (k0_pay46 _ _) (congrArg (ix2 _) (Fin.ext ?_))
    simp only
    omega

theorem out14_at (H : Holds X G W x0 x1 x2 rw) (y : S256x1024.Idx) :
    OUT14 x0 x1 x2 y = PR X G W (rw ⟨(y 0).val, (y 0).isLt⟩) ⟨4096 + (y 1).val, by have : (y 1).val < 1024 := (y 1).isLt; omega⟩ := by
  idx_vars y
  exact pay1_at H _ 4096 (by omega) W4_at _ _

theorem out15_at (H : Holds X G W x0 x1 x2 rw) (y : S256x1024.Idx) :
    OUT15 x0 x1 x2 y = PR X G W (rw ⟨(y 0).val, (y 0).isLt⟩) ⟨5120 + (y 1).val, by have : (y 1).val < 1024 := (y 1).isLt; omega⟩ := by
  idx_vars y
  exact pay1_at H _ 5120 (by omega) W5_at _ _

theorem out16_at (H : Holds X G W x0 x1 x2 rw) (K : HoldsGate WG BG x3 x4) (hr : ∀ a b : Fin 256, a.val / 64 = b.val / 64 → (rw b).val = 64 * ((rw a).val / 64) + b.val % 64)
    (y : S256x512.Idx) :
    OUT16 x0 x1 x2 x3 x4 y = BR X G W WG BG (rw ⟨(y 0).val, (y 0).isLt⟩) ⟨(y 1).val, (y 1).isLt⟩ := by
  have h256 : (y 0).val < 256 := (y 0).isLt
  have hs : (rw ⟨(y 0).val, h256⟩).val = 64 * ((rw ⟨(y 0).val, h256⟩).val / 64) + (y 0).val % 64 := hr ⟨(y 0).val, h256⟩ ⟨(y 0).val, h256⟩ rfl
  unfold OUT16 BR
  split
  · next h =>
    pointwise [k0_pay20, k0_pay19]
    refine (mask_sum (fun x => LA x0 x1 x2 x3 x4 (ix2 ⟨x.val, by omega⟩ ⟨(y 1).val, (y 1).isLt⟩)) ⟨(y 0).val, h⟩).trans ?_
    refine Finset.sum_congr rfl fun i _ => ?_
    refine if_congr (by show i.val ≤ (y 0).val % 64 ↔ i.val ≤ (rw ⟨(y 0).val, h256⟩).val % 64; omega) ?_ rfl
    rw [LA_at H K]
    refine congrArg LZ (congrArg (fun r => ZR X G W WG BG r _) (Fin.ext ?_))
    rw [hr ⟨(y 0).val, h256⟩ _ (by show (y 0).val / 64 = (64 * ((y 0).val / 64) + i.val) / 64; omega)]
    show 64 * ((rw ⟨(y 0).val, h256⟩).val / 64) + (64 * ((y 0).val / 64) + i.val) % 64 = 64 * ((rw ⟨(y 0).val, h256⟩).val / 64) + i.val
    omega
  · next h =>
    pointwise [k0_pay21, k0_pay19]
    refine (mask_sum (fun x => LA x0 x1 x2 x3 x4 (ix2 ⟨128 + x.val, by omega⟩ ⟨(y 1).val, (y 1).isLt⟩)) ⟨(y 0).val - 128, by omega⟩).trans ?_
    refine Finset.sum_congr rfl fun i _ => ?_
    refine if_congr (by show i.val ≤ ((y 0).val - 128) % 64 ↔ i.val ≤ (rw ⟨(y 0).val, h256⟩).val % 64; omega) ?_ rfl
    rw [LA_at H K]
    refine congrArg LZ (congrArg (fun r => ZR X G W WG BG r _) (Fin.ext ?_))
    rw [hr ⟨(y 0).val, h256⟩ _ (by show (y 0).val / 64 = (128 + (64 * (((y 0).val - 128) / 64) + i.val)) / 64; omega)]
    show 64 * ((rw ⟨(y 0).val, h256⟩).val / 64) + (128 + (64 * (((y 0).val - 128) / 64) + i.val)) % 64 = 64 * ((rw ⟨(y 0).val, h256⟩).val / 64) + i.val
    omega
end Block

end Cert.InpIdeal.Value

end
-- ==== Proof.InpBody.lean ====
/- The input projection's body run at a grid point on whole buffers, over any values. -/
module

public import proofs.«01_k».proof.Proof.Gen.InpIdeal.Frame
public import proofs.«01_k».proof.Proof.InpBlock
public import Idealize.ShloMosaic.Lib.Claim

@[expose] public section

set_option maxRecDepth 16384

noncomputable section

namespace Cert.InpIdeal.Value

open Cert.InpIdeal Cert.InpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole buffers: the inputs stay, the outputs end as the block functions of the inputs. -/
theorem body_run (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x6272 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S256x1024 .f32) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x512 .f32) (harg16 : arg16.IsWhole) (arg17 : Memref sig .tc .vmem S256x2048 .bf16) (harg17 : arg17.IsWhole)
    (x0 : Vec F S256x2048 .f32) (x1 : Vec F S1x2048 .f32) (x2 : Vec F S2048x6272 .bf16) (x3 : Vec F S128x512 .bf16) (x4 : Vec F S1x512 .f32) (x5 : Vec F S1x128 .f32) (x6 : Vec F S1x128 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (OUT8 x0 x1 x2 x5) ∗ owns (c : Thread nD τ) arg9 fullShare (OUT9 x0 x1 x2 x6) ∗ owns (c : Thread nD τ) arg10 fullShare (OUT10 x0 x1 x2) ∗ owns (c : Thread nD τ) arg11 fullShare (OUT11 x0 x1 x2 x6) ∗ owns (c : Thread nD τ) arg12 fullShare (OUT12 x0 x1 x2) ∗ owns (c : Thread nD τ) arg13 fullShare (OUT13 x0 x1 x2) ∗ owns (c : Thread nD τ) arg14 fullShare (OUT14 x0 x1 x2) ∗ owns (c : Thread nD τ) arg15 fullShare (OUT15 x0 x1 x2) ∗ owns (c : Thread nD τ) arg16 fullShare (OUT16 x0 x1 x2 x3 x4) ∗ (∃ d, owns (c : Thread nD τ) arg17 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_inproj_eq_skeleton]; unfold cc0_inproj_skel
  simp only [k0_part11_eq_skeleton]; unfold k0_part11_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact tiles8 f8 (hdn (PJ x0 x1 (W0 x2)) (G1 x5))
  isplitl [H9]
  · iexists _; isplitr
    swap; · iexact H9
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact tiles8 f9 (hdn (PJ x0 x1 (W1 x2)) (G1 x6))
  isplitl [H10]
  · iexists _; isplitr
    swap; · iexact H10
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact tiles8 f10 (hd (PJ x0 x1 (W2 x2)))
  isplitl [H11]
  · iexists _; isplitr
    swap; · iexact H11
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact strided8 f11 (hdn (PJ x0 x1 (W1 x2)) (G1 x6))
  isplitl [H12]
  · iexists _; isplitr
    swap; · iexact H12
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact strided8 f12 (hd (PJ x0 x1 (W2 x2)))
  isplitl [H13]
  · iexists _; isplitr
    swap; · iexact H13
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact halves_cols f13 (k0_pay47 (HN x0 x1) (W3 x2)) (k0_pay48 (HN x0 x1) (W3 x2))
  isplitl [H14]
  · iexists _; isplitr
    swap; · iexact H14
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact whole_bf16 f14 (k0_pay49 (HN x0 x1) (W4 x2))
  isplitl [H15]
  · iexists _; isplitr
    swap; · iexact H15
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact whole_f32 f15 (PJ x0 x1 (W5 x2))
  isplitl [H16]
  · iexists _; isplitr
    swap; · iexact H16
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v359 c arg1 harg1 arg2 harg2 arg17 x0 x1 = HN x0 x1 := by
      delta body_run.sl.v359 body_run.sl.H17_1
      refine (scratch_read _).trans ?_
      simp only [View.readAt_eq_ld, harg1.read_unread, harg2.read_unread]
      rfl
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    simp only [hv, hw, p7_eq, p22_eq, p37_eq, p8_eq, p9_eq, p10_eq, p11_eq, p15_eq, p16_eq, p17_eq, p18_eq, p23_eq, p24_eq, p26_eq, p27_eq, p30_eq, p31_eq, p35_eq, p36_eq, p38_eq, p39_eq, p40_eq, p41_eq, p42_eq, p43_eq, p44_eq, p45_eq, View.readAt_eq_ld, harg1.read_unread, harg2.read_unread, harg3.read_unread, harg4.read_unread, harg5.read_unread, harg6.read_unread, harg7.read_unread]
    exact halves_rows f16 (k0_pay20 (LA x0 x1 x2 x3 x4)) (k0_pay21 (LA x0 x1 x2 x3 x4))
  iexists _, _; isplitr; swap; · iexact H17
  ipureintro; rfl

end Cert.InpIdeal.Value

end
-- ==== Proof.InpRun.lean ====
/- The launch of the input projection: over any values, with the named constant
   as printed. -/
module

public import proofs.«01_k».proof.Proof.Gen.InpIdeal.Frame
public import proofs.«01_k».proof.Proof.InpBody
public import Idealize.ShloMosaic.Lib.Claim

@[expose] public section

set_option maxRecDepth 16384

noncomputable section

namespace Cert.InpIdeal.Value

open Cert.InpIdeal Cert.InpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S256x2048 .bf16 := Memref.whole cc0_scratch0

/-- The region's scratch buffer and generator register, at some contents. -/
theorem PhiA0_eq (c : Dev nD) : (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-- What the body leaves in output window `w` at point `t`. -/
def out8 (c : Dev nD) (t : Fin cfg0.N) : Vec F S256x1024 .f32 := OUT8 (iblk m c 0 t) (iblk m c 1 t) (iblk m c 2 t) (iblk m c 5 t)
def out9 (c : Dev nD) (t : Fin cfg0.N) : Vec F S256x1024 .f32 := OUT9 (iblk m c 0 t) (iblk m c 1 t) (iblk m c 2 t) (iblk m c 6 t)
def out10 (c : Dev nD) (t : Fin cfg0.N) : Vec F S256x1024 .f32 := OUT10 (iblk m c 0 t) (iblk m c 1 t) (iblk m c 2 t)
def out11 (c : Dev nD) (t : Fin cfg0.N) : Vec F S2048x128 .f32 := OUT11 (iblk m c 0 t) (iblk m c 1 t) (iblk m c 2 t) (iblk m c 6 t)
def out12 (c : Dev nD) (t : Fin cfg0.N) : Vec F S2048x128 .f32 := OUT12 (iblk m c 0 t) (iblk m c 1 t) (iblk m c 2 t)
def out13 (c : Dev nD) (t : Fin cfg0.N) : Vec F S256x1024 .f32 := OUT13 (iblk m c 0 t) (iblk m c 1 t) (iblk m c 2 t)
def out14 (c : Dev nD) (t : Fin cfg0.N) : Vec F S256x1024 .bf16 := OUT14 (iblk m c 0 t) (iblk m c 1 t) (iblk m c 2 t)
def out15 (c : Dev nD) (t : Fin cfg0.N) : Vec F S256x1024 .f32 := OUT15 (iblk m c 0 t) (iblk m c 1 t) (iblk m c 2 t)
def out16 (c : Dev nD) (t : Fin cfg0.N) : Vec F S256x512 .f32 := OUT16 (iblk m c 0 t) (iblk m c 1 t) (iblk m c 2 t) (iblk m c 3 t) (iblk m c 4 t)

/-- The launch's proof data: the arrays as the region finds them; after the body each input's buffer at its block and each
    output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out8 m c t
    | ⟨8, _⟩ => out9 m c t
    | ⟨9, _⟩ => out10 m c t
    | ⟨10, _⟩ => out11 m c t
    | ⟨11, _⟩ => out12 m c t
    | ⟨12, _⟩ => out13 m c t
    | ⟨13, _⟩ => out14 m c t
    | ⟨14, _⟩ => out15 m c t
    | ⟨15, _⟩ => out16 m c t
    | ⟨_ + 16, h⟩ => absurd h (by have : cfg0.W = 16 := rfl; omega)
  Φ _ := Pipeline.ΦA spec0 c
  q _ := fullShare
  owed _ := 0

theorem A_eq (c : Dev nD) (w : Fin cfg0.W) : (dats m 0 c).A w = V m c (Pipeline.arrRef spec0 w) := by
  dsimp only [dats]

/-- The buffers after the body, window by window, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out8 m c t := by dsimp only [dats]
theorem after0_8 (c : Dev nD) (t : Fin cfg0.N) : (dats m 0 c).after 8 t = out9 m c t := by dsimp only [dats]
theorem after0_9 (c : Dev nD) (t : Fin cfg0.N) : (dats m 0 c).after 9 t = out10 m c t := by dsimp only [dats]
theorem after0_10 (c : Dev nD) (t : Fin cfg0.N) : (dats m 0 c).after 10 t = out11 m c t := by dsimp only [dats]
theorem after0_11 (c : Dev nD) (t : Fin cfg0.N) : (dats m 0 c).after 11 t = out12 m c t := by dsimp only [dats]
theorem after0_12 (c : Dev nD) (t : Fin cfg0.N) : (dats m 0 c).after 12 t = out13 m c t := by dsimp only [dats]
theorem after0_13 (c : Dev nD) (t : Fin cfg0.N) : (dats m 0 c).after 13 t = out14 m c t := by dsimp only [dats]
theorem after0_14 (c : Dev nD) (t : Fin cfg0.N) : (dats m 0 c).after 14 t = out15 m c t := by dsimp only [dats]
theorem after0_15 (c : Dev nD) (t : Fin cfg0.N) : (dats m 0 c).after 15 t = out16 m c t := by dsimp only [dats]

/-- and the inputs' before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold out8 out9 out10 out11 out12 out13 out14 out15 out16

  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  iintro ⟨H0, H1, H2, H3, H4, H5, H6, H7, H8, H9, H10, H11, H12, H13, H14, H15, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends as the proof data computes, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays end unchanged and every counter at zero, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InpIdeal.Value

end
-- ==== Proof.InpValue.lean ====
/- What the input projection computes, over the extended reals: the arrays the host operations prepare, the blocks each grid
   point reads, and the nine result arrays as sums over the arguments. -/
module

public import proofs.«01_k».proof.Proof.InpSpec
public import proofs.«01_k».proof.Proof.InpRun

@[expose] public section

set_option maxRecDepth 16384

noncomputable section

namespace Cert.InpIdeal.Value

open Cert.InpIdeal Cert.InpIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments -/

/-- The residual stream, -/
def aX (c : Dev nD) : FVec Ideal S16x2048x2048 .f32 := m ((c : Thread nD τ).loc main_arg0)
/-- its norm's gain, -/
def aG (c : Dev nD) : FVec Ideal S2048 .f32 := m ((c : Thread nD τ).loc main_arg1)
/-- the projection's weights, -/
def aW (c : Dev nD) : FVec Ideal S2048x6160 .f32 := m ((c : Thread nD τ).loc main_arg2)
/-- the gains of the queries' and the keys' norms, -/
def aQG (c : Dev nD) : FVec Ideal S128 .f32 := m ((c : Thread nD τ).loc main_arg3)
def aKG (c : Dev nD) : FVec Ideal S128 .f32 := m ((c : Thread nD τ).loc main_arg4)
/-- and the gate's weights and bias. -/
def aWG (c : Dev nD) : FVec Ideal S16x512 .f32 := m ((c : Thread nD τ).loc main_arg5)
def aBG (c : Dev nD) : FVec Ideal S512 .f32 := m ((c : Thread nD τ).loc main_arg6)

/-! ## The arrays the host operations prepare -/

theorem V_v3 (c : Dev nD) : V m c main_v3 = (shapeCast S32768x2048 (aX m c) shapeCasts_S16x2048x2048_S32768x2048 : FVec Ideal S32768x2048 .f32) := by
  show StableHlo.after (List.flatten [hostOps0, hostOps0_1, hostOps0_2, hostOps0_3, hostOps0_4]) (fun b => m (c, b)) (Proc.devRef .tc main_v3) = _
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results_simp <;> rfl

theorem V_v4 (c : Dev nD) : V m c main_v4 = (broadcastInDim S1x2048 ![1] bcast_S2048_S1x2048_1 (aG m c) : FVec Ideal S1x2048 .f32) := by
  show StableHlo.after (List.flatten [hostOps0, hostOps0_1, hostOps0_2, hostOps0_3, hostOps0_4]) (fun b => m (c, b)) (Proc.devRef .tc main_v4) = _
  after_results <;> rfl

theorem V_v2 (c : Dev nD) : V m c main_v2 = (pad S2048x6272 ![0, 0] ![0, 112] ![0, 0] (truncf .bf16 (aW m c) bitsLt_bf16_f32 : FVec Ideal S2048x6160 .bf16) (sitofp .bf16 (constantI S_ 32 0#32) : FVec Ideal S_ .bf16) pads_S2048x6160_S2048x6272_000_01120 h_S_ : FVec Ideal S2048x6272 .bf16) := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results_simp <;> rfl

theorem V_v5 (c : Dev nD) : V m c main_v5 = (truncf .bf16 (pad S128x512 ![0, 0] ![112, 0] ![0, 0] (aWG m c) (sitofp .f32 (constantI S_ 32 0#32) : FVec Ideal S_ .f32) pads_S16x512_S128x512_01120_000 h_S_ : FVec Ideal S128x512 .f32) bitsLt_bf16_f32 : FVec Ideal S128x512 .bf16) := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results_simp <;> rfl

theorem V_v6 (c : Dev nD) : V m c main_v6 = (broadcastInDim S1x512 ![1] bcast_S512_S1x512_1 (aBG m c) : FVec Ideal S1x512 .f32) := by
  show StableHlo.after (List.flatten [hostOps0, hostOps0_1, hostOps0_2, hostOps0_3, hostOps0_4]) (fun b => m (c, b)) (Proc.devRef .tc main_v6) = _
  after_results <;> rfl

theorem V_v7 (c : Dev nD) : V m c main_v7 = (broadcastInDim S1x128 ![1] bcast_S128_S1x128_1 (aQG m c) : FVec Ideal S1x128 .f32) := by
  show StableHlo.after (List.flatten [hostOps0, hostOps0_1, hostOps0_2, hostOps0_3, hostOps0_4]) (fun b => m (c, b)) (Proc.devRef .tc main_v7) = _
  after_results <;> rfl

theorem V_v8 (c : Dev nD) : V m c main_v8 = (broadcastInDim S1x128 ![1] bcast_S128_S1x128_1 (aKG m c) : FVec Ideal S1x128 .f32) := by
  show StableHlo.after (List.flatten [hostOps0, hostOps0_1, hostOps0_2, hostOps0_3, hostOps0_4]) (fun b => m (c, b)) (Proc.devRef .tc main_v8) = _
  after_results <;> rfl

/-- The integer zero as a float is zero. -/
theorem zero_f32 : FloatOps.sitofp (F := Ideal) FTy.f32 0#32 = (0 : EReal) := by
  show (((0#32 : BitVec 32).toInt : ℝ) : EReal) = 0
  norm_num
theorem zero_bf16 : FloatOps.sitofp (F := Ideal) FTy.bf16 0#32 = (0 : EReal) := by
  show (((0#32 : BitVec 32).toInt : ℝ) : EReal) = 0
  norm_num

theorem v3_at (c : Dev nD) (r : Fin 32768) (k : Fin 2048) : (show FVec Ideal S32768x2048 .f32 from V m c main_v3) (ix2 r k) = XR (aX m c) r k := by
  rw [V_v3]; pointwise [XR]
theorem v4_at (c : Dev nD) (k : Fin 2048) : (show FVec Ideal S1x2048 .f32 from V m c main_v4) (ix2 0 k) = aG m c (ix1 k) := by
  rw [V_v4]; pointwise
theorem v2_at (c : Dev nD) (k : Fin 2048) (l : Fin 6160) : (show FVec Ideal S2048x6272 .bf16 from V m c main_v2) (ix2 k ⟨l.val, by omega⟩) = aW m c (ix2 k l) := by
  rw [V_v2]; pointwise
theorem v2_pad (c : Dev nD) (k : Fin 2048) (l : Fin 112) : (show FVec Ideal S2048x6272 .bf16 from V m c main_v2) (ix2 k ⟨6160 + l.val, by omega⟩) = 0 := by
  rw [V_v2]; pointwise
  exact zero_bf16
theorem v5_at (c : Dev nD) (k : Fin 16) (l : Fin 512) : (show FVec Ideal S128x512 .bf16 from V m c main_v5) (ix2 ⟨k.val, by omega⟩ l) = aWG m c (ix2 k l) := by
  rw [V_v5]; pointwise
theorem v5_pad (c : Dev nD) (k : Fin 112) (l : Fin 512) : (show FVec Ideal S128x512 .bf16 from V m c main_v5) (ix2 ⟨16 + k.val, by omega⟩ l) = 0 := by
  rw [V_v5]; pointwise
  exact zero_f32
theorem v6_at (c : Dev nD) (k : Fin 512) : (show FVec Ideal S1x512 .f32 from V m c main_v6) (ix2 0 k) = aBG m c (ix1 k) := by
  rw [V_v6]; pointwise
theorem v7_at (c : Dev nD) (k : Fin 128) : (show FVec Ideal S1x128 .f32 from V m c main_v7) (ix2 0 k) = aQG m c (ix1 k) := by
  rw [V_v7]; pointwise
theorem v8_at (c : Dev nD) (k : Fin 128) : (show FVec Ideal S1x128 .f32 from V m c main_v8) (ix2 0 k) = aKG m c (ix1 k) := by
  rw [V_v8]; pointwise

/-! ## The blocks -/

/-- The block indices at every grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

/-- Row `a` of grid point `t`'s block. -/
def rowOf (t : Fin cfg0.N) (a : Fin 256) : Fin 32768 := ⟨256 * t.val + a.val, by have : t.val < 128 := lt_of_lt_of_eq t.isLt (show cfg0.N = 128 from N_0); omega⟩

theorem rowOf_chunk (t : Fin cfg0.N) (a b : Fin 256) (h : a.val / 64 = b.val / 64) : (rowOf t b).val = 64 * ((rowOf t a).val / 64) + b.val % 64 := by
  unfold rowOf
  simp only
  omega

theorem holds (c : Dev nD) (t : Fin cfg0.N) : Holds (aX m c) (aG m c) (aW m c) (iblk m c 0 t) (iblk m c 1 t) (iblk m c 2 t) (rowOf t) where
  h0 a k := by rw [← v3_at]; unfold rowOf; blk_point [iblk, idx t]
  h1 k := by rw [← v4_at]; blk_point [iblk, idx t]
  h2 k l := by rw [← v2_at]; blk_point [iblk, idx t]
  h2z k l := by rw [← v2_pad m c k l]; blk_point [iblk, idx t]

theorem holdsGate (c : Dev nD) (t : Fin cfg0.N) : HoldsGate (aWG m c) (aBG m c) (iblk m c 3 t) (iblk m c 4 t) where
  h3 k j := by rw [← v5_at]; blk_point [iblk, idx t]
  h3z k j := by rw [← v5_pad m c k j]; blk_point [iblk, idx t]
  h4 j := by rw [← v6_at]; blk_point [iblk, idx t]

theorem gainQ (c : Dev nD) (t : Fin cfg0.N) (d : Fin 128) : (show Vec Ideal S1x128 .f32 from iblk m c 5 t) (ix2 0 d) = aQG m c (ix1 d) := by
  rw [← v7_at]; blk_point [iblk, idx t]
theorem gainK (c : Dev nD) (t : Fin cfg0.N) (d : Fin 128) : (show Vec Ideal S1x128 .f32 from iblk m c 6 t) (ix2 0 d) = aKG m c (ix1 d) := by
  rw [← v8_at]; blk_point [iblk, idx t]

/-! ## The result arrays -/

theorem blk7 (c : Dev nD) (t : Fin cfg0.N) (y : S256x1024.Idx) : out8 m c t y = R0 (aX m c) (aG m c) (aW m c) (aQG m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 1024)) := by
  refine (out8_at _ (holds m c t) (gainQ m c t) y).trans ?_
  rfl

theorem final7 (c : Dev nD) : (dats m 0 c).arrAt 7 cfg0.N = R0 (aX m c) (aG m c) (aW m c) (aQG m c) := by
  refine (dats m 0 c).arrAt_eq_of_covers 7 _ (by decide +kernel) fun t hf y => ?_
  blk_simp
  rw [after0_7]
  refine (blk7 m c t y).trans (congrArg _ ?_)
  blk_ext [idx t]

theorem blk8 (c : Dev nD) (t : Fin cfg0.N) (y : S256x1024.Idx) : out9 m c t y = R1 (aX m c) (aG m c) (aW m c) (aKG m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 1024)) := by
  refine (out9_at _ (holds m c t) (gainK m c t) y).trans ?_
  rfl

theorem final8 (c : Dev nD) : (dats m 0 c).arrAt 8 cfg0.N = R1 (aX m c) (aG m c) (aW m c) (aKG m c) := by
  refine (dats m 0 c).arrAt_eq_of_covers 8 _ (by decide +kernel) fun t hf y => ?_
  blk_simp
  rw [after0_8]
  refine (blk8 m c t y).trans (congrArg _ ?_)
  blk_ext [idx t]

theorem blk9 (c : Dev nD) (t : Fin cfg0.N) (y : S256x1024.Idx) : out10 m c t y = R2 (aX m c) (aG m c) (aW m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 1024)) := by
  refine (out10_at (holds m c t) y).trans ?_
  rfl

theorem final9 (c : Dev nD) : (dats m 0 c).arrAt 9 cfg0.N = R2 (aX m c) (aG m c) (aW m c) := by
  refine (dats m 0 c).arrAt_eq_of_covers 9 _ (by decide +kernel) fun t hf y => ?_
  blk_simp
  rw [after0_9]
  refine (blk9 m c t y).trans (congrArg _ ?_)
  blk_ext [idx t]

theorem blk10 (c : Dev nD) (t : Fin cfg0.N) (y : S2048x128.Idx) : out11 m c t y = R3 (aX m c) (aG m c) (aW m c) (aKG m c) (ix2 (⟨2048 * t.val + (y 0).val, by have : t.val < 128 := lt_of_lt_of_eq t.isLt (show cfg0.N = 128 from N_0); have : (y 0).val < 2048 := (y 0).isLt; omega⟩ : Fin 262144) (⟨(y 1).val, (y 1).isLt⟩ : Fin 128)) := by
  refine (out11_at _ (holds m c t) (gainK m c t) y).trans ?_
  have h0 : (y 0).val < 2048 := (y 0).isLt
  unfold R3 rowOf
  have e0 : 256 * t.val + (y 0).val / 8 = (2048 * t.val + (y 0).val) / 8 := by omega
  have e1 : (y 0).val % 8 = (2048 * t.val + (y 0).val) % 8 := by omega
  simp only [e0, e1]
  rfl

theorem final10 (c : Dev nD) : (dats m 0 c).arrAt 10 cfg0.N = R3 (aX m c) (aG m c) (aW m c) (aKG m c) := by
  refine (dats m 0 c).arrAt_eq_of_covers 10 _ (by decide +kernel) fun t hf y => ?_
  blk_simp
  rw [after0_10]
  refine (blk10 m c t y).trans (congrArg _ ?_)
  blk_ext [idx t]

theorem blk11 (c : Dev nD) (t : Fin cfg0.N) (y : S2048x128.Idx) : out12 m c t y = R4 (aX m c) (aG m c) (aW m c) (ix2 (⟨2048 * t.val + (y 0).val, by have : t.val < 128 := lt_of_lt_of_eq t.isLt (show cfg0.N = 128 from N_0); have : (y 0).val < 2048 := (y 0).isLt; omega⟩ : Fin 262144) (⟨(y 1).val, (y 1).isLt⟩ : Fin 128)) := by
  refine (out12_at (holds m c t) y).trans ?_
  have h0 : (y 0).val < 2048 := (y 0).isLt
  unfold R4 rowOf
  have e0 : 256 * t.val + (y 0).val / 8 = (2048 * t.val + (y 0).val) / 8 := by omega
  have e1 : (y 0).val % 8 = (2048 * t.val + (y 0).val) % 8 := by omega
  simp only [e0, e1]
  rfl

theorem final11 (c : Dev nD) : (dats m 0 c).arrAt 11 cfg0.N = R4 (aX m c) (aG m c) (aW m c) := by
  refine (dats m 0 c).arrAt_eq_of_covers 11 _ (by decide +kernel) fun t hf y => ?_
  blk_simp
  rw [after0_11]
  refine (blk11 m c t y).trans (congrArg _ ?_)
  blk_ext [idx t]

theorem blk12 (c : Dev nD) (t : Fin cfg0.N) (y : S256x1024.Idx) : out13 m c t y = R5 (aX m c) (aG m c) (aW m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 1024)) := by
  refine (out13_at (holds m c t) y).trans ?_
  rfl

theorem final12 (c : Dev nD) : (dats m 0 c).arrAt 12 cfg0.N = R5 (aX m c) (aG m c) (aW m c) := by
  refine (dats m 0 c).arrAt_eq_of_covers 12 _ (by decide +kernel) fun t hf y => ?_
  blk_simp
  rw [after0_12]
  refine (blk12 m c t y).trans (congrArg _ ?_)
  blk_ext [idx t]

theorem blk13 (c : Dev nD) (t : Fin cfg0.N) (y : S256x1024.Idx) : out14 m c t y = R6 (aX m c) (aG m c) (aW m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 1024)) := by
  refine (out14_at (holds m c t) y).trans ?_
  rfl

theorem final13 (c : Dev nD) : (dats m 0 c).arrAt 13 cfg0.N = R6 (aX m c) (aG m c) (aW m c) := by
  refine (dats m 0 c).arrAt_eq_of_covers 13 _ (by decide +kernel) fun t hf y => ?_
  blk_simp
  rw [after0_13]
  refine (blk13 m c t y).trans (congrArg _ ?_)
  blk_ext [idx t]

theorem blk14 (c : Dev nD) (t : Fin cfg0.N) (y : S256x1024.Idx) : out15 m c t y = R7 (aX m c) (aG m c) (aW m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 1024)) := by
  refine (out15_at (holds m c t) y).trans ?_
  rfl

theorem final14 (c : Dev nD) : (dats m 0 c).arrAt 14 cfg0.N = R7 (aX m c) (aG m c) (aW m c) := by
  refine (dats m 0 c).arrAt_eq_of_covers 14 _ (by decide +kernel) fun t hf y => ?_
  blk_simp
  rw [after0_14]
  refine (blk14 m c t y).trans (congrArg _ ?_)
  blk_ext [idx t]

theorem blk15 (c : Dev nD) (t : Fin cfg0.N) (y : S256x512.Idx) : out16 m c t y = R8 (aX m c) (aG m c) (aW m c) (aWG m c) (aBG m c) (ix2 (⟨256 * t.val + (y 0).val, by have : t.val < 128 := lt_of_lt_of_eq t.isLt (show cfg0.N = 128 from N_0); have : (y 0).val < 256 := (y 0).isLt; omega⟩ : Fin 32768) (⟨(y 1).val, (y 1).isLt⟩ : Fin 512)) := by
  refine (out16_at (holds m c t) (holdsGate m c t) (rowOf_chunk t) y).trans ?_
  rfl

theorem final15 (c : Dev nD) : (dats m 0 c).arrAt 15 cfg0.N = R8 (aX m c) (aG m c) (aW m c) (aWG m c) (aBG m c) := by
  refine (dats m 0 c).arrAt_eq_of_covers 15 _ (by decide +kernel) fun t hf y => ?_
  blk_simp
  rw [after0_15]
  refine (blk15 m c t y).trans (congrArg _ ?_)
  blk_ext [idx t]

/-- The run: the nine result arrays hold their sums of the arguments, which are unchanged. -/
theorem run_value : θ_run defs (onTc (τ := τ) (main (F := Ideal))) ⟨m, fun _ => 0, ρ⟩ (fun r => ∀ c : Dev nD,
    (r.2.mem ((c : Thread nD τ).loc main_v9_0) = R0 (aX m c) (aG m c) (aW m c) (aQG m c)
    ∧ r.2.mem ((c : Thread nD τ).loc main_v9_1) = R1 (aX m c) (aG m c) (aW m c) (aKG m c)
    ∧ r.2.mem ((c : Thread nD τ).loc main_v9_2) = R2 (aX m c) (aG m c) (aW m c)
    ∧ r.2.mem ((c : Thread nD τ).loc main_v9_3) = R3 (aX m c) (aG m c) (aW m c) (aKG m c)
    ∧ r.2.mem ((c : Thread nD τ).loc main_v9_4) = R4 (aX m c) (aG m c) (aW m c)
    ∧ r.2.mem ((c : Thread nD τ).loc main_v9_5) = R5 (aX m c) (aG m c) (aW m c)
    ∧ r.2.mem ((c : Thread nD τ).loc main_v9_6) = R6 (aX m c) (aG m c) (aW m c)
    ∧ r.2.mem ((c : Thread nD τ).loc main_v9_7) = R7 (aX m c) (aG m c) (aW m c)
    ∧ r.2.mem ((c : Thread nD τ).loc main_v9_8) = R8 (aX m c) (aG m c) (aW m c) (aWG m c) (aBG m c))
    ∧ (r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6))) := by
  refine (θ_run defs _ _).mono (fun r h c => ⟨⟨?_, ?_, ?_, ?_, ?_, ?_, ?_, ?_, ?_⟩, h.2 c⟩) (θ_run_and (run_main m ρ) (unchanged m ρ))
  · exact ((h.1 c).1 7).trans (final7 m c)
  · exact ((h.1 c).1 8).trans (final8 m c)
  · exact ((h.1 c).1 9).trans (final9 m c)
  · exact ((h.1 c).1 10).trans (final10 m c)
  · exact ((h.1 c).1 11).trans (final11 m c)
  · exact ((h.1 c).1 12).trans (final12 m c)
  · exact ((h.1 c).1 13).trans (final13 m c)
  · exact ((h.1 c).1 14).trans (final14 m c)
  · exact ((h.1 c).1 15).trans (final15 m c)

end Cert.InpIdeal.Value

end
-- ==== Proof.InpRefScalar.lean ====
/- The scalar facts of the input projection's reference, over the extended reals: its constants, and its log decay as the
   kernel writes it. -/
module

public import proofs.«01_k».proof.Proof.InpSpec

@[expose] public section

noncomputable section

namespace Cert.InpRefIdeal.Value

open Idealize.ShloMosaic

/-- The pattern of `128.0` denotes the real 128, -/
theorem ofBits_128 : Ideal.ofBits .f32 0x43000000#32 = ((128 : ℝ) : EReal) := by
  simp [Ideal.ofBits, Ideal.ieee, -EReal.coe_mul]; norm_num

/-- that of `16.0` the real 16, -/
theorem ofBits_16 : Ideal.ofBits .f32 0x41800000#32 = ((16 : ℝ) : EReal) := by
  simp [Ideal.ofBits, Ideal.ieee, -EReal.coe_mul]; norm_num

/-- and that of `0.0625` the real 1/16. -/
theorem ofBits_16th : Ideal.ofBits .f32 0x3D800000#32 = ((1 / 16 : ℝ) : EReal) := by
  simp [Ideal.ofBits, Ideal.ieee, -EReal.coe_mul]; norm_num

/-- The kernel's named constant denotes the reciprocal of the root of 128. -/
theorem inv_sqrt : (Named.named (F := Ideal) Cert.InpIdeal.κ "s" (φ := .f32) 0x3DB504F3#32 : EReal) = (((Real.sqrt 128)⁻¹ : ℝ) : EReal) :=
  IdealRules.named_const.ideal_named_scalar _ _ _ _ rfl

/-- The quotient by the root of 128 is the product with the kernel's named constant. -/
theorem div_sqrt (x : EReal) :
    Ideal.div x (Ideal.sqrt (Ideal.ofBits .f32 0x43000000#32))
      = x * (Named.named (F := Ideal) Cert.InpIdeal.κ "s" (φ := .f32) 0x3DB504F3#32 : EReal) := by
  rw [inv_sqrt, ofBits_128,
    Ideal.sqrt_coe, if_neg (by norm_num), Ideal.div_coe (Real.sqrt_pos.mpr (by norm_num)).ne', one_div]

/-- The magnitude does not see the sign. -/
theorem absf_neg (z : EReal) : FloatOps.absf (F := Ideal) (φ := .f32) (-z) = FloatOps.absf (F := Ideal) (φ := .f32) z := by
  show max (-z) (- -z) = max z (-z)
  rw [neg_neg, max_comm]

/-- The logarithm of one plus an exponential is not `-∞`. -/
theorem log1p_exp_ne_bot (y : EReal) : Ideal.log1p (Ideal.exp y) ≠ ⊥ := by
  unfold Ideal.log1p
  induction y using EReal.rec with
  | bot =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | coe r =>
    show Ideal.log (1 + ((Real.exp r : ℝ) : EReal)) ≠ ⊥
    rw [← EReal.coe_one, ← EReal.coe_add]
    show (if (1 + Real.exp r : ℝ) ≤ 0 then (⊥ : EReal) else ((Real.log (1 + Real.exp r) : ℝ) : EReal)) ≠ ⊥
    rw [if_neg (by have := Real.exp_pos r; linarith)]
    exact EReal.coe_ne_bot _
  | top =>
    show Ideal.log (1 + ⊤) ≠ ⊥
    rw [EReal.add_top_of_ne_bot (by exact_mod_cast EReal.coe_ne_bot 1)]
    exact top_ne_bot

/-- The sixteenth of the logarithm of the sigmoid, as the reference writes it, is the kernel's. -/
theorem logsig (z : EReal) :
    Ideal.div (-(if -z ≠ -z then -z else max (-z) 0 + Ideal.log1p (Ideal.exp (-FloatOps.absf (F := Ideal) (φ := .f32) (-z)))))
      (Ideal.ofBits .f32 0x41800000#32) = InpIdeal.Value.LZ z := by
  have hm : max (-z) 0 ≠ ⊥ := fun h => by
    have := le_max_right (-z) 0
    rw [h, le_bot_iff] at this
    exact EReal.zero_ne_bot this
  have hl := log1p_exp_ne_bot (-FloatOps.absf (F := Ideal) (φ := .f32) z)
  rw [if_neg (fun h => h rfl), ofBits_16, Ideal.div_coe (by norm_num), absf_neg, InpIdeal.Value.LZ, ofBits_16th, zero_sub,
    EReal.neg_add (Or.inl hm) (Or.inr hl)]
  congr 2
  rcases le_total z 0 with h | h
  · rw [max_eq_left (EReal.le_neg_of_le_neg (by rwa [neg_zero])), neg_neg, min_eq_left h]
  · rw [max_eq_right (EReal.neg_le_of_neg_le (by rwa [neg_zero])), neg_zero, min_eq_right h]

end Cert.InpRefIdeal.Value

end
-- ==== Proof.InpRef.lean ====
/- The reference of the input projection, over the extended reals: its results in named steps, and their equality with
   the sums the kernel's arrays are. -/
module

public import proofs.«01_k».proof.Proof.InpValue
public import proofs.«01_k».proof.Proof.InpRefScalar
public import proofs.«01_k».proof.Proof.Gen.InpRefIdeal.Run
public import proofs.«01_k».proof.Defs

@[expose] public section

set_option maxRecDepth 16384

noncomputable section

namespace Cert.InpRefIdeal.Value

open Cert.InpRefIdeal Cert.InpRefIdeal.Gen Idealize.ShloMosaic Idealize.ShloMosaic.TcCoe Idealize.SL.Sem

/-! ## The reference's steps -/

/-- The root-mean-square norm of the residual stream. -/
def refH (x : FVec Ideal S16x2048x2048 .f32) (g : FVec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

/-- Its projection. -/
def refP (x : FVec Ideal S16x2048x2048 .f32) (g : FVec Ideal S2048 .f32) (w : FVec Ideal S2048x6160 .f32) : FVec Ideal S16x2048x6160 .f32 :=
  Host.dotGeneral dot_S16x2048x2048_S2048x6160_S16x2048x6160_2_0_01_1_n_n none (refH x g) w

/-- The root-mean-square norm of each of the eight heads. -/
def refN (q : FVec Ideal S16x2048x8x128 .f32) (g : FVec Ideal S128 .f32) : FVec Ideal S16x2048x8x128 .f32 :=
  mulf (mulf q (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf q q) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 g))

/-- The queries and the keys of the attention as heads. -/
def refQ (p : FVec Ideal S16x2048x6160 .f32) : FVec Ideal S16x2048x8x128 .f32 :=
  shapeCast _ (extractStridedSlice S16x2048x1024 ![0, 0, 0] p slices_S16x2048x6160_S16x2048x1024_0_0_0) shapeCasts_S16x2048x1024_S16x2048x8x128
def refK (p : FVec Ideal S16x2048x6160 .f32) : FVec Ideal S16x2048x8x128 .f32 :=
  shapeCast _ (extractStridedSlice S16x2048x1024 ![0, 0, 1024] p slices_S16x2048x6160_S16x2048x1024_0_0_1024) shapeCasts_S16x2048x1024_S16x2048x8x128

/-- The gate's logits. -/
def refZ (p : FVec Ideal S16x2048x6160 .f32) (wg : FVec Ideal S16x512 .f32) (bg : FVec Ideal S512 .f32) : FVec Ideal S16x2048x512 .f32 :=
  addf (Host.dotGeneral dot_S16x2048x16_S16x512_S16x2048x512_2_0_01_1_n_n none (extractStridedSlice S16x2048x16 ![0, 0, 6144] p slices_S16x2048x6160_S16x2048x16_0_0_6144) wg) (broadcastInDim S16x2048x512 ![0, 1, 2] bcast_S1x1x512_S16x2048x512_0_1_2 (broadcastInDim S1x1x512 ![2] bcast_S512_S1x1x512_2 bg))

/-- A sixteenth of the logarithm of their sigmoid. -/
def refL (z : FVec Ideal S16x2048x512 .f32) : FVec Ideal S16x2048x512 .f32 :=
  Host.divf (Host.negf (select (cmpf .une (subf (Host.negf z) (broadcastInDim S16x2048x512 ![] bcast_S_S16x2048x512 (constant S_ .f32 0x00000000#32))) (subf (Host.negf z) (broadcastInDim S16x2048x512 ![] bcast_S_S16x2048x512 (constant S_ .f32 0x00000000#32)))) (addf (Host.negf z) (broadcastInDim S16x2048x512 ![] bcast_S_S16x2048x512 (constant S_ .f32 0x00000000#32))) (addf (maximumf (Host.negf z) (broadcastInDim S16x2048x512 ![] bcast_S_S16x2048x512 (constant S_ .f32 0x00000000#32))) (Host.log1p (Host.exp (Host.negf (Host.absf (subf (Host.negf z) (broadcastInDim S16x2048x512 ![] bcast_S_S16x2048x512 (constant S_ .f32 0x00000000#32)))))))))) (broadcastInDim S16x2048x512 ![] bcast_S_S16x2048x512 (constant S_ .f32 0x41800000#32))

/-- The running sums of an array of chunks. -/
def refC (l : FVec Ideal S16x32x64x512 .f32) : FVec Ideal S16x32x64x512 .f32 :=
  Host.reduceWindowAdd ![1, 1, 64, 1] ![1, 1, 1, 1] ![0, 0, 63, 0] ![0, 0, 0, 0] l (broadcastInDim S_ ![] bcast_S_S_ (constant S_ .f32 0x00000000#32)) reduceWindows_S16x32x64x512_S16x32x64x512_w1s1p0_0_w1s1p0_0_w64s1p63_0_w1s1p0_0 h_S_

/-- The nine results. -/
def ref0 (p : FVec Ideal S16x2048x6160 .f32) (g : FVec Ideal S128 .f32) : FVec Ideal S32768x1024 .f32 :=
  shapeCast _ (refN (refQ p) g) shapeCasts_S16x2048x8x128_S32768x1024
def ref1 (p : FVec Ideal S16x2048x6160 .f32) (g : FVec Ideal S128 .f32) : FVec Ideal S32768x1024 .f32 :=
  shapeCast _ (refN (refK p) g) shapeCasts_S16x2048x8x128_S32768x1024
def ref2 (p : FVec Ideal S16x2048x6160 .f32) : FVec Ideal S32768x1024 .f32 :=
  shapeCast _ (extractStridedSlice S16x2048x1024 ![0, 0, 2048] p slices_S16x2048x6160_S16x2048x1024_0_0_2048) shapeCasts_S16x2048x1024_S32768x1024
def ref3 (p : FVec Ideal S16x2048x6160 .f32) (g : FVec Ideal S128 .f32) : FVec Ideal S262144x128 .f32 :=
  shapeCast _ (refN (refK p) g) shapeCasts_S16x2048x8x128_S262144x128
def ref4 (p : FVec Ideal S16x2048x6160 .f32) : FVec Ideal S262144x128 .f32 :=
  shapeCast _ (extractStridedSlice S16x2048x1024 ![0, 0, 2048] p slices_S16x2048x6160_S16x2048x1024_0_0_2048) shapeCasts_S16x2048x1024_S262144x128
def ref5 (p : FVec Ideal S16x2048x6160 .f32) : FVec Ideal S32768x1024 .f32 :=
  shapeCast _ (concatenate S16x2048x1024 2 [⟨S16x2048x512, Host.divf (extractStridedSlice S16x2048x512 ![0, 0, 3072] p slices_S16x2048x6160_S16x2048x512_0_0_3072) (broadcastInDim S16x2048x512 ![] bcast_S_S16x2048x512 (Host.sqrt (constant S_ .f32 0x43000000#32)))⟩, ⟨S16x2048x512, extractStridedSlice S16x2048x512 ![0, 0, 3584] p slices_S16x2048x6160_S16x2048x512_0_0_3584⟩] concatenates_S16x2048x512_S16x2048x512_S16x2048x1024_d2) shapeCasts_S16x2048x1024_S32768x1024
def ref6 (p : FVec Ideal S16x2048x6160 .f32) : FVec Ideal S32768x1024 .bf16 :=
  shapeCast _ (truncf .bf16 (extractStridedSlice S16x2048x1024 ![0, 0, 4096] p slices_S16x2048x6160_S16x2048x1024_0_0_4096) bitsLt_bf16_f32) shapeCasts_S16x2048x1024_S32768x1024
def ref7 (p : FVec Ideal S16x2048x6160 .f32) : FVec Ideal S32768x1024 .f32 :=
  shapeCast _ (extractStridedSlice S16x2048x1024 ![0, 0, 5120] p slices_S16x2048x6160_S16x2048x1024_0_0_5120) shapeCasts_S16x2048x1024_S32768x1024
def ref8 (z : FVec Ideal S16x2048x512 .f32) : FVec Ideal S32768x512 .f32 :=
  shapeCast _ (refC (shapeCast _ (refL z) shapeCasts_S16x2048x512_S16x32x64x512)) shapeCasts_S16x32x64x512_S32768x512

/-- The reference ends with the named steps in its result arrays, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = ref0 (refP (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v63) = ref1 (refP (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v64) = ref2 (refP (m ((c.tc : Thread nD τ).loc main_arg0)) (m ((c.tc : Thread nD τ).loc main_arg1)) (m ((c.tc : Thread nD τ).loc main_arg2)))
      ∧ r.2.mem ((c.tc : Thread nD τ).loc main_v65) = ref3 (refP (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v66) = ref4 (refP (m ((c.tc : Thread nD τ).loc main_arg0)) (m ((c.tc : Thread nD τ).loc main_arg1)) (m ((c.tc : Thread nD τ).loc main_arg2)))
      ∧ r.2.mem ((c.tc : Thread nD τ).loc main_v68) = ref5 (refP (m ((c.tc : Thread nD τ).loc main_arg0)) (m ((c.tc : Thread nD τ).loc main_arg1)) (m ((c.tc : Thread nD τ).loc main_arg2)))
      ∧ r.2.mem ((c.tc : Thread nD τ).loc main_v70) = ref6 (refP (m ((c.tc : Thread nD τ).loc main_arg0)) (m ((c.tc : Thread nD τ).loc main_arg1)) (m ((c.tc : Thread nD τ).loc main_arg2)))
      ∧ r.2.mem ((c.tc : Thread nD τ).loc main_v71) = ref7 (refP (m ((c.tc : Thread nD τ).loc main_arg0)) (m ((c.tc : Thread nD τ).loc main_arg1)) (m ((c.tc : Thread nD τ).loc main_arg2)))
      ∧ r.2.mem ((c.tc : Thread nD τ).loc main_v72) = ref8 (refZ (refP (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run (F := Ideal) m ρ

/-! ## The steps at an index -/

/-- A left fold of sums is the sum. -/
theorem foldl_add_sum {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- The window has 64 positions, -/
theorem numel_win : (⟨4, ![1, 1, 64, 1]⟩ : Shape).numel = 64 := by decide

/-- position `n` of them at `n` along the third axis. -/
theorem win_at (n : Fin (⟨4, ![1, 1, 64, 1]⟩ : Shape).numel) :
    ((⟨4, ![1, 1, 64, 1]⟩ : Shape).rowMajor.symm n 0).val = 0 ∧ ((⟨4, ![1, 1, 64, 1]⟩ : Shape).rowMajor.symm n 1).val = 0
    ∧ ((⟨4, ![1, 1, 64, 1]⟩ : Shape).rowMajor.symm n 2).val = n.val ∧ ((⟨4, ![1, 1, 64, 1]⟩ : Shape).rowMajor.symm n 3).val = 0 := by
  have h := rowMajor_val4 ((⟨4, ![1, 1, 64, 1]⟩ : Shape).rowMajor.symm n) 64 64 1 rfl rfl rfl
  rw [Equiv.apply_symm_apply] at h
  have h0 : ((⟨4, ![1, 1, 64, 1]⟩ : Shape).rowMajor.symm n 0).val < 1 := ((⟨4, ![1, 1, 64, 1]⟩ : Shape).rowMajor.symm n 0).isLt
  have h1 : ((⟨4, ![1, 1, 64, 1]⟩ : Shape).rowMajor.symm n 1).val < 1 := ((⟨4, ![1, 1, 64, 1]⟩ : Shape).rowMajor.symm n 1).isLt
  have h3 : ((⟨4, ![1, 1, 64, 1]⟩ : Shape).rowMajor.symm n 3).val < 1 := ((⟨4, ![1, 1, 64, 1]⟩ : Shape).rowMajor.symm n 3).isLt
  omega

/-- The windowed sum at `(a, b, i, j)` is the sum of the chunk's entries up to and including `i`. -/
theorem refC_at (l : FVec Ideal S16x32x64x512 .f32) (a : Fin 16) (b : Fin 32) (i : Fin 64) (j : Fin 512) :
    refC l (ix4 a b i j) = ∑ k : Fin 64, if k.val ≤ i.val then l (ix4 a b k j) else 0 := by
  have hz : (FloatOps.ofBits (F := Ideal) .f32 0x00000000#32 : EReal) = 0 := Ideal.ofBits_zero _
  have hi := i.isLt
  show Host.reduceWindow (· + ·) ![1, 1, 64, 1] ![1, 1, 1, 1] ![0, 0, 63, 0] ![0, 0, 0, 0] l (fun _ : S_.Idx => (FloatOps.ofBits (F := Ideal) .f32 0x00000000#32 : EReal)) reduceWindows_S16x32x64x512_S16x32x64x512_w1s1p0_0_w1s1p0_0_w64s1p63_0_w1s1p0_0 h_S_ (ix4 a b i j) = _
  rw [hz]
  unfold Host.reduceWindow
  refine (foldl_add_sum _ _ _).trans ?_
  rw [zero_add]
  refine (congrArg List.sum (List.map_congr_left (g := fun n : Fin (⟨4, ![1, 1, 64, 1]⟩ : Shape).numel =>
    if h : 63 ≤ i.val + n.val then l (ix4 a b ⟨i.val + n.val - 63, by have := lt_of_lt_of_eq n.isLt numel_win; omega⟩ j) else (0 : EReal)) fun n _ => ?_)).trans ?_
  · dsimp only
    obtain ⟨w0, w1, w2, w3⟩ := win_at n
    have hn := lt_of_lt_of_eq n.isLt numel_win
    by_cases h : 63 ≤ i.val + n.val
    · rw [dif_pos h, dif_pos]
      · refine congrArg l (funext fun q => Fin.ext ?_)
        match q with
        | ⟨0, _⟩ => show a.val * 1 + ((⟨4, ![1, 1, 64, 1]⟩ : Shape).rowMajor.symm n 0).val - 0 = a.val; omega
        | ⟨1, _⟩ => show b.val * 1 + ((⟨4, ![1, 1, 64, 1]⟩ : Shape).rowMajor.symm n 1).val - 0 = b.val; omega
        | ⟨2, _⟩ => show i.val * 1 + ((⟨4, ![1, 1, 64, 1]⟩ : Shape).rowMajor.symm n 2).val - 63 = i.val + n.val - 63; omega
        | ⟨3, _⟩ => show j.val * 1 + ((⟨4, ![1, 1, 64, 1]⟩ : Shape).rowMajor.symm n 3).val - 0 = j.val; omega
      · intro q
        match q with
        | ⟨0, _⟩ =>
          show 0 ≤ a.val * 1 + ((⟨4, ![1, 1, 64, 1]⟩ : Shape).rowMajor.symm n 0).val ∧ a.val * 1 + ((⟨4, ![1, 1, 64, 1]⟩ : Shape).rowMajor.symm n 0).val - 0 < 16
          omega
        | ⟨1, _⟩ =>
          show 0 ≤ b.val * 1 + ((⟨4, ![1, 1, 64, 1]⟩ : Shape).rowMajor.symm n 1).val ∧ b.val * 1 + ((⟨4, ![1, 1, 64, 1]⟩ : Shape).rowMajor.symm n 1).val - 0 < 32
          omega
        | ⟨2, _⟩ =>
          show 63 ≤ i.val * 1 + ((⟨4, ![1, 1, 64, 1]⟩ : Shape).rowMajor.symm n 2).val ∧ i.val * 1 + ((⟨4, ![1, 1, 64, 1]⟩ : Shape).rowMajor.symm n 2).val - 63 < 64
          omega
        | ⟨3, _⟩ =>
          show 0 ≤ j.val * 1 + ((⟨4, ![1, 1, 64, 1]⟩ : Shape).rowMajor.symm n 3).val ∧ j.val * 1 + ((⟨4, ![1, 1, 64, 1]⟩ : Shape).rowMajor.symm n 3).val - 0 < 512
          omega
    · rw [dif_neg h, dif_neg]
      intro hin
      have h2 := (hin 2).1
      change 63 ≤ i.val * 1 + ((⟨4, ![1, 1, 64, 1]⟩ : Shape).rowMajor.symm n 2).val at h2
      omega
  rw [← List.ofFn_eq_map, List.sum_ofFn]
  rw [← (finCongr numel_win.symm).sum_comp]
  rw [← Finset.sum_filter_add_sum_filter_not (s := Finset.univ) (p := fun n : Fin 64 => 63 ≤ i.val + n.val)]
  rw [Finset.sum_eq_zero (s := Finset.filter (fun n : Fin 64 => ¬ 63 ≤ i.val + n.val) Finset.univ) (fun n hn => dif_neg (Finset.mem_filter.1 hn).2), add_zero]
  rw [← Finset.sum_filter]
  refine Finset.sum_bij' (fun (n : Fin 64) _ => (⟨i.val + n.val - 63, by omega⟩ : Fin 64)) (fun (k : Fin 64) _ => (⟨(63 + k.val - i.val) % 64, by omega⟩ : Fin 64)) ?_ ?_ ?_ ?_ ?_
  · intro n hn
    simp only [Finset.mem_filter, Finset.mem_univ, true_and] at hn ⊢
    omega
  · intro k hk
    simp only [Finset.mem_filter, Finset.mem_univ, true_and] at hk ⊢
    omega
  · intro n hn
    simp only [Finset.mem_filter, Finset.mem_univ, true_and] at hn
    exact Fin.ext (by simp only; omega)
  · intro k hk
    simp only [Finset.mem_filter, Finset.mem_univ, true_and] at hk
    exact Fin.ext (by simp only; omega)
  · intro n hn
    simp only [Finset.mem_filter, Finset.mem_univ, true_and] at hn
    exact dif_pos hn

section At
variable (x : FVec Ideal S16x2048x2048 .f32) (g : FVec Ideal S2048 .f32) (w : FVec Ideal S2048x6160 .f32)

/-- The norm at row `r`. -/
theorem refH_at (r : Fin 32768) (k : Fin 2048) :
    refH x g (ix3 ⟨r.val / 2048, by omega⟩ ⟨r.val % 2048, by omega⟩ k) = InpIdeal.Value.HR x g r k := by
  pointwise [refH, InpIdeal.Value.HR, InpIdeal.Value.XR]

/-- The projection at row `r`. -/
theorem refP_at (r : Fin 32768) (l : Fin 6160) :
    refP x g w (ix3 ⟨r.val / 2048, by omega⟩ ⟨r.val % 2048, by omega⟩ l) = InpIdeal.Value.PR x g w r l := by
  pointwise [refP, InpIdeal.Value.PR]
  simp only [refH_at]

end At

/-- The log decays. -/
theorem refL_at (z : FVec Ideal S16x2048x512 .f32) (i : S16x2048x512.Idx) : refL z i = InpIdeal.Value.LZ (z i) := by
  pointwise [refL]
  exact logsig (z i)

/-- The gate's logits at row `r`. -/
theorem refZ_at (x : FVec Ideal S16x2048x2048 .f32) (ga : FVec Ideal S2048 .f32) (w : FVec Ideal S2048x6160 .f32)
    (wg : FVec Ideal S16x512 .f32) (bg : FVec Ideal S512 .f32) (r : Fin 32768) (j : Fin 512) :
    refZ (refP x ga w) wg bg (ix3 ⟨r.val / 2048, by omega⟩ ⟨r.val % 2048, by omega⟩ j) = InpIdeal.Value.ZR x ga w wg bg r j := by
  pointwise [refZ, InpIdeal.Value.ZR]
  simp only [← refP_at]

section Heads
variable (p : FVec Ideal S16x2048x6160 .f32) (g : FVec Ideal S128 .f32) (P : Fin 32768 → Fin 6160 → EReal)
  (hp : ∀ (r : Fin 32768) (l : Fin 6160), p (ix3 ⟨r.val / 2048, by omega⟩ ⟨r.val % 2048, by omega⟩ l) = P r l)
include hp

/-- The query head `h` at row `r`. -/
theorem refQ_at (r : Fin 32768) (h : Fin 8) (e : Fin 128) :
    refQ p (ix4 ⟨r.val / 2048, by omega⟩ ⟨r.val % 2048, by omega⟩ h e) = P r ⟨0 + (128 * h.val + e.val), by omega⟩ := by
  rw [← hp]
  pointwise [refQ]
  exact congrArg (fun l => p (ix3 _ _ l)) (Fin.ext (by simp only; omega))

/-- The key head `h` at row `r`. -/
theorem refK_at (r : Fin 32768) (h : Fin 8) (e : Fin 128) :
    refK p (ix4 ⟨r.val / 2048, by omega⟩ ⟨r.val % 2048, by omega⟩ h e) = P r ⟨1024 + (128 * h.val + e.val), by omega⟩ := by
  rw [← hp]
  pointwise [refK]
  exact congrArg (fun l => p (ix3 _ _ l)) (Fin.ext (by simp only; omega))

end Heads

/-- The norm of the head `h` at row `r`. -/
theorem refN_at (q : FVec Ideal S16x2048x8x128 .f32) (g : FVec Ideal S128 .f32) (P : Fin 32768 → Fin 8 → Fin 128 → EReal)
    (hq : ∀ (r : Fin 32768) (h : Fin 8) (e : Fin 128), q (ix4 ⟨r.val / 2048, by omega⟩ ⟨r.val % 2048, by omega⟩ h e) = P r h e)
    (r : Fin 32768) (h : Fin 8) (d : Fin 128) :
    refN q g (ix4 ⟨r.val / 2048, by omega⟩ ⟨r.val % 2048, by omega⟩ h d) = InpIdeal.Value.HD (P r h) g d := by
  pointwise [refN, InpIdeal.Value.HD]
  simp only [hq]

/-! ## The results -/

section Out
variable (p : FVec Ideal S16x2048x6160 .f32) (g : FVec Ideal S128 .f32)
  (x : FVec Ideal S16x2048x2048 .f32) (ga : FVec Ideal S2048 .f32) (w : FVec Ideal S2048x6160 .f32)

theorem ref0_eq : ref0 (refP x ga w) g = InpIdeal.Value.R0 x ga w g := by
  have hN := refN_at (refQ (refP x ga w)) g _ (refQ_at _ _ (refP_at x ga w))
  funext i
  idx_vars i
  pointwise [ref0, InpIdeal.Value.R0]
  exact hN i0 ⟨i1.val / 128, by omega⟩ ⟨i1.val % 128, by omega⟩

theorem ref1_eq : ref1 (refP x ga w) g = InpIdeal.Value.R1 x ga w g := by
  have hN := refN_at (refK (refP x ga w)) g _ (refK_at _ _ (refP_at x ga w))
  funext i
  idx_vars i
  pointwise [ref1, InpIdeal.Value.R1]
  exact hN i0 ⟨i1.val / 128, by omega⟩ ⟨i1.val % 128, by omega⟩

theorem ref2_eq : ref2 (refP x ga w) = InpIdeal.Value.R2 x ga w := by
  funext i
  idx_vars i
  pointwise [ref2, InpIdeal.Value.R2]
  exact refP_at _ _ _ _ _

theorem ref3_eq : ref3 (refP x ga w) g = InpIdeal.Value.R3 x ga w g := by
  have hN := refN_at (refK (refP x ga w)) g _ (refK_at _ _ (refP_at x ga w))
  funext i
  idx_vars i
  pointwise [ref3, InpIdeal.Value.R3]
  have h := hN ⟨i0.val / 8, by omega⟩ ⟨i0.val % 8, by omega⟩ i1
  simp only [Nat.div_div_eq_div_mul, Nat.reduceMul] at h
  exact h

theorem ref4_eq : ref4 (refP x ga w) = InpIdeal.Value.R4 x ga w := by
  funext i
  idx_vars i
  pointwise [ref4, InpIdeal.Value.R4, InpIdeal.Value.HB]
  have h := refP_at x ga w ⟨i0.val / 8, by omega⟩ ⟨2048 + (128 * (i0.val % 8) + i1.val), by omega⟩
  simp only [Nat.div_div_eq_div_mul, Nat.reduceMul] at h
  refine Eq.trans (congrArg (fun l => refP x ga w (ix3 _ _ l)) (Fin.ext ?_)) h
  simp only
  omega

theorem ref6_eq : ref6 (refP x ga w) = InpIdeal.Value.R6 x ga w := by
  funext i
  idx_vars i
  pointwise [ref6, InpIdeal.Value.R6]
  exact refP_at _ _ _ _ _

theorem ref7_eq : ref7 (refP x ga w) = InpIdeal.Value.R7 x ga w := by
  funext i
  idx_vars i
  pointwise [ref7, InpIdeal.Value.R7]
  exact refP_at _ _ _ _ _

theorem ref5_eq : ref5 (refP x ga w) = InpIdeal.Value.R5 x ga w := by
  funext i
  idx_vars i
  pointwise [ref5, InpIdeal.Value.R5]
  split
  · rw [div_sqrt]
    exact congrArg (· * _) (refP_at x ga w i0 ⟨3072 + i1.val, by omega⟩)
  · refine Eq.trans (congrArg (fun l => refP x ga w (ix3 _ _ l)) (Fin.ext ?_)) (refP_at x ga w i0 ⟨3072 + i1.val, by omega⟩)
    simp only
    omega

theorem ref8_eq (wg : FVec Ideal S16x512 .f32) (bg : FVec Ideal S512 .f32) : ref8 (refZ (refP x ga w) wg bg) = InpIdeal.Value.R8 x ga w wg bg := by
  funext i
  idx_vars i
  pointwise [ref8, InpIdeal.Value.R8, InpIdeal.Value.BR]
  rw [refC_at]
  refine Finset.sum_congr rfl fun k _ => if_congr Iff.rfl ?_ rfl
  have h := refZ_at x ga w wg bg ⟨64 * (i0.val / 64) + k.val, by omega⟩ i1
  pointwise []
  rw [refL_at, ← h]
  refine congrArg InpIdeal.Value.LZ (congrArg (refZ (refP x ga w) wg bg) ?_)
  refine congrArg₂ (fun a b => ix3 a b i1) (Fin.ext ?_) (Fin.ext ?_) <;> (simp only; omega)

end Out

/-- Kernel and reference end with the same nine results from arguments that agree. -/
theorem algebraic : Cert.algebraic_InpIdeal_InpRefIdeal := by
  intro m g m' g' _ hagree
  refine ⟨fun c => InpIdeal.Value.R0 (InpIdeal.Value.aX m c) (InpIdeal.Value.aG m c) (InpIdeal.Value.aW m c) (InpIdeal.Value.aQG m c),
    fun c => InpIdeal.Value.R1 (InpIdeal.Value.aX m c) (InpIdeal.Value.aG m c) (InpIdeal.Value.aW m c) (InpIdeal.Value.aKG m c),
    fun c => InpIdeal.Value.R2 (InpIdeal.Value.aX m c) (InpIdeal.Value.aG m c) (InpIdeal.Value.aW m c),
    fun c => InpIdeal.Value.R3 (InpIdeal.Value.aX m c) (InpIdeal.Value.aG m c) (InpIdeal.Value.aW m c) (InpIdeal.Value.aKG m c),
    fun c => InpIdeal.Value.R4 (InpIdeal.Value.aX m c) (InpIdeal.Value.aG m c) (InpIdeal.Value.aW m c),
    fun c => InpIdeal.Value.R5 (InpIdeal.Value.aX m c) (InpIdeal.Value.aG m c) (InpIdeal.Value.aW m c),
    fun c => InpIdeal.Value.R6 (InpIdeal.Value.aX m c) (InpIdeal.Value.aG m c) (InpIdeal.Value.aW m c),
    fun c => InpIdeal.Value.R7 (InpIdeal.Value.aX m c) (InpIdeal.Value.aG m c) (InpIdeal.Value.aW m c),
    fun c => InpIdeal.Value.R8 (InpIdeal.Value.aX m c) (InpIdeal.Value.aG m c) (InpIdeal.Value.aW m c) (InpIdeal.Value.aWG m c) (InpIdeal.Value.aBG m c),
    (θ_run _ _ _).mono (fun _ h c => ?_) (InpIdeal.Value.run_value m g),
    (θ_run _ _ _).mono (fun _ h c => ?_) (run_ref m' g')⟩
  · obtain ⟨⟨r0, r1, r2, r3, r4, r5, r6, r7, r8⟩, u⟩ := h c
    exact ⟨r0, r1, r2, r3, r4, r5, r6, r7, r8, u⟩
  · obtain ⟨a0, a1, a2, a3, a4, a5, a6⟩ := hagree c
    obtain ⟨r0, r1, r2, r3, r4, r5, r6, r7, r8, u⟩ := h c
    rw [a0, a1, a2, a3] at r0
    rw [a0, a1, a2, a4] at r1
    rw [a0, a1, a2] at r2
    rw [a0, a1, a2, a4] at r3
    rw [a0, a1, a2] at r4
    rw [a0, a1, a2] at r5
    rw [a0, a1, a2] at r6
    rw [a0, a1, a2] at r7
    rw [a0, a1, a2, a5, a6] at r8
    exact ⟨r0.trans (ref0_eq _ _ _ _), r1.trans (ref1_eq _ _ _ _), r2.trans (ref2_eq _ _ _), r3.trans (ref3_eq _ _ _ _),
      r4.trans (ref4_eq _ _ _), r5.trans (ref5_eq _ _ _), r6.trans (ref6_eq _ _ _), r7.trans (ref7_eq _ _ _),
      r8.trans (ref8_eq _ _ _ _ _), u⟩

end Cert.InpRefIdeal.Value

end
-- ==== Proof.InpBits.lean ====
/- The frame of the input projection at machine words, from the run over any values: a named constant is read as its literal. -/
module

public import proofs.«01_k».proof.Defs
public import proofs.«01_k».proof.Proof.Gen.Inp.Launch
public import proofs.«01_k».proof.Proof.InpRun

@[expose] public section

set_option maxRecDepth 16384

noncomputable section

namespace Cert.InpIdeal.Value

open Idealize.ShloMosaic Idealize.SL.Sem

/-- A named constant read as its literal. -/
@[reducible] def literal (F : FTy → Type) [FloatOps F] : Named F := ⟨fun _ _ φ bits => FloatOps.ofBits φ bits⟩

set_option maxHeartbeats 4000000 in
/-- The two printings of the input projection have the same body table, a named constant read as its literal. -/
theorem bodies {F : FTy → Type} [FloatOps F] :
    @Cert.Inp.defs₀ F _ Cert.Inp.Gen.facts = @Cert.InpIdeal.defs₀ F _ (literal F) Cert.InpIdeal.Gen.facts := by
  unfold Cert.Inp.defs₀ Cert.InpIdeal.defs₀
  refine congrArg _ ?_
  refine funext fun l => funext fun x => ?_
  match l, x with
  | 0, (t, s) => exact rfl

/-- The two printings of the input projection have the same table of calls and bodies. -/
theorem tables {F : FTy → Type} [FloatOps F] :
    @Cert.Inp.defs F _ Cert.Inp.Gen.facts = @Cert.InpIdeal.defs F _ (literal F) Cert.InpIdeal.Gen.facts :=
  congrArg (Pipeline.defs _) bodies

set_option maxHeartbeats 4000000 in
/-- The input projection, at machine words, ends with its arguments unchanged and every counter at zero. -/
theorem frame_bits : Cert.quiescent_Inp := fun m ρ _ => by
  have h := @frame Bits _ (literal Bits) m ρ
  rw [← tables] at h
  exact h

end Cert.InpIdeal.Value

end
-- ==== Proof.FfnSRun.lean ====
/- The joined output projection and feed-forward layer on the sample batch, run to its end over any float values: the result array is
   what the second pipeline's write-backs leave, the arguments are unchanged, every semaphore counter is zero. -/
module

public import proofs.«01_k».proof.Proof.Gen.FfnSIdeal.Frame

@[expose] public section

set_option maxRecDepth 16384

noncomputable section

namespace Cert.FfnSIdeal.Value

open Cert.FfnSIdeal Cert.FfnSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with the result array at what the second pipeline leaves, the arguments as launched and
    every semaphore counter at zero. -/
theorem run_value : θ_run defs (onTc (τ := τ) (main (F := F))) ⟨m, fun _ => 0, ρ⟩ (fun r => (∀ c : Dev nD,
      r.2.mem ((c.tc : Thread nD τ).loc main_v11) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v11 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.FfnSIdeal.Value

end
-- ==== Proof.FfnSValue.lean ====
/- What the joined output projection and feed-forward layer on the sample batch computes, over the extended reals: each pipeline's output
   arrays as sums over the arrays it reads, and the whole result as the reference's expression of the arguments. -/
module

public import proofs.«01_k».proof.Proof.FfnSRun
public import Idealize.ShloMosaic.Lib.Pipeline.ValueKit
public import Idealize.ShloMosaic.Lib.Pointwise
public import Idealize.ShloMosaic.Lib.Claim

@[expose] public section

set_option maxRecDepth 16384

noncomputable section

namespace Cert.FfnSIdeal.Value

open Cert.FfnSIdeal Cert.FfnSIdeal.Gen
open Idealize.ShloMosaic Idealize.ShloMosaic.TcCoe Idealize.SL.Sem
open Idealize.ShloMosaic.Pipeline (Dat)

/-! ## The arrays between the host operations and the pipelines -/

/-- The residual stream plus the output projection of the two mixers' outputs, the product taken in two halves. -/
def X1 (X : FVec Ideal S128x2048 .f32) (A B : FVec Ideal S128x1024 .f32) (Wa Wb : FVec Ideal S1024x2048 .bf16) :
    FVec Ideal S128x2048 .f32 := fun i =>
  (X i + ∑ k : Fin 1024, A (ix2 (i 0) k) * Wa (ix2 k (i 1))) + ∑ k : Fin 1024, B (ix2 (i 0) k) * Wb (ix2 k (i 1))

/-- Its root-mean-square norm, scaled by the row `g`. -/
def HM (Y : FVec Ideal S128x2048 .f32) (g : FVec Ideal S1x2048 .f32) : FVec Ideal S128x2048 .bf16 := fun i =>
  Y i * Ideal.rsqrt (Ideal.div (∑ k : Fin 2048, Y (ix2 (i 0) k) * Y (ix2 (i 0) k)) (Ideal.ofBits .f32 0x45000000#32)
    + Ideal.ofBits .f32 0x358637BD#32) * g (ix2 0 (i 1))

/-- The squared rectified projection at row `r`, hidden column `l`. -/
def U (H : FVec Ideal S128x2048 .bf16) (Wu : FVec Ideal S2048x8192 .bf16) (r : Fin 128) (l : Fin 8192) : EReal :=
  max (∑ k : Fin 2048, H (ix2 r k) * Wu (ix2 k l)) 0 * max (∑ k : Fin 2048, H (ix2 r k) * Wu (ix2 k l)) 0

/-- The residual stream plus the feed-forward layer. -/
def OUT (Y : FVec Ideal S128x2048 .f32) (H : FVec Ideal S128x2048 .bf16) (Wu : FVec Ideal S2048x8192 .bf16)
    (Wd : FVec Ideal S8192x2048 .bf16) : FVec Ideal S128x2048 .f32 := fun i =>
  Y i + ∑ l : Fin 8192, U H Wu (i 0) l * Wd (ix2 l (i 1))

/-! ## The payloads at an index -/

theorem pay0_1 (a : Vec Ideal S128x2048 .f32) (b : Vec Ideal S128x1024 .f32) (wa : Vec Ideal S1024x2048 .bf16)
    (d : Vec Ideal S128x1024 .f32) (wb : Vec Ideal S1024x2048 .bf16) (j) :
    k0_pay1 a b wa d wb j = (a j + ∑ k : Fin 1024, b (ix2 (j 0) k) * wa (ix2 k (j 1))) + ∑ k : Fin 1024, d (ix2 (j 0) k) * wb (ix2 k (j 1)) := by
  pointwise [k0_pay1]

theorem pay1_1 (a : Vec Ideal S128x2048 .f32) : k1_pay1 a = a := by
  funext j; pointwise [k1_pay1]

theorem pay1_2 (h : Vec Ideal S128x2048 .bf16) (wu : Vec Ideal S2048x1024 .bf16) (acc : Vec Ideal S128x2048 .f32) (wd : Vec Ideal S1024x2048 .bf16) (j) :
    k1_pay2 h wu acc wd j = acc j + ∑ l : Fin 1024, (max (∑ k : Fin 2048, h (ix2 (j 0) k) * wu (ix2 k l)) 0 * max (∑ k : Fin 2048, h (ix2 (j 0) k) * wu (ix2 k l)) 0) * wd (ix2 l (j 1)) := by
  pointwise [k1_pay2]

section Regions
variable (V : (c : Dev nD) → (b : Ref sig .tc) → Buf (Elt Ideal) ((c : Thread nD τ).loc b))

/-- The first pipeline's block indices at every grid point. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The second pipeline's block indices at every grid point. -/
theorem idx1 : ∀ t : Fin cfg1.N, win1_0.index t = ![t.val / 8, 0] ∧ win1_1.index t = ![t.val / 8, 0] ∧ win1_2.index t = ![0, t.val % 8]
    ∧ win1_3.index t = ![t.val % 8, 0] ∧ win1_4.index t = ![t.val / 8, 0] :=
  (by decide +kernel : ∀ t : Fin grid1.N, _)

theorem final0_6 (c : Dev nD) : (dat0 V c).arrAt 6 cfg0.N = X1 (V c main_v0) (V c main_v1) (V c main_v2) (V c main_v4) (V c main_v6) := by
  refine (dat0 V c).arrAt_eq_of_covers 6 _ (by decide +kernel) fun t hf y => ?_
  blk_simp
  rw [after0_6]; frame_out
  rw [pay0_1]
  unfold X1
  blk_point [iblk0, idx0 t]

theorem final0_7 (c : Dev nD) : (dat0 V c).arrAt 7 cfg0.N = HM (X1 (V c main_v0) (V c main_v1) (V c main_v2) (V c main_v4) (V c main_v6)) (V c main_v7) := by
  refine (dat0 V c).arrAt_eq_of_covers 7 _ (by decide +kernel) fun t hf y => ?_
  blk_simp
  rw [after0_7]; frame_out
  pointwise [k0_pay2, pay0_1, HM, X1]
  blk_point [iblk0, idx0 t]

/-- What point `t` of the second pipeline adds to its output block at block index `j`: the block of the residual
    stream where the row's run begins, and the point's 1024 hidden columns. -/
def term1 (c : Dev nD) (t : Fin cfg1.N) (j : S128x2048.Idx) : EReal :=
  (if t.val % 8 = 0 then (show FVec Ideal S128x2048 .f32 from iblk1 V c 0 t) j else 0)
    + ∑ l : Fin 1024, (max (∑ k : Fin 2048, (show FVec Ideal S128x2048 .bf16 from iblk1 V c 1 t) (ix2 (j 0) k) * (show FVec Ideal S2048x1024 .bf16 from iblk1 V c 2 t) (ix2 k l)) 0
        * max (∑ k : Fin 2048, (show FVec Ideal S128x2048 .bf16 from iblk1 V c 1 t) (ix2 (j 0) k) * (show FVec Ideal S2048x1024 .bf16 from iblk1 V c 2 t) (ix2 k l)) 0)
      * (show FVec Ideal S1024x2048 .bf16 from iblk1 V c 3 t) (ix2 l (j 1))

theorem term1_reset (c : Dev nD) (t : Fin cfg1.N) (h : t.val % 8 = 0) (j : S128x2048.Idx) :
    outsAt1 V c t.val t.isLt j = (fun _ => (0 : EReal)) j + term1 V c t j := by
  rw [outsAt1_A V c t h]; frame_out; rw [pay1_2, pay1_1]; unfold term1; rw [if_pos h, zero_add]

theorem term1_step (c : Dev nD) (t : Fin cfg1.N) (h : ¬t.val % 8 = 0) (j : S128x2048.Idx) :
    outsAt1 V c t.val t.isLt j = outsAt1 V c (t.val - 1) (Nat.lt_of_le_of_lt (Nat.sub_le _ _) t.isLt) j + term1 V c t j := by
  rw [outsAt1_B V c t h]; frame_out; rw [pay1_2]; unfold term1; rw [if_neg h, zero_add]

theorem final1 (c : Dev nD) : (dat1 V c).arrAt 4 cfg1.N = OUT (V c main_v8_0) (V c main_v8_1) (V c main_v9) (V c main_v10) := by
  refine (dat1 V c).arrAt_eq_of_covers 4 _ (by decide +kernel) fun t hf y => ?_
  blk_simp
  rw [after1_4, Pipeline.eq_sum_fin_of_reset_step_apply_of_flush (fun n h => outsAt1 V c n h) 8 (fun _ => (0 : EReal)) (term1 V c)
    (term1_reset V c) (term1_step V c) t ((flush1_4 t).mp hf) _, zero_add]
  unfold term1
  rw [Finset.sum_add_distrib]
  unfold OUT U
  refine Ideal.add_congr ?_ ?_
  · rw [Finset.sum_eq_single (0 : Fin 8)]
    · rw [if_pos (by simp)]
      have ht : t.val < 8 := lt_of_lt_of_eq t.isLt (show cfg1.N = 8 from N_1)
      blk_ext [iblk1, idx1 t, idx1 ⟨_, Pipeline.run_point_lt_of_flush t ((flush1_4 t).mp hf) (0 : Fin 8)⟩]
    · intro s _ hs
      rw [if_neg]
      have := s.isLt
      have h0 : s.val ≠ 0 := fun h => hs (Fin.ext h)
      show ¬ (8 * (t.val / 8) + s.val) % 8 = 0
      omega
    · intro h; exact absurd (Finset.mem_univ _) h
  · refine Fin.sum_mul_add_congr fun s k hl => ?_
    blk_point [iblk1, idx1 t, idx1 ⟨_, Pipeline.run_point_lt_of_flush t ((flush1_4 t).mp hf) s⟩]
end Regions

variable (m : (ℓ : Loc nD τ sig) → Buf (Elt Ideal) ℓ) (ρ : Dev nD → PrngReg)

/-! ## The arrays the host operations prepare -/

theorem V1_v0 (c : Dev nD) : V1 m ρ c main_v0 = shapeCast S128x2048 (m ((c : Thread nD τ).loc main_arg0)) shapeCasts_S32x4x2048_S128x2048 := by
  show StableHlo.after hostOps0 (W0 m ρ c) (Proc.devRef .tc main_v0) = _
  after_results <;> rfl

theorem V1_v1 (c : Dev nD) : V1 m ρ c main_v1 = shapeCast S128x1024 (m ((c : Thread nD τ).loc main_arg1)) shapeCasts_S32x4x1024_S128x1024 := by
  show StableHlo.after hostOps0 (W0 m ρ c) (Proc.devRef .tc main_v1) = _
  after_results <;> rfl

theorem V1_v2 (c : Dev nD) : V1 m ρ c main_v2 = shapeCast S128x1024 (m ((c : Thread nD τ).loc main_arg2)) shapeCasts_S32x4x1024_S128x1024 := by
  show StableHlo.after hostOps0 (W0 m ρ c) (Proc.devRef .tc main_v2) = _
  after_results <;> rfl

theorem V1_v4 (c : Dev nD) : V1 m ρ c main_v4 = (truncf .bf16 (extractStridedSlice S1024x2048 ![0, 0] (m ((c : Thread nD τ).loc main_arg3) : FVec Ideal S2048x2048 .f32) slices_S2048x2048_S1024x2048_0_0) bitsLt_bf16_f32 : FVec Ideal S1024x2048 .bf16) := by
  show StableHlo.after hostOps0 (W0 m ρ c) (Proc.devRef .tc main_v4) = _
  after_results <;> rfl

theorem V1_v6 (c : Dev nD) : V1 m ρ c main_v6 = (truncf .bf16 (extractStridedSlice S1024x2048 ![1024, 0] (m ((c : Thread nD τ).loc main_arg3) : FVec Ideal S2048x2048 .f32) slices_S2048x2048_S1024x2048_1024_0) bitsLt_bf16_f32 : FVec Ideal S1024x2048 .bf16) := by
  show StableHlo.after hostOps0 (W0 m ρ c) (Proc.devRef .tc main_v6) = _
  after_results <;> rfl

theorem V1_v7 (c : Dev nD) : V1 m ρ c main_v7 = (broadcastInDim S1x2048 ![1] bcast_S2048_S1x2048_1 (m ((c : Thread nD τ).loc main_arg4) : FVec Ideal S2048 .f32) : FVec Ideal S1x2048 .f32) := by
  show StableHlo.after hostOps0 (W0 m ρ c) (Proc.devRef .tc main_v7) = _
  after_results <;> rfl

theorem V3_v9 (c : Dev nD) : V3 m ρ c main_v9 = (truncf .bf16 (m ((c : Thread nD τ).loc main_arg5) : FVec Ideal S2048x8192 .f32) bitsLt_bf16_f32 : FVec Ideal S2048x8192 .bf16) := by
  rw [← W2_args m ρ c main_arg5 (by decide)]
  show StableHlo.after hostOps1 (W2 m ρ c) (Proc.devRef .tc main_v9) = _
  after_results <;> rfl

theorem V3_v10 (c : Dev nD) : V3 m ρ c main_v10 = (truncf .bf16 (m ((c : Thread nD τ).loc main_arg6) : FVec Ideal S8192x2048 .f32) bitsLt_bf16_f32 : FVec Ideal S8192x2048 .bf16) := by
  rw [← W2_args m ρ c main_arg6 (by decide)]
  show StableHlo.after hostOps1 (W2 m ρ c) (Proc.devRef .tc main_v10) = _
  after_results <;> rfl

theorem V3_v8_0 (c : Dev nD) : V3 m ρ c main_v8_0 = (dat0 (V1 m ρ) c).arrAt 6 cfg0.N :=
  (W3_of m ρ c main_v8_0 (by decide)).trans (W2_arr m ρ c 6)

theorem V3_v8_1 (c : Dev nD) : V3 m ρ c main_v8_1 = (dat0 (V1 m ρ) c).arrAt 7 cfg0.N :=
  (W3_of m ρ c main_v8_1 (by decide)).trans (W2_arr m ρ c 7)

/-- The result array of the whole program, from the arrays the host operations prepare. -/
theorem final (c : Dev nD) : (dat1 (V3 m ρ) c).arrAt 4 cfg1.N
    = OUT (X1 (V1 m ρ c main_v0) (V1 m ρ c main_v1) (V1 m ρ c main_v2) (V1 m ρ c main_v4) (V1 m ρ c main_v6))
        (HM (X1 (V1 m ρ c main_v0) (V1 m ρ c main_v1) (V1 m ρ c main_v2) (V1 m ρ c main_v4) (V1 m ρ c main_v6)) (V1 m ρ c main_v7))
        (V3 m ρ c main_v9) (V3 m ρ c main_v10) := by
  rw [final1 (V3 m ρ) c, V3_v8_0, V3_v8_1, final0_6, final0_7]

end Cert.FfnSIdeal.Value

end
-- ==== Proof.FfnSRef.lean ====
/- The reference of the output projection and feed-forward layer on the sample batch, over the extended reals: its composed term in
   three named steps, and its equality with the sums the kernel's arrays are. -/
module

public import proofs.«01_k».proof.Proof.FfnSValue
public import proofs.«01_k».proof.Proof.Gen.FfnSRefIdeal.Run
public import proofs.«01_k».proof.Defs

@[expose] public section

set_option maxRecDepth 16384

noncomputable section

namespace Cert.FfnSRefIdeal.Value

open Cert.FfnSRefIdeal Cert.FfnSRefIdeal.Gen Idealize.ShloMosaic Idealize.ShloMosaic.TcCoe Idealize.SL.Sem

/-- The residual stream plus the projected mix. -/
def refX (x : FVec Ideal S32x4x2048 .f32) (oa ob : FVec Ideal S32x4x1024 .f32) (w : FVec Ideal S2048x2048 .f32) :
    FVec Ideal S32x4x2048 .f32 :=
  (addf x (Host.dotGeneral dot_S32x4x2048_S2048x2048_S32x4x2048_2_0_01_1_n_n none ((concatenate S32x4x2048 2 [⟨S32x4x1024, oa⟩, ⟨S32x4x1024, ob⟩] concatenates_S32x4x1024_S32x4x1024_S32x4x2048_d2)) w))

/-- Its root-mean-square norm. -/
def refH (X : FVec Ideal S32x4x2048 .f32) (g : FVec Ideal S2048 .f32) : FVec Ideal S32x4x2048 .f32 :=
  (mulf (mulf X (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf X X) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 g)))

/-- The residual stream plus the feed-forward layer, as rows. -/
def refOut (X H : FVec Ideal S32x4x2048 .f32) (wu : FVec Ideal S2048x8192 .f32) (wd : FVec Ideal S8192x2048 .f32) :
    FVec Ideal S128x2048 .f32 :=
  shapeCast _ (addf X (Host.dotGeneral dot_S32x4x8192_S8192x2048_S32x4x2048_2_0_01_1_n_n none (mulf (maximumf (Host.dotGeneral dot_S32x4x2048_S2048x8192_S32x4x8192_2_0_01_1_n_n none H wu) (broadcastInDim S32x4x8192 ![] bcast_S_S32x4x8192 (constant S_ .f32 0x00000000#32))) (maximumf (Host.dotGeneral dot_S32x4x2048_S2048x8192_S32x4x8192_2_0_01_1_n_n none H wu) (broadcastInDim S32x4x8192 ![] bcast_S_S32x4x8192 (constant S_ .f32 0x00000000#32)))) wd)) shapeCasts_S32x4x2048_S128x2048

/-- The reference's result is the three steps in turn. -/
theorem res_eq (m : (ℓ : Loc nD τ sig) → Buf (Elt Ideal) ℓ) (c : Dev nD) :
    res_main_v21 m c = refOut (refX (m ((c.tc : Thread nD τ).loc main_arg0)) (m ((c.tc : Thread nD τ).loc main_arg1)) (m ((c.tc : Thread nD τ).loc main_arg2)) (m ((c.tc : Thread nD τ).loc main_arg3)))
      (refH (refX (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      (m ((c.tc : Thread nD τ).loc main_arg5)) (m ((c.tc : Thread nD τ).loc main_arg6)) := rfl

section
variable (x : FVec Ideal S32x4x2048 .f32) (oa ob : FVec Ideal S32x4x1024 .f32) (w : FVec Ideal S2048x2048 .f32)
  (g : FVec Ideal S2048 .f32) (wu : FVec Ideal S2048x8192 .f32) (wd : FVec Ideal S8192x2048 .f32)

/-- The projected stream at row `r` is the kernel's sum of two half products. -/
theorem refX_at (r : Fin 128) (j : Fin 2048) :
    refX x oa ob w (ix3 ⟨r.val / 4, by omega⟩ ⟨r.val % 4, by omega⟩ j)
      = FfnSIdeal.Value.X1 (shapeCast S128x2048 x FfnSIdeal.Gen.shapeCasts_S32x4x2048_S128x2048)
          (shapeCast FfnSIdeal.S128x1024 oa FfnSIdeal.Gen.shapeCasts_S32x4x1024_S128x1024)
          (shapeCast FfnSIdeal.S128x1024 ob FfnSIdeal.Gen.shapeCasts_S32x4x1024_S128x1024)
          (truncf .bf16 (extractStridedSlice FfnSIdeal.S1024x2048 ![0, 0] w FfnSIdeal.Gen.slices_S2048x2048_S1024x2048_0_0) FfnSIdeal.Gen.bitsLt_bf16_f32)
          (truncf .bf16 (extractStridedSlice FfnSIdeal.S1024x2048 ![1024, 0] w FfnSIdeal.Gen.slices_S2048x2048_S1024x2048_1024_0) FfnSIdeal.Gen.bitsLt_bf16_f32)
          (ix2 r j) := by
  pointwise [refX, FfnSIdeal.Value.X1]
  exact (add_assoc _ _ _).symm

end

/-- The reference's norm at row `r` is the kernel's, of the same rows. -/
theorem refH_at (X : FVec Ideal S32x4x2048 .f32) (g : FVec Ideal S2048 .f32) (Y : FVec Ideal S128x2048 .f32)
    (h : ∀ (r : Fin 128) (j : Fin 2048), X (ix3 ⟨r.val / 4, by omega⟩ ⟨r.val % 4, by omega⟩ j) = Y (ix2 r j))
    (r : Fin 128) (j : Fin 2048) :
    refH X g (ix3 ⟨r.val / 4, by omega⟩ ⟨r.val % 4, by omega⟩ j)
      = FfnSIdeal.Value.HM Y (broadcastInDim FfnSIdeal.S1x2048 ![1] FfnSIdeal.Gen.bcast_S2048_S1x2048_1 g) (ix2 r j) := by
  pointwise [refH, FfnSIdeal.Value.HM]
  simp only [h]

/-- The reference's result is the kernel's sum, of the same rows. -/
theorem refOut_eq (X H : FVec Ideal S32x4x2048 .f32) (wu : FVec Ideal S2048x8192 .f32) (wd : FVec Ideal S8192x2048 .f32)
    (Y : FVec Ideal S128x2048 .f32) (K : FVec Ideal S128x2048 .bf16)
    (hX : ∀ (r : Fin 128) (j : Fin 2048), X (ix3 ⟨r.val / 4, by omega⟩ ⟨r.val % 4, by omega⟩ j) = Y (ix2 r j))
    (hH : ∀ (r : Fin 128) (j : Fin 2048), H (ix3 ⟨r.val / 4, by omega⟩ ⟨r.val % 4, by omega⟩ j) = K (ix2 r j)) :
    refOut X H wu wd = FfnSIdeal.Value.OUT Y K (truncf .bf16 wu FfnSIdeal.Gen.bitsLt_bf16_f32) (truncf .bf16 wd FfnSIdeal.Gen.bitsLt_bf16_f32) := by
  funext i
  idx_vars i
  pointwise [refOut, FfnSIdeal.Value.OUT, FfnSIdeal.Value.U]
  simp only [hX, hH]

/-- The kernel's result array is the reference's, over arguments that agree. -/
theorem kernel_eq (m : (ℓ : Loc FfnSIdeal.nD FfnSIdeal.τ FfnSIdeal.sig) → Buf (Elt Ideal) ℓ) (ρ : Dev FfnSIdeal.nD → PrngReg) (c : Dev FfnSIdeal.nD)
    (m' : (ℓ : Loc nD τ sig) → Buf (Elt Ideal) ℓ)
    (h0 : m' ((c.tc : Thread nD τ).loc main_arg0) = m ((c.tc : Thread FfnSIdeal.nD FfnSIdeal.τ).loc FfnSIdeal.main_arg0))
    (h1 : m' ((c.tc : Thread nD τ).loc main_arg1) = m ((c.tc : Thread FfnSIdeal.nD FfnSIdeal.τ).loc FfnSIdeal.main_arg1))
    (h2 : m' ((c.tc : Thread nD τ).loc main_arg2) = m ((c.tc : Thread FfnSIdeal.nD FfnSIdeal.τ).loc FfnSIdeal.main_arg2))
    (h3 : m' ((c.tc : Thread nD τ).loc main_arg3) = m ((c.tc : Thread FfnSIdeal.nD FfnSIdeal.τ).loc FfnSIdeal.main_arg3))
    (h4 : m' ((c.tc : Thread nD τ).loc main_arg4) = m ((c.tc : Thread FfnSIdeal.nD FfnSIdeal.τ).loc FfnSIdeal.main_arg4))
    (h5 : m' ((c.tc : Thread nD τ).loc main_arg5) = m ((c.tc : Thread FfnSIdeal.nD FfnSIdeal.τ).loc FfnSIdeal.main_arg5))
    (h6 : m' ((c.tc : Thread nD τ).loc main_arg6) = m ((c.tc : Thread FfnSIdeal.nD FfnSIdeal.τ).loc FfnSIdeal.main_arg6)) :
    res_main_v21 m' c = (FfnSIdeal.Gen.dat1 (FfnSIdeal.Gen.V3 m ρ) c).arrAt 4 FfnSIdeal.cfg1.N := by
  rw [res_eq, h0, h1, h2, h3, h4, h5, h6, FfnSIdeal.Value.final, FfnSIdeal.Value.V1_v0, FfnSIdeal.Value.V1_v1, FfnSIdeal.Value.V1_v2,
    FfnSIdeal.Value.V1_v4, FfnSIdeal.Value.V1_v6, FfnSIdeal.Value.V1_v7, FfnSIdeal.Value.V3_v9, FfnSIdeal.Value.V3_v10]
  exact refOut_eq _ _ _ _ _ _ (fun r j => refX_at _ _ _ _ r j) (fun r j => refH_at _ _ _ (fun r j => refX_at _ _ _ _ r j) r j)

/-- Kernel and reference end with the same result from arguments that agree. -/
theorem algebraic : Cert.algebraic_FfnSIdeal_FfnSRefIdeal := by
  intro m g m' g' _ hagree
  refine ⟨fun c => (FfnSIdeal.Gen.dat1 (FfnSIdeal.Gen.V3 m g) c).arrAt 4 FfnSIdeal.cfg1.N,
    (θ_run _ _ _).mono (fun _ h c => h.1 c) (FfnSIdeal.Value.run_value m g),
    (θ_run _ _ _).mono (fun _ h c => ?_) (run m' g')⟩
  obtain ⟨a0, a1, a2, a3, a4, a5, a6⟩ := hagree c
  exact ⟨(h c).1.trans (kernel_eq m g c m' a0 a1 a2 a3 a4 a5 a6), (h c).2⟩

end Cert.FfnSRefIdeal.Value

end
-- ==== Proof.InpSBlock.lean ====
/- The input projection of the sample batch on its one block of 128 rows: the normalized rows, their products with the slabs of the weights, and
   what the body's stores leave in each output buffer. -/
module

public import proofs.«01_k».proof.Proof.Gen.InpSIdeal.Skeleton
public import Idealize.ShloMosaic.Lib.Pipeline.ValueKit
public import Idealize.ShloMosaic.Lib.Pointwise
public import Idealize.ShloMosaic.Lib.WritesUnit

@[expose] public section

set_option maxRecDepth 16384

noncomputable section

namespace Cert.InpSIdeal.Value

open Idealize.ShloMosaic Idealize.ShloMosaic.TcCoe
open Cert.InpSIdeal Cert.InpSIdeal.Gen
open Idealize.SL Idealize.SL.Sem

variable {F : FTy → Type} [FloatOps F] [Named F]

/-! ## Eight heads side by side, and eight heads interleaved -/

/-- Eight blocks of 128 columns side by side. -/
def cols (p : Fin 8 → FVec F S128x128 .f32) : Vec F S128x1024 .f32 := fun y =>
  p ⟨(y 1).val / 128, by have : (y 1).val < 1024 := (y 1).isLt; omega⟩
    (ix2 (⟨(y 0).val, (y 0).isLt⟩ : Fin 128) (⟨(y 1).val % 128, Nat.mod_lt _ (by decide)⟩ : Fin 128))

/-- Eight blocks of 128 rows interleaved: row `8 n + h` is row `n` of block `h`. -/
def rows (p : Fin 8 → FVec F S128x128 .f32) : Vec F S1024x128 .f32 := fun y =>
  p ⟨(y 0).val % 8, Nat.mod_lt _ (by decide)⟩
    (ix2 (⟨(y 0).val / 8, by have : (y 0).val < 1024 := (y 0).isLt; omega⟩ : Fin 128) (⟨(y 1).val, (y 1).isLt⟩ : Fin 128))

theorem cols_at (p : Fin 8 → FVec F S128x128 .f32) (h : Fin 8) (x : S128x128.Idx) (y : S128x1024.Idx)
    (h0 : (y 0).val = (x 0).val) (h1 : (y 1).val = 128 * h.val + (x 1).val) : cols p y = p h x := by
  have hx : (x 1).val < 128 := (x 1).isLt
  have e : (⟨(y 1).val / 128, by have : (y 1).val < 1024 := (y 1).isLt; omega⟩ : Fin 8) = h := Fin.ext (by show (y 1).val / 128 = h.val; omega)
  unfold cols
  rw [e]
  refine congrArg (p h) (funext fun a => ?_)
  fin_cases a
  · exact Fin.ext h0
  · exact Fin.ext (by show (y 1).val % 128 = (x 1).val; omega)

theorem rows_at (p : Fin 8 → FVec F S128x128 .f32) (h : Fin 8) (x : S128x128.Idx) (y : S1024x128.Idx)
    (h0 : (y 0).val = h.val + 8 * (x 0).val) (h1 : (y 1).val = (x 1).val) : rows p y = p h x := by
  have hh := h.isLt
  have e : (⟨(y 0).val % 8, Nat.mod_lt _ (by decide)⟩ : Fin 8) = h := Fin.ext (by show (y 0).val % 8 = h.val; omega)
  unfold rows
  rw [e]
  refine congrArg (p h) (funext fun a => ?_)
  fin_cases a
  · exact Fin.ext (by show (y 0).val / 8 = (x 0).val; omega)
  · exact Fin.ext h1

/-- Eight stores of 128 columns each leave the eight blocks side by side. -/
theorem tiles8 {arg : Memref sig .tc .vmem S128x1024 .f32} (f : BufTy.Contents (Elt F) arg.view.ty) (p : Fin 8 → FVec F S128x128 .f32) :
    View.read (Elt F) arg.view (arg.view.writes (Elt F) f
      [⟨Rect.unit (s := S128x1024) ![0, 896] S128x128.size inb_S128x1024_S128x128_0_896, p 7⟩,
       ⟨Rect.unit (s := S128x1024) ![0, 768] S128x128.size inb_S128x1024_S128x128_0_768, p 6⟩,
       ⟨Rect.unit (s := S128x1024) ![0, 640] S128x128.size inb_S128x1024_S128x128_0_640, p 5⟩,
       ⟨Rect.unit (s := S128x1024) ![0, 512] S128x128.size inb_S128x1024_S128x128_0_512, p 4⟩,
       ⟨Rect.unit (s := S128x1024) ![0, 384] S128x128.size inb_S128x1024_S128x128_0_384, p 3⟩,
       ⟨Rect.unit (s := S128x1024) ![0, 256] S128x128.size inb_S128x1024_S128x128_0_256, p 2⟩,
       ⟨Rect.unit (s := S128x1024) ![0, 128] S128x128.size inb_S128x1024_S128x128_0_128, p 1⟩,
       ⟨Rect.unit (s := S128x1024) ![0, 0] S128x128.size inb_S128x1024_S128x128_0_0, p 0⟩]) = cols p := by
  funext y
  have hd : (y 1).val / 128 < 8 := by have : (y 1).val < 1024 := (y 1).isLt; omega
  refine (View.read_writes_apply_eq_canon _ _ _ _ ?hc).trans (View.canon_apply_of_pieces _ _ ?_ y ?hc)
  case hc =>
    have hcase : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
    rcases hcase with h | h | h | h | h | h | h | h
    · have e : (Rect.unit (s := S128x1024) ![0, 0] S128x128.size inb_S128x1024_S128x128_0_0).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 0 + 1 * ((y 1).val % 128) = (y 1).val; omega)
      exact ⟨⟨Rect.unit (s := S128x1024) ![0, 0] S128x128.size inb_S128x1024_S128x128_0_0, p 0⟩, List.Mem.tail _ (List.Mem.tail _ (List.Mem.tail _ (List.Mem.tail _ (List.Mem.tail _ (List.Mem.tail _ (List.Mem.tail _ (List.Mem.head _))))))), e ▸ (Rect.unit (s := S128x1024) ![0, 0] S128x128.size inb_S128x1024_S128x128_0_0).idx_mem (ix2 (⟨(y 0).val, (y 0).isLt⟩ : Fin 128) (⟨(y 1).val % 128, Nat.mod_lt _ (by decide)⟩ : Fin 128))⟩
    · have e : (Rect.unit (s := S128x1024) ![0, 128] S128x128.size inb_S128x1024_S128x128_0_128).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 128 + 1 * ((y 1).val % 128) = (y 1).val; omega)
      exact ⟨⟨Rect.unit (s := S128x1024) ![0, 128] S128x128.size inb_S128x1024_S128x128_0_128, p 1⟩, List.Mem.tail _ (List.Mem.tail _ (List.Mem.tail _ (List.Mem.tail _ (List.Mem.tail _ (List.Mem.tail _ (List.Mem.head _)))))), e ▸ (Rect.unit (s := S128x1024) ![0, 128] S128x128.size inb_S128x1024_S128x128_0_128).idx_mem (ix2 (⟨(y 0).val, (y 0).isLt⟩ : Fin 128) (⟨(y 1).val % 128, Nat.mod_lt _ (by decide)⟩ : Fin 128))⟩
    · have e : (Rect.unit (s := S128x1024) ![0, 256] S128x128.size inb_S128x1024_S128x128_0_256).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 256 + 1 * ((y 1).val % 128) = (y 1).val; omega)
      exact ⟨⟨Rect.unit (s := S128x1024) ![0, 256] S128x128.size inb_S128x1024_S128x128_0_256, p 2⟩, List.Mem.tail _ (List.Mem.tail _ (List.Mem.tail _ (List.Mem.tail _ (List.Mem.tail _ (List.Mem.head _))))), e ▸ (Rect.unit (s := S128x1024) ![0, 256] S128x128.size inb_S128x1024_S128x128_0_256).idx_mem (ix2 (⟨(y 0).val, (y 0).isLt⟩ : Fin 128) (⟨(y 1).val % 128, Nat.mod_lt _ (by decide)⟩ : Fin 128))⟩
    · have e : (Rect.unit (s := S128x1024) ![0, 384] S128x128.size inb_S128x1024_S128x128_0_384).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 384 + 1 * ((y 1).val % 128) = (y 1).val; omega)
      exact ⟨⟨Rect.unit (s := S128x1024) ![0, 384] S128x128.size inb_S128x1024_S128x128_0_384, p 3⟩, List.Mem.tail _ (List.Mem.tail _ (List.Mem.tail _ (List.Mem.tail _ (List.Mem.head _)))), e ▸ (Rect.unit (s := S128x1024) ![0, 384] S128x128.size inb_S128x1024_S128x128_0_384).idx_mem (ix2 (⟨(y 0).val, (y 0).isLt⟩ : Fin 128) (⟨(y 1).val % 128, Nat.mod_lt _ (by decide)⟩ : Fin 128))⟩
    · have e : (Rect.unit (s := S128x1024) ![0, 512] S128x128.size inb_S128x1024_S128x128_0_512).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 512 + 1 * ((y 1).val % 128) = (y 1).val; omega)
      exact ⟨⟨Rect.unit (s := S128x1024) ![0, 512] S128x128.size inb_S128x1024_S128x128_0_512, p 4⟩, List.Mem.tail _ (List.Mem.tail _ (List.Mem.tail _ (List.Mem.head _))), e ▸ (Rect.unit (s := S128x1024) ![0, 512] S128x128.size inb_S128x1024_S128x128_0_512).idx_mem (ix2 (⟨(y 0).val, (y 0).isLt⟩ : Fin 128) (⟨(y 1).val % 128, Nat.mod_lt _ (by decide)⟩ : Fin 128))⟩
    · have e : (Rect.unit (s := S128x1024) ![0, 640] S128x128.size inb_S128x1024_S128x128_0_640).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 640 + 1 * ((y 1).val % 128) = (y 1).val; omega)
      exact ⟨⟨Rect.unit (s := S128x1024) ![0, 640] S128x128.size inb_S128x1024_S128x128_0_640, p 5⟩, List.Mem.tail _ (List.Mem.tail _ (List.Mem.head _)), e ▸ (Rect.unit (s := S128x1024) ![0, 640] S128x128.size inb_S128x1024_S128x128_0_640).idx_mem (ix2 (⟨(y 0).val, (y 0).isLt⟩ : Fin 128) (⟨(y 1).val % 128, Nat.mod_lt _ (by decide)⟩ : Fin 128))⟩
    · have e : (Rect.unit (s := S128x1024) ![0, 768] S128x128.size inb_S128x1024_S128x128_0_768).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 768 + 1 * ((y 1).val % 128) = (y 1).val; omega)
      exact ⟨⟨Rect.unit (s := S128x1024) ![0, 768] S128x128.size inb_S128x1024_S128x128_0_768, p 6⟩, List.Mem.tail _ (List.Mem.head _), e ▸ (Rect.unit (s := S128x1024) ![0, 768] S128x128.size inb_S128x1024_S128x128_0_768).idx_mem (ix2 (⟨(y 0).val, (y 0).isLt⟩ : Fin 128) (⟨(y 1).val % 128, Nat.mod_lt _ (by decide)⟩ : Fin 128))⟩
    · have e : (Rect.unit (s := S128x1024) ![0, 896] S128x128.size inb_S128x1024_S128x128_0_896).idx (ix2 (⟨(y 0).val, (y 0).isLt⟩ : Fin 128) (⟨(y 1).val % 128, Nat.mod_lt _ (by decide)⟩ : Fin 128)) = y := by
        funext a; fin_cases a
        · exact Fin.ext (by show 0 + 1 * (y 0).val = (y 0).val; omega)
        · exact Fin.ext (by show 896 + 1 * ((y 1).val % 128) = (y 1).val; omega)
      exact ⟨⟨Rect.unit (s := S128x1024) ![0, 896] S128x128.size inb_S128x1024_S128x128_0_896, p 7⟩, List.Mem.head _, e ▸ (Rect.unit (s := S128x1024) ![0, 896] S128x128.size inb_S128x1024_S128x128_0_896).idx_mem (ix2 (⟨(y 0).val, (y 0).isLt⟩ : Fin 128) (⟨(y 1).val % 128, Nat.mod_lt _ (by decide)⟩ : Fin 128))⟩
  · intro q hq
    simp only [List.mem_cons, List.not_mem_nil, or_false] at hq
    rcases hq with rfl | rfl | rfl | rfl | rfl | rfl | rfl | rfl
    · exact fun x => (cols_at p 7 x _ (by show 0 + 1 * (x 0).val = (x 0).val; omega) (by show 896 + 1 * (x 1).val = 128 * 7 + (x 1).val; omega)).symm
    · exact fun x => (cols_at p 6 x _ (by show 0 + 1 * (x 0).val = (x 0).val; omega) (by show 768 + 1 * (x 1).val = 128 * 6 + (x 1).val; omega)).symm
    · exact fun x => (cols_at p 5 x _ (by show 0 + 1 * (x 0).val = (x 0).val; omega) (by show 640 + 1 * (x 1).val = 128 * 5 + (x 1).val; omega)).symm
    · exact fun x => (cols_at p 4 x _ (by show 0 + 1 * (x 0).val = (x 0).val; omega) (by show 512 + 1 * (x 1).val = 128 * 4 + (x 1).val; omega)).symm
    · exact fun x => (cols_at p 3 x _ (by show 0 + 1 * (x 0).val = (x 0).val; omega) (by show 384 + 1 * (x 1).val = 128 * 3 + (x 1).val; omega)).symm
    · exact fun x => (cols_at p 2 x _ (by show 0 + 1 * (x 0).val = (x 0).val; omega) (by show 256 + 1 * (x 1).val = 128 * 2 + (x 1).val; omega)).symm
    · exact fun x => (cols_at p 1 x _ (by show 0 + 1 * (x 0).val = (x 0).val; omega) (by show 128 + 1 * (x 1).val = 128 * 1 + (x 1).val; omega)).symm
    · exact fun x => (cols_at p 0 x _ (by show 0 + 1 * (x 0).val = (x 0).val; omega) (by show 0 + 1 * (x 1).val = 128 * 0 + (x 1).val; omega)).symm

/-- Eight stores of every eighth row each leave the eight blocks interleaved. -/
theorem strided8 {arg : Memref sig .tc .vmem S1024x128 .f32} (f : BufTy.Contents (Elt F) arg.view.ty) (p : Fin 8 → FVec F S128x128 .f32) :
    View.read (Elt F) arg.view (arg.view.writes (Elt F) f
      [⟨⟨⟨![7, 0], S128x128.size, ![8, 1], inb_S1024x128_S128x128_7_0_s_8_1⟩, spos_8_1⟩, p 7⟩,
       ⟨⟨⟨![6, 0], S128x128.size, ![8, 1], inb_S1024x128_S128x128_6_0_s_8_1⟩, spos_8_1⟩, p 6⟩,
       ⟨⟨⟨![5, 0], S128x128.size, ![8, 1], inb_S1024x128_S128x128_5_0_s_8_1⟩, spos_8_1⟩, p 5⟩,
       ⟨⟨⟨![4, 0], S128x128.size, ![8, 1], inb_S1024x128_S128x128_4_0_s_8_1⟩, spos_8_1⟩, p 4⟩,
       ⟨⟨⟨![3, 0], S128x128.size, ![8, 1], inb_S1024x128_S128x128_3_0_s_8_1⟩, spos_8_1⟩, p 3⟩,
       ⟨⟨⟨![2, 0], S128x128.size, ![8, 1], inb_S1024x128_S128x128_2_0_s_8_1⟩, spos_8_1⟩, p 2⟩,
       ⟨⟨⟨![1, 0], S128x128.size, ![8, 1], inb_S1024x128_S128x128_1_0_s_8_1⟩, spos_8_1⟩, p 1⟩,
       ⟨⟨⟨![0, 0], S128x128.size, ![8, 1], inb_S1024x128_S128x128_0_0_s_8_1⟩, spos_8_1⟩, p 0⟩]) = rows p := by
  funext y
  have hd : (y 0).val % 8 < 8 := by omega
  refine (View.read_writes_apply_eq_canon _ _ _ _ ?hc).trans (View.canon_apply_of_pieces _ _ ?_ y ?hc)
  case hc =>
    have hcase : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases hcase with h | h | h | h | h | h | h | h
    · have e : ((⟨⟨![0, 0], S128x128.size, ![8, 1], inb_S1024x128_S128x128_0_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 0 + 8 * ((y 0).val / 8) = (y 0).val; omega)
        · exact Fin.ext (by show 0 + 1 * (y 1).val = (y 1).val; omega)
      exact ⟨⟨(⟨⟨![0, 0], S128x128.size, ![8, 1], inb_S1024x128_S128x128_0_0_s_8_1⟩, spos_8_1⟩ : Rect S1024x128), p 0⟩, List.Mem.tail _ (List.Mem.tail _ (List.Mem.tail _ (List.Mem.tail _ (List.Mem.tail _ (List.Mem.tail _ (List.Mem.tail _ (List.Mem.head _))))))), e ▸ ((⟨⟨![0, 0], S128x128.size, ![8, 1], inb_S1024x128_S128x128_0_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![1, 0], S128x128.size, ![8, 1], inb_S1024x128_S128x128_1_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 1 + 8 * ((y 0).val / 8) = (y 0).val; omega)
        · exact Fin.ext (by show 0 + 1 * (y 1).val = (y 1).val; omega)
      exact ⟨⟨(⟨⟨![1, 0], S128x128.size, ![8, 1], inb_S1024x128_S128x128_1_0_s_8_1⟩, spos_8_1⟩ : Rect S1024x128), p 1⟩, List.Mem.tail _ (List.Mem.tail _ (List.Mem.tail _ (List.Mem.tail _ (List.Mem.tail _ (List.Mem.tail _ (List.Mem.head _)))))), e ▸ ((⟨⟨![1, 0], S128x128.size, ![8, 1], inb_S1024x128_S128x128_1_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![2, 0], S128x128.size, ![8, 1], inb_S1024x128_S128x128_2_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 2 + 8 * ((y 0).val / 8) = (y 0).val; omega)
        · exact Fin.ext (by show 0 + 1 * (y 1).val = (y 1).val; omega)
      exact ⟨⟨(⟨⟨![2, 0], S128x128.size, ![8, 1], inb_S1024x128_S128x128_2_0_s_8_1⟩, spos_8_1⟩ : Rect S1024x128), p 2⟩, List.Mem.tail _ (List.Mem.tail _ (List.Mem.tail _ (List.Mem.tail _ (List.Mem.tail _ (List.Mem.head _))))), e ▸ ((⟨⟨![2, 0], S128x128.size, ![8, 1], inb_S1024x128_S128x128_2_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![3, 0], S128x128.size, ![8, 1], inb_S1024x128_S128x128_3_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 3 + 8 * ((y 0).val / 8) = (y 0).val; omega)
        · exact Fin.ext (by show 0 + 1 * (y 1).val = (y 1).val; omega)
      exact ⟨⟨(⟨⟨![3, 0], S128x128.size, ![8, 1], inb_S1024x128_S128x128_3_0_s_8_1⟩, spos_8_1⟩ : Rect S1024x128), p 3⟩, List.Mem.tail _ (List.Mem.tail _ (List.Mem.tail _ (List.Mem.tail _ (List.Mem.head _)))), e ▸ ((⟨⟨![3, 0], S128x128.size, ![8, 1], inb_S1024x128_S128x128_3_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![4, 0], S128x128.size, ![8, 1], inb_S1024x128_S128x128_4_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 4 + 8 * ((y 0).val / 8) = (y 0).val; omega)
        · exact Fin.ext (by show 0 + 1 * (y 1).val = (y 1).val; omega)
      exact ⟨⟨(⟨⟨![4, 0], S128x128.size, ![8, 1], inb_S1024x128_S128x128_4_0_s_8_1⟩, spos_8_1⟩ : Rect S1024x128), p 4⟩, List.Mem.tail _ (List.Mem.tail _ (List.Mem.tail _ (List.Mem.head _))), e ▸ ((⟨⟨![4, 0], S128x128.size, ![8, 1], inb_S1024x128_S128x128_4_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![5, 0], S128x128.size, ![8, 1], inb_S1024x128_S128x128_5_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 5 + 8 * ((y 0).val / 8) = (y 0).val; omega)
        · exact Fin.ext (by show 0 + 1 * (y 1).val = (y 1).val; omega)
      exact ⟨⟨(⟨⟨![5, 0], S128x128.size, ![8, 1], inb_S1024x128_S128x128_5_0_s_8_1⟩, spos_8_1⟩ : Rect S1024x128), p 5⟩, List.Mem.tail _ (List.Mem.tail _ (List.Mem.head _)), e ▸ ((⟨⟨![5, 0], S128x128.size, ![8, 1], inb_S1024x128_S128x128_5_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![6, 0], S128x128.size, ![8, 1], inb_S1024x128_S128x128_6_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 6 + 8 * ((y 0).val / 8) = (y 0).val; omega)
        · exact Fin.ext (by show 0 + 1 * (y 1).val = (y 1).val; omega)
      exact ⟨⟨(⟨⟨![6, 0], S128x128.size, ![8, 1], inb_S1024x128_S128x128_6_0_s_8_1⟩, spos_8_1⟩ : Rect S1024x128), p 6⟩, List.Mem.tail _ (List.Mem.head _), e ▸ ((⟨⟨![6, 0], S128x128.size, ![8, 1], inb_S1024x128_S128x128_6_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
    · have e : ((⟨⟨![7, 0], S128x128.size, ![8, 1], inb_S1024x128_S128x128_7_0_s_8_1⟩, spos_8_1⟩ : Rect S1024x128)).idx (ix2 (⟨(y 0).val / 8, by have : (y 0).val < 1024 := (y 0).isLt; omega⟩ : Fin 128) (⟨(y 1).val, (y 1).isLt⟩ : Fin 128)) = y := by
        funext a; fin_cases a
        · exact Fin.ext (by show 7 + 8 * ((y 0).val / 8) = (y 0).val; omega)
        · exact Fin.ext (by show 0 + 1 * (y 1).val = (y 1).val; omega)
      exact ⟨⟨(⟨⟨![7, 0], S128x128.size, ![8, 1], inb_S1024x128_S128x128_7_0_s_8_1⟩, spos_8_1⟩ : Rect S1024x128), p 7⟩, List.Mem.head _, e ▸ ((⟨⟨![7, 0], S128x128.size, ![8, 1], inb_S1024x128_S128x128_7_0_s_8_1⟩, spos_8_1⟩ : Rect S1024x128)).idx_mem (ix2 (⟨(y 0).val / 8, by have : (y 0).val < 1024 := (y 0).isLt; omega⟩ : Fin 128) (⟨(y 1).val, (y 1).isLt⟩ : Fin 128))⟩
  · intro q hq
    simp only [List.mem_cons, List.not_mem_nil, or_false] at hq
    rcases hq with rfl | rfl | rfl | rfl | rfl | rfl | rfl | rfl
    · exact fun x => (rows_at p 7 x _ (by show 7 + 8 * (x 0).val = 7 + 8 * (x 0).val; rfl) (by show 0 + 1 * (x 1).val = (x 1).val; omega)).symm
    · exact fun x => (rows_at p 6 x _ (by show 6 + 8 * (x 0).val = 6 + 8 * (x 0).val; rfl) (by show 0 + 1 * (x 1).val = (x 1).val; omega)).symm
    · exact fun x => (rows_at p 5 x _ (by show 5 + 8 * (x 0).val = 5 + 8 * (x 0).val; rfl) (by show 0 + 1 * (x 1).val = (x 1).val; omega)).symm
    · exact fun x => (rows_at p 4 x _ (by show 4 + 8 * (x 0).val = 4 + 8 * (x 0).val; rfl) (by show 0 + 1 * (x 1).val = (x 1).val; omega)).symm
    · exact fun x => (rows_at p 3 x _ (by show 3 + 8 * (x 0).val = 3 + 8 * (x 0).val; rfl) (by show 0 + 1 * (x 1).val = (x 1).val; omega)).symm
    · exact fun x => (rows_at p 2 x _ (by show 2 + 8 * (x 0).val = 2 + 8 * (x 0).val; rfl) (by show 0 + 1 * (x 1).val = (x 1).val; omega)).symm
    · exact fun x => (rows_at p 1 x _ (by show 1 + 8 * (x 0).val = 1 + 8 * (x 0).val; rfl) (by show 0 + 1 * (x 1).val = (x 1).val; omega)).symm
    · exact fun x => (rows_at p 0 x _ (by show 0 + 8 * (x 0).val = 0 + 8 * (x 0).val; rfl) (by show 0 + 1 * (x 1).val = (x 1).val; omega)).symm

/-! ## The block -/

/-- The normalized rows. -/
def HN (x0 : Vec F S128x2048 .f32) (x1 : Vec F S1x2048 .f32) : FVec F S128x2048 .bf16 :=
  k0_pay6 (View.ld x0 (Rect.unit (s := S128x2048) ![0, 0] S128x2048.size inb_S128x2048_S128x2048_0_0)) (View.ld x1 (Rect.unit (s := S1x2048) ![0, 0] S1x2048.size inb_S1x2048_S1x2048_0_0))

/-- The product of the normalized rows with 1024 columns of the weights. -/
def PJ (x0 : Vec F S128x2048 .f32) (x1 : Vec F S1x2048 .f32) (w : Vec F S2048x1024 .bf16) : FVec F S128x1024 .f32 :=
  k0_pay1 (HN x0 x1) w

/-- The slab of 1024 columns from each of the five first columns. -/
def W0 (x2 : Vec F S2048x6272 .bf16) : Vec F S2048x1024 .bf16 := View.ld x2 (Rect.unit (s := S2048x6272) ![0, 0] S2048x1024.size inb_S2048x6272_S2048x1024_0_0)
def W1 (x2 : Vec F S2048x6272 .bf16) : Vec F S2048x1024 .bf16 := View.ld x2 (Rect.unit (s := S2048x6272) ![0, 1024] S2048x1024.size inb_S2048x6272_S2048x1024_0_1024)
def W2 (x2 : Vec F S2048x6272 .bf16) : Vec F S2048x1024 .bf16 := View.ld x2 (Rect.unit (s := S2048x6272) ![0, 2048] S2048x1024.size inb_S2048x6272_S2048x1024_0_2048)
def W3 (x2 : Vec F S2048x6272 .bf16) : Vec F S2048x1024 .bf16 := View.ld x2 (Rect.unit (s := S2048x6272) ![0, 3072] S2048x1024.size inb_S2048x6272_S2048x1024_0_3072)
def W4 (x2 : Vec F S2048x6272 .bf16) : Vec F S2048x1024 .bf16 := View.ld x2 (Rect.unit (s := S2048x6272) ![0, 4096] S2048x1024.size inb_S2048x6272_S2048x1024_0_4096)
def W5 (x2 : Vec F S2048x6272 .bf16) : Vec F S2048x1024 .bf16 := View.ld x2 (Rect.unit (s := S2048x6272) ![0, 5120] S2048x1024.size inb_S2048x6272_S2048x1024_0_5120)

/-- The norm's gain as loaded. -/
def G1 (x : Vec F S1x128 .f32) : Vec F S1x128 .f32 := View.ld x (Rect.unit (s := S1x128) ![0, 0] S1x128.size inb_S1x128_S1x128_0_0)

/-- The eight heads of a product. -/
def hd (P : FVec F S128x1024 .f32) : Fin 8 → FVec F S128x128 .f32 :=
  ![extractStridedSlice S128x128 ![0, 0] P slices_S128x1024_o0_0_S128x128,
    extractStridedSlice S128x128 ![0, 128] P slices_S128x1024_o0_128_S128x128,
    extractStridedSlice S128x128 ![0, 256] P slices_S128x1024_o0_256_S128x128,
    extractStridedSlice S128x128 ![0, 384] P slices_S128x1024_o0_384_S128x128,
    extractStridedSlice S128x128 ![0, 512] P slices_S128x1024_o0_512_S128x128,
    extractStridedSlice S128x128 ![0, 640] P slices_S128x1024_o0_640_S128x128,
    extractStridedSlice S128x128 ![0, 768] P slices_S128x1024_o0_768_S128x128,
    extractStridedSlice S128x128 ![0, 896] P slices_S128x1024_o0_896_S128x128]

/-- The normalized heads of a product. -/
def hdn (P : FVec F S128x1024 .f32) (g : Vec F S1x128 .f32) : Fin 8 → FVec F S128x128 .f32 := fun h => k0_pay27 (hd P h) (k0_pay26 g)

/-- The log decays of the block's rows. -/
def LA (x0 : Vec F S128x2048 .f32) (x1 : Vec F S1x2048 .f32) (x2 : Vec F S2048x6272 .bf16) (x3 : Vec F S128x512 .bf16) (x4 : Vec F S1x512 .f32) : FVec F S128x512 .f32 :=
  k0_pay10 (k0_pay8 (HN x0 x1) (View.ld x2 (Rect.unit (s := S2048x6272) ![0, 6144] S2048x128.size inb_S2048x6272_S2048x128_0_6144)) (View.ld x3 (Rect.unit (s := S128x512) ![0, 0] S128x512.size inb_S128x512_S128x512_0_0)) (View.ld x4 (Rect.unit (s := S1x512) ![0, 0] S1x512.size inb_S1x512_S1x512_0_0)))
    (k0_pay9 (HN x0 x1) (View.ld x2 (Rect.unit (s := S2048x6272) ![0, 6144] S2048x128.size inb_S2048x6272_S2048x128_0_6144)) (View.ld x3 (Rect.unit (s := S128x512) ![0, 0] S128x512.size inb_S128x512_S128x512_0_0)) (View.ld x4 (Rect.unit (s := S1x512) ![0, 0] S1x512.size inb_S1x512_S1x512_0_0)))

section Outs
variable (x0 : Vec F S128x2048 .f32) (x1 : Vec F S1x2048 .f32) (x2 : Vec F S2048x6272 .bf16) (x3 : Vec F S128x512 .bf16) (x4 : Vec F S1x512 .f32) (x5 x6 : Vec F S1x128 .f32)

/-- What the body leaves in each output buffer: normalized queries and keys and the values of the attention, -/
def OUT8 : Vec F S128x1024 .f32 := cols (hdn (PJ x0 x1 (W0 x2)) (G1 x5))
def OUT9 : Vec F S128x1024 .f32 := cols (hdn (PJ x0 x1 (W1 x2)) (G1 x6))
def OUT10 : Vec F S128x1024 .f32 := cols (hd (PJ x0 x1 (W2 x2)))
/-- the keys and values again, a row per head, -/
def OUT11 : Vec F S1024x128 .f32 := rows (hdn (PJ x0 x1 (W1 x2)) (G1 x6))
def OUT12 : Vec F S1024x128 .f32 := rows (hd (PJ x0 x1 (W2 x2)))
/-- the scaled queries and the keys of the linear attention, its values and its output gate, -/
def OUT13 : Vec F S128x1024 .f32 := fun y =>
  if h : (y 1).val < 512 then k0_pay2 (HN x0 x1) (W3 x2) (ix2 (⟨(y 0).val, (y 0).isLt⟩ : Fin 128) (⟨(y 1).val, h⟩ : Fin 512))
  else k0_pay3 (HN x0 x1) (W3 x2) (ix2 (⟨(y 0).val, (y 0).isLt⟩ : Fin 128) (⟨(y 1).val - 512, by have : (y 1).val < 1024 := (y 1).isLt; omega⟩ : Fin 512))
def OUT14 : Vec F S128x1024 .bf16 := k0_pay4 (HN x0 x1) (W4 x2)
def OUT15 : Vec F S128x1024 .f32 := PJ x0 x1 (W5 x2)
/-- and the log decays summed within each sequence. -/
def OUT16 : Vec F S128x512 .f32 := k0_pay23 (LA x0 x1 x2 x3 x4)
end Outs

/-! ## The stored values are the heads -/

section Payloads
variable (A : Vec F S128x2048 .bf16) (w : Vec F S2048x1024 .bf16) (P : FVec F S128x1024 .f32) (g : Vec F S1x128 .f32)
theorem p11_eq : k0_pay11 A w = k0_pay1 A w := rfl
theorem p24_eq : k0_pay24 A w = k0_pay1 A w := rfl
theorem p44_eq : k0_pay44 A w = k0_pay1 A w := rfl
theorem p5_eq : k0_pay5 A w = k0_pay1 A w := rfl
theorem p12_eq : k0_pay12 A w g = hdn (k0_pay1 A w) g 0 := rfl
theorem p13_eq : k0_pay13 A w g = hdn (k0_pay1 A w) g 1 := rfl
theorem p14_eq : k0_pay14 P g = hdn P g 2 := rfl
theorem p15_eq : k0_pay15 P g = hdn P g 3 := rfl
theorem p19_eq : k0_pay19 (k0_pay16 P) (k0_pay17 g) (k0_pay18 P) = hdn P g 4 := rfl
theorem p20_eq : k0_pay20 P g = hdn P g 5 := rfl
theorem p21_eq : k0_pay21 P g = hdn P g 6 := rfl
theorem p22_eq : k0_pay22 P g = hdn P g 7 := rfl
theorem p27_eq : k0_pay27 (k0_pay25 A w) (k0_pay26 g) = hdn (k0_pay1 A w) g 0 := rfl
theorem p28_eq : k0_pay28 P g = hdn P g 1 := rfl
theorem p32_eq : k0_pay32 (k0_pay29 P) (k0_pay30 g) (k0_pay31 P) = hdn P g 2 := rfl
theorem p33_eq : k0_pay33 P g = hdn P g 3 := rfl
theorem p37_eq : k0_pay37 (k0_pay34 P) (k0_pay35 g) (k0_pay36 P) (Scalar.ofBits .f32 0x358637BD#32) = hdn P g 4 := rfl
theorem p38_eq : k0_pay38 P g = hdn P g 5 := rfl
theorem p42_eq : k0_pay42 (k0_pay39 P) (k0_pay40 g) (k0_pay41 P) = hdn P g 6 := rfl
theorem p43_eq : k0_pay43 P g = hdn P g 7 := rfl
theorem p45_eq : k0_pay45 A w = hd (k0_pay1 A w) 0 := rfl
theorem p46_eq : k0_pay46 A w = hd (k0_pay1 A w) 1 := rfl
theorem p47_eq : k0_pay47 P = hd P 2 := rfl
theorem p48_eq : k0_pay48 P = hd P 3 := rfl
theorem p49_eq : k0_pay49 P = hd P 4 := rfl
theorem p50_eq : k0_pay50 P = hd P 5 := rfl
theorem p51_eq : k0_pay51 P = hd P 6 := rfl
theorem p52_eq : k0_pay52 P = hd P 7 := rfl
end Payloads

/-- Two stores of 512 columns each. -/
theorem halves_cols {arg : Memref sig .tc .vmem S128x1024 .f32} (f : BufTy.Contents (Elt F) arg.view.ty) (a b : FVec F S128x512 .f32) :
    View.read (Elt F) arg.view (arg.view.writes (Elt F) f
      [⟨Rect.unit (s := S128x1024) ![0, 512] S128x512.size inb_S128x1024_S128x512_0_512, b⟩,
       ⟨Rect.unit (s := S128x1024) ![0, 0] S128x512.size inb_S128x1024_S128x512_0_0, a⟩]) = fun y =>
      if h : (y 1).val < 512 then a (ix2 (⟨(y 0).val, (y 0).isLt⟩ : Fin 128) (⟨(y 1).val, h⟩ : Fin 512))
      else b (ix2 (⟨(y 0).val, (y 0).isLt⟩ : Fin 128) (⟨(y 1).val - 512, by have : (y 1).val < 1024 := (y 1).isLt; omega⟩ : Fin 512)) := by
  funext y
  have y1 : (y 1).val < 1024 := (y 1).isLt
  by_cases h : (y 1).val < 512
  · rw [dif_pos h]
    refine (View.read_writes_cons_unit_of_not_mem arg.view f inb_S128x1024_S128x512_0_512 _ _ y rfl 1 (Or.inl (by show (y 1).val < 512; omega))).trans ?_
    refine View.read_writes_cons_unit_of_mem arg.view f inb_S128x1024_S128x512_0_0 _ _ y _ rfl fun a => ?_
    fin_cases a
    · exact (Nat.zero_add _).symm
    · exact (Nat.zero_add _).symm
  · rw [dif_neg h]
    refine View.read_writes_cons_unit_of_mem arg.view f inb_S128x1024_S128x512_0_512 _ _ y _ rfl fun a => ?_
    fin_cases a
    · exact (Nat.zero_add _).symm
    · show (y 1).val = 512 + ((y 1).val - 512); omega

/-- One store of a whole buffer leaves what it stored. -/
theorem whole_f32 {arg : Memref sig .tc .vmem S128x1024 .f32} (f : BufTy.Contents (Elt F) arg.view.ty) (a : FVec F S128x1024 .f32) :
    View.read (Elt F) arg.view (arg.view.writes (Elt F) f
      [⟨Rect.unit (s := S128x1024) ![0, 0] S128x1024.size inb_S128x1024_S128x1024_0_0, a⟩]) = a := by
  funext y
  refine View.read_writes_cons_unit_of_mem arg.view f inb_S128x1024_S128x1024_0_0 _ _ y y rfl fun a => ?_
  fin_cases a
  · exact (Nat.zero_add _).symm
  · exact (Nat.zero_add _).symm

theorem whole_bf16 {arg : Memref sig .tc .vmem S128x1024 .bf16} (f : BufTy.Contents (Elt F) arg.view.ty) (a : FVec F S128x1024 .bf16) :
    View.read (Elt F) arg.view (arg.view.writes (Elt F) f
      [⟨Rect.unit (s := S128x1024) ![0, 0] S128x1024.size inb_S128x1024_S128x1024_0_0, a⟩]) = a := by
  funext y
  refine View.read_writes_cons_unit_of_mem arg.view f inb_S128x1024_S128x1024_0_0 _ _ y y rfl fun a => ?_
  fin_cases a
  · exact (Nat.zero_add _).symm
  · exact (Nat.zero_add _).symm

theorem whole_decay {arg : Memref sig .tc .vmem S128x512 .f32} (f : BufTy.Contents (Elt F) arg.view.ty) (a : FVec F S128x512 .f32) :
    View.read (Elt F) arg.view (arg.view.writes (Elt F) f
      [⟨Rect.unit (s := S128x512) ![0, 0] S128x512.size inb_S128x512_S128x512_0_0, a⟩]) = a := by
  funext y
  refine View.read_writes_cons_unit_of_mem arg.view f inb_S128x512_S128x512_0_0 _ _ y y rfl fun a => ?_
  fin_cases a
  · exact (Nat.zero_add _).symm
  · exact (Nat.zero_add _).symm

/-- Reading the scratch buffer back after the store that fills it gives the normalized rows. -/
theorem scratch_read {arg : Memref sig .tc .vmem S128x2048 .bf16} (a : FVec F S128x2048 .bf16) :
    arg.view.readCov (Val := Elt F) [⟨Rect.unit (s := S128x2048) ![0, 0] S128x2048.size inb_S128x2048_S128x2048_0_0, a⟩]
      (Rect.unit (s := S128x2048) ![0, 0] S128x2048.size inb_S128x2048_S128x2048_0_0).toLoadRect = a := by
  funext y
  have e : (Rect.unit (s := S128x2048) ![0, 0] S128x2048.size inb_S128x2048_S128x2048_0_0).toLoadRect.idx y = y := by
    funext a; fin_cases a
    · exact Fin.ext (by show 0 + 1 * (y 0).val = (y 0).val; omega)
    · exact Fin.ext (by show 0 + 1 * (y 1).val = (y 1).val; omega)
  show View.read (Elt F) arg.view (arg.view.writes (Elt F) arg.view.junk _) (LoadRect.idx _ y) = a y
  rw [e]
  refine View.read_writes_cons_unit_of_mem arg.view _ inb_S128x2048_S128x2048_0_0 _ _ y y rfl fun a => ?_
  fin_cases a
  · exact (Nat.zero_add _).symm
  · exact (Nat.zero_add _).symm

end Cert.InpSIdeal.Value

end
-- ==== Proof.InpSSpec.lean ====
/- What the sample batch's input projection computes, over the extended reals, as sums over the argument arrays; and each block the body
   leaves as those sums at the block's rows. -/
module

public import proofs.«01_k».proof.Proof.InpSBlock
public import Idealize.ShloMosaic.Lib.Pipeline.ValueKit
public import Idealize.ShloMosaic.Lib.Pointwise
public import Idealize.ShloMosaic.Lib.Claim

@[expose] public section

set_option maxRecDepth 16384

noncomputable section

namespace Cert.InpSIdeal.Value

open Cert.InpSIdeal Cert.InpSIdeal.Gen
open Idealize.ShloMosaic Idealize.ShloMosaic.TcCoe Idealize.SL.Sem

/-! ## The sums -/

section Spec
variable (X : FVec Ideal S32x4x2048 .f32) (G : FVec Ideal S2048 .f32) (W : FVec Ideal S2048x6160 .f32)
  (QG KG : FVec Ideal S128 .f32) (WG : FVec Ideal S16x512 .f32) (BG : FVec Ideal S512 .f32)

/-- Entry `k` of row `r` of the residual stream (row `r` is position `r % 4` of sequence `r / 4`). -/
def XR (r : Fin 128) (k : Fin 2048) : EReal := X (ix3 (⟨r.val / 4, by omega⟩ : Fin 32) (⟨r.val % 4, by omega⟩ : Fin 4) k)

/-- Entry `k` of the root-mean-square norm of row `r`. -/
def HR (r : Fin 128) (k : Fin 2048) : EReal :=
  XR X r k * Ideal.rsqrt (Ideal.div (∑ l : Fin 2048, XR X r l * XR X r l) (Ideal.ofBits .f32 0x45000000#32) + Ideal.ofBits .f32 0x358637BD#32) * G (ix1 k)

/-- Column `l` of the projection of row `r`. -/
def PR (r : Fin 128) (l : Fin 6160) : EReal := ∑ k : Fin 2048, HR X G r k * W (ix2 k l)

/-- Entry `d` of the root-mean-square norm of the head `P`, with gain `g`. -/
def HD (P : Fin 128 → EReal) (g : FVec Ideal S128 .f32) (d : Fin 128) : EReal :=
  P d * Ideal.rsqrt (Ideal.div (∑ e : Fin 128, P e * P e) (Ideal.ofBits .f32 0x43000000#32) + Ideal.ofBits .f32 0x358637BD#32) * g (ix1 d)

/-- The gate's logit `j` of row `r`. -/
def ZR (r : Fin 128) (j : Fin 512) : EReal := (∑ k : Fin 16, PR X G W r ⟨6144 + k.val, by omega⟩ * WG (ix2 k j)) + BG (ix1 j)

/-- Its log decay, of the logit `z`: a sixteenth of the logarithm of the sigmoid. -/
def LZ (z : EReal) : EReal :=
  (min z 0 - Ideal.log1p (Ideal.exp (0 - FloatOps.absf (F := Ideal) (φ := .f32) z))) * Ideal.ofBits .f32 0x3D800000#32

/-- The log decays of row `r`'s sequence of 4 rows summed up to and including the row. -/
def BR (r : Fin 128) (j : Fin 512) : EReal :=
  ∑ i : Fin 4, if i.val ≤ r.val % 4 then LZ (ZR X G W WG BG ⟨4 * (r.val / 4) + i.val, by omega⟩ j) else 0

/-- Head `h` of the 1024 columns from column `base` on, at row `r`. -/
def HB (base : Nat) (hb : base ≤ 5120) (r : Fin 128) (h : Fin 8) (e : Fin 128) : EReal := PR X G W r ⟨base + (128 * h.val + e.val), by omega⟩

/-- The nine results: the normalized queries and keys and the values of the attention, -/
def R0 : FVec Ideal S128x1024 .f32 := fun i =>
  HD (HB X G W 0 (by omega) (i 0) ⟨(i 1).val / 128, by have : (i 1).val < 1024 := (i 1).isLt; omega⟩) QG ⟨(i 1).val % 128, by omega⟩
def R1 : FVec Ideal S128x1024 .f32 := fun i =>
  HD (HB X G W 1024 (by omega) (i 0) ⟨(i 1).val / 128, by have : (i 1).val < 1024 := (i 1).isLt; omega⟩) KG ⟨(i 1).val % 128, by omega⟩
def R2 : FVec Ideal S128x1024 .f32 := fun i => PR X G W (i 0) ⟨2048 + (i 1).val, by have : (i 1).val < 1024 := (i 1).isLt; omega⟩
/-- the keys and values again, a row per head, -/
def R3 : FVec Ideal S1024x128 .f32 := fun i =>
  HD (HB X G W 1024 (by omega) ⟨(i 0).val / 8, by have : (i 0).val < 1024 := (i 0).isLt; omega⟩ ⟨(i 0).val % 8, by omega⟩) KG (i 1)
def R4 : FVec Ideal S1024x128 .f32 := fun i =>
  HB X G W 2048 (by omega) ⟨(i 0).val / 8, by have : (i 0).val < 1024 := (i 0).isLt; omega⟩ ⟨(i 0).val % 8, by omega⟩ (i 1)
/-- the scaled queries and the keys of the linear attention, its values, its output gate, -/
def R5 : FVec Ideal S128x1024 .f32 := fun i =>
  if (i 1).val < 512 then PR X G W (i 0) ⟨3072 + (i 1).val, by have : (i 1).val < 1024 := (i 1).isLt; omega⟩ * (Named.named (F := Ideal) κ "s" (φ := .f32) 0x3DB504F3#32 : EReal)
  else PR X G W (i 0) ⟨3072 + (i 1).val, by have : (i 1).val < 1024 := (i 1).isLt; omega⟩
def R6 : FVec Ideal S128x1024 .bf16 := fun i => PR X G W (i 0) ⟨4096 + (i 1).val, by have : (i 1).val < 1024 := (i 1).isLt; omega⟩
def R7 : FVec Ideal S128x1024 .f32 := fun i => PR X G W (i 0) ⟨5120 + (i 1).val, by have : (i 1).val < 1024 := (i 1).isLt; omega⟩
/-- and the summed log decays. -/
def R8 : FVec Ideal S128x512 .f32 := fun i => BR X G W WG BG (i 0) (i 1)
end Spec

/-! ## The causal sum within sequences -/

/-- The mask's bit: the column is in the row's sequence and not after the row. -/
theorem mask_bit : ∀ a k : Fin 128,
    (BitVec.setWidth 32 (IntOp.andi
      (IntOp.cmpi CmpIPredicate.eq (IntOp.shrsi ArithUnit.vector (BitVec.ofNat 32 a.val) 2#32) (IntOp.shrsi ArithUnit.vector (BitVec.ofNat 32 k.val) 2#32))
      (IntOp.cmpi CmpIPredicate.sle (BitVec.ofNat 32 k.val) (BitVec.ofNat 32 a.val))) : BitVec 32)
      = if a.val / 4 = k.val / 4 ∧ k.val ≤ a.val then 1#32 else 0#32 := by
  decide +kernel

/-- The masked sum over 128 rows is the sum over the row's sequence up to the row. -/
theorem mask_sum (f : Fin 128 → EReal) (a : Fin 128) :
    ∑ x : Fin 128, FloatOps.sitofp (F := Ideal) FTy.f32 (BitVec.setWidth 32 (IntOp.andi
      (IntOp.cmpi CmpIPredicate.eq (IntOp.shrsi ArithUnit.vector (BitVec.ofNat 32 a.val) 2#32) (IntOp.shrsi ArithUnit.vector (BitVec.ofNat 32 x.val) 2#32))
      (IntOp.cmpi CmpIPredicate.sle (BitVec.ofNat 32 x.val) (BitVec.ofNat 32 a.val)))) * f x
    = ∑ i : Fin 4, if i.val ≤ a.val % 4 then f ⟨4 * (a.val / 4) + i.val, by omega⟩ else 0 := by
  have e : ∀ x : Fin 128, FloatOps.sitofp (F := Ideal) FTy.f32 (BitVec.setWidth 32 (IntOp.andi
      (IntOp.cmpi CmpIPredicate.eq (IntOp.shrsi ArithUnit.vector (BitVec.ofNat 32 a.val) 2#32) (IntOp.shrsi ArithUnit.vector (BitVec.ofNat 32 x.val) 2#32))
      (IntOp.cmpi CmpIPredicate.sle (BitVec.ofNat 32 x.val) (BitVec.ofNat 32 a.val)))) * f x
      = if a.val / 4 = x.val / 4 ∧ x.val ≤ a.val then f x else 0 := fun x => by
    rw [mask_bit]
    split
    · have : FloatOps.sitofp (F := Ideal) FTy.f32 1#32 = (1 : EReal) := by
        show (((1#32 : BitVec 32).toInt : ℝ) : EReal) = 1
        norm_num
      rw [this, one_mul]
    · have : FloatOps.sitofp (F := Ideal) FTy.f32 0#32 = (0 : EReal) := by
        show (((0#32 : BitVec 32).toInt : ℝ) : EReal) = 0
        norm_num
      rw [this, zero_mul]
  rw [Finset.sum_congr rfl fun x _ => e x, ← Finset.sum_filter, ← Finset.sum_filter]
  refine Finset.sum_bij' (fun (x : Fin 128) _ => (⟨x.val % 4, by omega⟩ : Fin 4)) (fun (i : Fin 4) _ => (⟨4 * (a.val / 4) + i.val, by omega⟩ : Fin 128)) ?_ ?_ ?_ ?_ ?_
  · intro x hx
    simp only [Finset.mem_filter, Finset.mem_univ, true_and] at hx ⊢
    omega
  · intro i hi
    simp only [Finset.mem_filter, Finset.mem_univ, true_and] at hi ⊢
    omega
  · intro x hx
    simp only [Finset.mem_filter, Finset.mem_univ, true_and] at hx
    exact Fin.ext (by simp only; omega)
  · intro i hi
    exact Fin.ext (by simp only; omega)
  · intro x hx
    simp only [Finset.mem_filter, Finset.mem_univ, true_and] at hx
    exact congrArg f (Fin.ext (by simp only; omega))

/-! ## The body's blocks at an index -/

section Block
variable (X : FVec Ideal S32x4x2048 .f32) (G : FVec Ideal S2048 .f32) (W : FVec Ideal S2048x6160 .f32)
  (QG KG : FVec Ideal S128 .f32) (WG : FVec Ideal S16x512 .f32) (BG : FVec Ideal S512 .f32)
  (x0 : Vec Ideal S128x2048 .f32) (x1 : Vec Ideal S1x2048 .f32) (x2 : Vec Ideal S2048x6272 .bf16)
  (x3 : Vec Ideal S128x512 .bf16) (x4 : Vec Ideal S1x512 .f32) (x5 x6 : Vec Ideal S1x128 .f32)
  (rw : Fin 128 → Fin 128)

/-- The block's rows are the rows `rw` of the stream, and the buffers of the weights hold the weights, padded by zeros. -/
structure Holds : Prop where
  h0 : ∀ a k, x0 (ix2 a k) = XR X (rw a) k
  h1 : ∀ k, x1 (ix2 0 k) = G (ix1 k)
  h2 : ∀ k (l : Fin 6160), x2 (ix2 k ⟨l.val, by omega⟩) = W (ix2 k l)
  h2z : ∀ k (l : Fin 112), x2 (ix2 k ⟨6160 + l.val, by omega⟩) = 0

/-- The buffers of the gate hold the gate's weights, padded by zeros, and its bias. -/
structure HoldsGate : Prop where
  h3 : ∀ (k : Fin 16) j, x3 (ix2 ⟨k.val, by omega⟩ j) = WG (ix2 k j)
  h3z : ∀ (k : Fin 112) j, x3 (ix2 ⟨16 + k.val, by omega⟩ j) = 0
  h4 : ∀ j, x4 (ix2 0 j) = BG (ix1 j)

variable {X G W WG BG x0 x1 x2 x3 x4 x5 x6 rw}

theorem HN_at (H : Holds X G W x0 x1 x2 rw) (a : Fin 128) (k : Fin 2048) : HN x0 x1 (ix2 a k) = HR X G (rw a) k := by
  pointwise [HN, k0_pay6]
  simp only [H.h0, H.h1]
  rfl

/-- The product with a slab is the projection's columns. -/
theorem pay1_at (H : Holds X G W x0 x1 x2 rw) (w : Vec Ideal S2048x1024 .bf16) (base : Nat) (hb : base ≤ 5120)
    (hw : ∀ (k : Fin 2048) (j : Fin 1024), w (ix2 k j) = x2 (ix2 k ⟨base + j.val, by omega⟩)) (a : Fin 128) (j : Fin 1024) :
    PJ x0 x1 w (ix2 a j) = PR X G W (rw a) ⟨base + j.val, by omega⟩ := by
  pointwise [PJ, k0_pay1]
  unfold PR
  refine Finset.sum_congr rfl fun k _ => ?_
  rw [HN_at H, hw, ← H.h2 k ⟨base + j.val, by omega⟩]

theorem W0_at (k : Fin 2048) (j : Fin 1024) : W0 x2 (ix2 k j) = x2 (ix2 k ⟨0 + j.val, by omega⟩) := by pointwise [W0]
theorem W1_at (k : Fin 2048) (j : Fin 1024) : W1 x2 (ix2 k j) = x2 (ix2 k ⟨1024 + j.val, by omega⟩) := by pointwise [W1]
theorem W2_at (k : Fin 2048) (j : Fin 1024) : W2 x2 (ix2 k j) = x2 (ix2 k ⟨2048 + j.val, by omega⟩) := by pointwise [W2]
theorem W3_at (k : Fin 2048) (j : Fin 1024) : W3 x2 (ix2 k j) = x2 (ix2 k ⟨3072 + j.val, by omega⟩) := by pointwise [W3]
theorem W4_at (k : Fin 2048) (j : Fin 1024) : W4 x2 (ix2 k j) = x2 (ix2 k ⟨4096 + j.val, by omega⟩) := by pointwise [W4]
theorem W5_at (k : Fin 2048) (j : Fin 1024) : W5 x2 (ix2 k j) = x2 (ix2 k ⟨5120 + j.val, by omega⟩) := by pointwise [W5]

theorem hd_at (P : FVec Ideal S128x1024 .f32) (h : Fin 8) (a : Fin 128) (d : Fin 128) :
    hd P h (ix2 a d) = P (ix2 a ⟨128 * h.val + d.val, by omega⟩) := by
  fin_cases h <;> pointwise [hd] <;> refine congrArg P (congrArg (ix2 a) (Fin.ext ?_)) <;> simp

theorem hdn_at (P : FVec Ideal S128x1024 .f32) (g : Vec Ideal S1x128 .f32) (gv : FVec Ideal S128 .f32) (hg : ∀ d, g (ix2 0 d) = gv (ix1 d))
    (h : Fin 8) (a : Fin 128) (d : Fin 128) :
    hdn P (G1 g) h (ix2 a d) = HD (fun e => P (ix2 a ⟨128 * h.val + e.val, by omega⟩)) gv d := by
  pointwise [hdn, k0_pay27, k0_pay26, G1]
  simp only [hd_at, hg]
  rfl

/-- The log decays of the block's rows. -/
theorem LA_at (H : Holds X G W x0 x1 x2 rw) (K : HoldsGate WG BG x3 x4) (a : Fin 128) (j : Fin 512) :
    LA x0 x1 x2 x3 x4 (ix2 a j) = LZ (ZR X G W WG BG (rw a) j) := by
  have hz : (∑ x : Fin 128, (∑ k : Fin 2048, HN x0 x1 (ix2 a k) * x2 (ix2 k ⟨6144 + x.val, by omega⟩)) * x3 (ix2 x j)) + x4 (ix2 0 j)
      = ZR X G W WG BG (rw a) j := by
    unfold ZR
    rw [K.h4]
    refine congrArg (· + BG (ix1 j)) ?_
    refine (Fin.sum_univ_add (a := 16) (b := 112) (fun x => (∑ k : Fin 2048, HN x0 x1 (ix2 a k) * x2 (ix2 k ⟨6144 + x.val, by omega⟩)) * x3 (ix2 x j))).trans ?_
    rw [Finset.sum_eq_zero (s := (Finset.univ : Finset (Fin 112))) (fun k _ => ?_), add_zero]
    · refine Finset.sum_congr rfl fun x _ => Ideal.mul_congr ?_ (K.h3 x j)
      unfold PR
      refine Finset.sum_congr rfl fun k _ => ?_
      rw [HN_at H, ← H.h2 k ⟨6144 + x.val, by omega⟩]
      rfl
    · have := K.h3z k j
      refine (congrArg (_ * ·) this).trans (mul_zero _)
  rw [← hz]
  pointwise [LA, k0_pay10, k0_pay8, k0_pay9, k0_pay7, LZ]

theorem out8_at (H : Holds X G W x0 x1 x2 rw) (h5 : ∀ d, x5 (ix2 0 d) = QG (ix1 d)) (y : S128x1024.Idx) :
    OUT8 x0 x1 x2 x5 y = HD (HB X G W 0 (by omega) (rw ⟨(y 0).val, (y 0).isLt⟩) ⟨(y 1).val / 128, by have : (y 1).val < 1024 := (y 1).isLt; omega⟩) QG ⟨(y 1).val % 128, by omega⟩ := by
  unfold OUT8 cols
  rw [hdn_at _ _ QG h5]
  refine congrArg (fun P => HD P QG _) (funext fun e => ?_)
  exact pay1_at H _ 0 (by omega) W0_at _ _

theorem out9_at (H : Holds X G W x0 x1 x2 rw) (h6 : ∀ d, x6 (ix2 0 d) = KG (ix1 d)) (y : S128x1024.Idx) :
    OUT9 x0 x1 x2 x6 y = HD (HB X G W 1024 (by omega) (rw ⟨(y 0).val, (y 0).isLt⟩) ⟨(y 1).val / 128, by have : (y 1).val < 1024 := (y 1).isLt; omega⟩) KG ⟨(y 1).val % 128, by omega⟩ := by
  unfold OUT9 cols
  rw [hdn_at _ _ KG h6]
  refine congrArg (fun P => HD P KG _) (funext fun e => ?_)
  exact pay1_at H _ 1024 (by omega) W1_at _ _

theorem out10_at (H : Holds X G W x0 x1 x2 rw) (y : S128x1024.Idx) :
    OUT10 x0 x1 x2 y = PR X G W (rw ⟨(y 0).val, (y 0).isLt⟩) ⟨2048 + (y 1).val, by have : (y 1).val < 1024 := (y 1).isLt; omega⟩ := by
  unfold OUT10 cols
  rw [hd_at, pay1_at H _ 2048 (by omega) W2_at]
  refine congrArg (PR X G W _) (Fin.ext ?_)
  simp only
  omega

theorem out11_at (H : Holds X G W x0 x1 x2 rw) (h6 : ∀ d, x6 (ix2 0 d) = KG (ix1 d)) (y : S1024x128.Idx) :
    OUT11 x0 x1 x2 x6 y = HD (HB X G W 1024 (by omega) (rw ⟨(y 0).val / 8, by have : (y 0).val < 1024 := (y 0).isLt; omega⟩) ⟨(y 0).val % 8, by omega⟩) KG ⟨(y 1).val, (y 1).isLt⟩ := by
  unfold OUT11 rows
  rw [hdn_at _ _ KG h6]
  refine congrArg (fun P => HD P KG _) (funext fun e => ?_)
  exact pay1_at H _ 1024 (by omega) W1_at _ _

theorem out12_at (H : Holds X G W x0 x1 x2 rw) (y : S1024x128.Idx) :
    OUT12 x0 x1 x2 y = HB X G W 2048 (by omega) (rw ⟨(y 0).val / 8, by have : (y 0).val < 1024 := (y 0).isLt; omega⟩) ⟨(y 0).val % 8, by omega⟩ ⟨(y 1).val, (y 1).isLt⟩ := by
  unfold OUT12 rows
  rw [hd_at, pay1_at H _ 2048 (by omega) W2_at]
  rfl

theorem out13_at (H : Holds X G W x0 x1 x2 rw) (y : S128x1024.Idx) :
    OUT13 x0 x1 x2 y = if (y 1).val < 512 then PR X G W (rw ⟨(y 0).val, (y 0).isLt⟩) ⟨3072 + (y 1).val, by have : (y 1).val < 1024 := (y 1).isLt; omega⟩ * (Named.named (F := Ideal) κ "s" (φ := .f32) 0x3DB504F3#32 : EReal)
      else PR X G W (rw ⟨(y 0).val, (y 0).isLt⟩) ⟨3072 + (y 1).val, by have : (y 1).val < 1024 := (y 1).isLt; omega⟩ := by
  have h1024 : (y 1).val < 1024 := (y 1).isLt
  have key := fun (a : Fin 128) (j : Fin 1024) => pay1_at H (W3 x2) 3072 (by omega) W3_at a j
  unfold OUT13
  split
  · next h =>
    pointwise [k0_pay2]
    refine congrArg (· * _) ?_
    exact key _ ⟨(y 1).val, h1024⟩
  · next h =>
    pointwise [k0_pay3]
    refine Eq.trans ?_ (key _ ⟨(y 1).val, h1024⟩)
    show k0_pay1 _ _ _ = k0_pay1 _ _ _
    refine congrArg (k0_pay1 _ _) (congrArg (ix2 _) (Fin.ext ?_))
    simp only
    omega

theorem out14_at (H : Holds X G W x0 x1 x2 rw) (y : S128x1024.Idx) :
    OUT14 x0 x1 x2 y = PR X G W (rw ⟨(y 0).val, (y 0).isLt⟩) ⟨4096 + (y 1).val, by have : (y 1).val < 1024 := (y 1).isLt; omega⟩ := by
  idx_vars y
  exact pay1_at H _ 4096 (by omega) W4_at _ _

theorem out15_at (H : Holds X G W x0 x1 x2 rw) (y : S128x1024.Idx) :
    OUT15 x0 x1 x2 y = PR X G W (rw ⟨(y 0).val, (y 0).isLt⟩) ⟨5120 + (y 1).val, by have : (y 1).val < 1024 := (y 1).isLt; omega⟩ := by
  idx_vars y
  exact pay1_at H _ 5120 (by omega) W5_at _ _

theorem out16_at (H : Holds X G W x0 x1 x2 rw) (K : HoldsGate WG BG x3 x4) (hr : ∀ a b : Fin 128, a.val / 4 = b.val / 4 → (rw b).val = 4 * ((rw a).val / 4) + b.val % 4)
    (y : S128x512.Idx) :
    OUT16 x0 x1 x2 x3 x4 y = BR X G W WG BG (rw ⟨(y 0).val, (y 0).isLt⟩) ⟨(y 1).val, (y 1).isLt⟩ := by
  have h128 : (y 0).val < 128 := (y 0).isLt
  have hs : (rw ⟨(y 0).val, h128⟩).val = 4 * ((rw ⟨(y 0).val, h128⟩).val / 4) + (y 0).val % 4 := hr ⟨(y 0).val, h128⟩ ⟨(y 0).val, h128⟩ rfl
  idx_vars y
  unfold OUT16 BR
  pointwise [k0_pay23]
  refine (mask_sum (fun x => LA x0 x1 x2 x3 x4 (ix2 x y1)) y0).trans ?_
  refine Finset.sum_congr rfl fun i _ => ?_
  refine if_congr (by show i.val ≤ y0.val % 4 ↔ i.val ≤ (rw y0).val % 4; have h : (rw y0).val = 4 * ((rw y0).val / 4) + y0.val % 4 := hs; omega) ?_ rfl
  rw [LA_at H K]
  refine congrArg LZ (congrArg (fun r => ZR X G W WG BG r _) (Fin.ext ?_))
  rw [hr y0 _ (by show y0.val / 4 = (4 * (y0.val / 4) + i.val) / 4; omega)]
  show 4 * ((rw y0).val / 4) + (4 * (y0.val / 4) + i.val) % 4 = 4 * ((rw y0).val / 4) + i.val
  omega
end Block

end Cert.InpSIdeal.Value

end
-- ==== Proof.InpSBody.lean ====
/- The body of the sample batch's input projection run at a grid point on whole buffers, over any values. -/
module

public import proofs.«01_k».proof.Proof.Gen.InpSIdeal.Frame
public import proofs.«01_k».proof.Proof.InpSBlock
public import Idealize.ShloMosaic.Lib.Claim

@[expose] public section

set_option maxRecDepth 16384

noncomputable section

namespace Cert.InpSIdeal.Value

open Cert.InpSIdeal Cert.InpSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1500000 in
/-- The body on whole buffers: the inputs stay, the outputs end as the block functions of the inputs. -/
theorem body_run (c : Dev nD) (i : grid0.Coords) (arg1 : Memref sig .tc .vmem S128x2048 .f32) (harg1 : arg1.IsWhole) (arg2 : Memref sig .tc .vmem S1x2048 .f32) (harg2 : arg2.IsWhole) (arg3 : Memref sig .tc .vmem S2048x6272 .bf16) (harg3 : arg3.IsWhole) (arg4 : Memref sig .tc .vmem S128x512 .bf16) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S128x1024 .f32) (harg13 : arg13.IsWhole) (arg14 : Memref sig .tc .vmem S128x1024 .bf16) (harg14 : arg14.IsWhole) (arg15 : Memref sig .tc .vmem S128x1024 .f32) (harg15 : arg15.IsWhole) (arg16 : Memref sig .tc .vmem S128x512 .f32) (harg16 : arg16.IsWhole) (arg17 : Memref sig .tc .vmem S128x2048 .bf16) (harg17 : arg17.IsWhole)
    (x0 : Vec F S128x2048 .f32) (x1 : Vec F S1x2048 .f32) (x2 : Vec F S2048x6272 .bf16) (x3 : Vec F S128x512 .bf16) (x4 : Vec F S1x512 .f32) (x5 : Vec F S1x128 .f32) (x6 : Vec F S1x128 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (OUT8 x0 x1 x2 x5) ∗ owns (c : Thread nD τ) arg9 fullShare (OUT9 x0 x1 x2 x6) ∗ owns (c : Thread nD τ) arg10 fullShare (OUT10 x0 x1 x2) ∗ owns (c : Thread nD τ) arg11 fullShare (OUT11 x0 x1 x2 x6) ∗ owns (c : Thread nD τ) arg12 fullShare (OUT12 x0 x1 x2) ∗ owns (c : Thread nD τ) arg13 fullShare (OUT13 x0 x1 x2) ∗ owns (c : Thread nD τ) arg14 fullShare (OUT14 x0 x1 x2) ∗ owns (c : Thread nD τ) arg15 fullShare (OUT15 x0 x1 x2) ∗ owns (c : Thread nD τ) arg16 fullShare (OUT16 x0 x1 x2 x3 x4) ∗ (∃ d, owns (c : Thread nD τ) arg17 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_inproj_eq_skeleton]; unfold cc0_inproj_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact tiles8 f8 (hdn (PJ x0 x1 (W0 x2)) (G1 x5))
  isplitl [H9]
  · iexists _; isplitr
    swap; · iexact H9
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact tiles8 f9 (hdn (PJ x0 x1 (W1 x2)) (G1 x6))
  isplitl [H10]
  · iexists _; isplitr
    swap; · iexact H10
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact tiles8 f10 (hd (PJ x0 x1 (W2 x2)))
  isplitl [H11]
  · iexists _; isplitr
    swap; · iexact H11
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact strided8 f11 (hdn (PJ x0 x1 (W1 x2)) (G1 x6))
  isplitl [H12]
  · iexists _; isplitr
    swap; · iexact H12
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact strided8 f12 (hd (PJ x0 x1 (W2 x2)))
  isplitl [H13]
  · iexists _; isplitr
    swap; · iexact H13
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact halves_cols f13 (k0_pay2 (HN x0 x1) (W3 x2)) (k0_pay3 (HN x0 x1) (W3 x2))
  isplitl [H14]
  · iexists _; isplitr
    swap; · iexact H14
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact whole_bf16 f14 (k0_pay4 (HN x0 x1) (W4 x2))
  isplitl [H15]
  · iexists _; isplitr
    swap; · iexact H15
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact whole_f32 f15 (PJ x0 x1 (W5 x2))
  isplitl [H16]
  · iexists _; isplitr
    swap; · iexact H16
    ipureintro
    have hv : body_run.sl.v20 c arg1 harg1 arg2 harg2 arg17 x0 x1 = HN x0 x1 := by
      delta body_run.sl.v20 body_run.sl.H17_1
      refine (scratch_read _).trans ?_
      simp only [View.readAt_eq_ld, harg1.read_unread, harg2.read_unread]
      rfl
    have hw : body_run.sl.v355 c arg1 harg1 arg2 harg2 arg17 x0 x1 = HN x0 x1 := by
      delta body_run.sl.v355 body_run.sl.H17_1
      refine (scratch_read _).trans ?_
      simp only [View.readAt_eq_ld, harg1.read_unread, harg2.read_unread]
      rfl
    try delta body_run.sl.r_22
    try delta body_run.sl.r_21
    try delta body_run.sl.r_20
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19
    try delta body_run.sl.cst_118
    simp only [hv, hw, p11_eq, p24_eq, p44_eq, p5_eq, p12_eq, p13_eq, p14_eq, p15_eq, p19_eq, p20_eq, p21_eq, p22_eq, p27_eq, p28_eq, p32_eq, p33_eq, p37_eq, p38_eq, p42_eq, p43_eq, p45_eq, p46_eq, p47_eq, p48_eq, p49_eq, p50_eq, p51_eq, p52_eq, View.readAt_eq_ld, harg1.read_unread, harg2.read_unread, harg3.read_unread, harg4.read_unread, harg5.read_unread, harg6.read_unread, harg7.read_unread]
    exact whole_decay f16 (k0_pay23 (LA x0 x1 x2 x3 x4))
  iexists _, _; isplitr; swap; · iexact H17
  ipureintro; rfl

end Cert.InpSIdeal.Value

end
-- ==== Proof.InpSRun.lean ====
/- The launch of the sample batch's input projection: over any values, with the named constant
   as printed. -/
module

public import proofs.«01_k».proof.Proof.Gen.InpSIdeal.Frame
public import proofs.«01_k».proof.Proof.InpSBody
public import Idealize.ShloMosaic.Lib.Claim

@[expose] public section

set_option maxRecDepth 16384

noncomputable section

namespace Cert.InpSIdeal.Value

open Cert.InpSIdeal Cert.InpSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S128x2048 .bf16 := Memref.whole cc0_scratch0

/-- The region's scratch buffer and generator register, at some contents. -/
theorem PhiA0_eq (c : Dev nD) : (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-- What the body leaves in output window `w` at point `t`. -/
def out8 (c : Dev nD) (t : Fin cfg0.N) : Vec F S128x1024 .f32 := OUT8 (iblk m c 0 t) (iblk m c 1 t) (iblk m c 2 t) (iblk m c 5 t)
def out9 (c : Dev nD) (t : Fin cfg0.N) : Vec F S128x1024 .f32 := OUT9 (iblk m c 0 t) (iblk m c 1 t) (iblk m c 2 t) (iblk m c 6 t)
def out10 (c : Dev nD) (t : Fin cfg0.N) : Vec F S128x1024 .f32 := OUT10 (iblk m c 0 t) (iblk m c 1 t) (iblk m c 2 t)
def out11 (c : Dev nD) (t : Fin cfg0.N) : Vec F S1024x128 .f32 := OUT11 (iblk m c 0 t) (iblk m c 1 t) (iblk m c 2 t) (iblk m c 6 t)
def out12 (c : Dev nD) (t : Fin cfg0.N) : Vec F S1024x128 .f32 := OUT12 (iblk m c 0 t) (iblk m c 1 t) (iblk m c 2 t)
def out13 (c : Dev nD) (t : Fin cfg0.N) : Vec F S128x1024 .f32 := OUT13 (iblk m c 0 t) (iblk m c 1 t) (iblk m c 2 t)
def out14 (c : Dev nD) (t : Fin cfg0.N) : Vec F S128x1024 .bf16 := OUT14 (iblk m c 0 t) (iblk m c 1 t) (iblk m c 2 t)
def out15 (c : Dev nD) (t : Fin cfg0.N) : Vec F S128x1024 .f32 := OUT15 (iblk m c 0 t) (iblk m c 1 t) (iblk m c 2 t)
def out16 (c : Dev nD) (t : Fin cfg0.N) : Vec F S128x512 .f32 := OUT16 (iblk m c 0 t) (iblk m c 1 t) (iblk m c 2 t) (iblk m c 3 t) (iblk m c 4 t)

/-- The launch's proof data: the arrays as the region finds them; after the body each input's buffer at its block and each
    output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out8 m c t
    | ⟨8, _⟩ => out9 m c t
    | ⟨9, _⟩ => out10 m c t
    | ⟨10, _⟩ => out11 m c t
    | ⟨11, _⟩ => out12 m c t
    | ⟨12, _⟩ => out13 m c t
    | ⟨13, _⟩ => out14 m c t
    | ⟨14, _⟩ => out15 m c t
    | ⟨15, _⟩ => out16 m c t
    | ⟨_ + 16, h⟩ => absurd h (by have : cfg0.W = 16 := rfl; omega)
  Φ _ := Pipeline.ΦA spec0 c
  q _ := fullShare
  owed _ := 0

theorem A_eq (c : Dev nD) (w : Fin cfg0.W) : (dats m 0 c).A w = V m c (Pipeline.arrRef spec0 w) := by
  dsimp only [dats]

/-- The buffers after the body, window by window, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out8 m c t := by dsimp only [dats]
theorem after0_8 (c : Dev nD) (t : Fin cfg0.N) : (dats m 0 c).after 8 t = out9 m c t := by dsimp only [dats]
theorem after0_9 (c : Dev nD) (t : Fin cfg0.N) : (dats m 0 c).after 9 t = out10 m c t := by dsimp only [dats]
theorem after0_10 (c : Dev nD) (t : Fin cfg0.N) : (dats m 0 c).after 10 t = out11 m c t := by dsimp only [dats]
theorem after0_11 (c : Dev nD) (t : Fin cfg0.N) : (dats m 0 c).after 11 t = out12 m c t := by dsimp only [dats]
theorem after0_12 (c : Dev nD) (t : Fin cfg0.N) : (dats m 0 c).after 12 t = out13 m c t := by dsimp only [dats]
theorem after0_13 (c : Dev nD) (t : Fin cfg0.N) : (dats m 0 c).after 13 t = out14 m c t := by dsimp only [dats]
theorem after0_14 (c : Dev nD) (t : Fin cfg0.N) : (dats m 0 c).after 14 t = out15 m c t := by dsimp only [dats]
theorem after0_15 (c : Dev nD) (t : Fin cfg0.N) : (dats m 0 c).after 15 t = out16 m c t := by dsimp only [dats]

/-- and the inputs' before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold out8 out9 out10 out11 out12 out13 out14 out15 out16

  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  iintro ⟨H0, H1, H2, H3, H4, H5, H6, H7, H8, H9, H10, H11, H12, H13, H14, H15, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends as the proof data computes, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The argument arrays end unchanged and every counter at zero, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InpSIdeal.Value

end
-- ==== Proof.InpSValue.lean ====
/- What the sample batch's input projection computes, over the extended reals: the arrays the host operations prepare, the blocks each grid
   point reads, and the nine result arrays as sums over the arguments. -/
module

public import proofs.«01_k».proof.Proof.InpSSpec
public import proofs.«01_k».proof.Proof.InpSRun

@[expose] public section

set_option maxRecDepth 16384

noncomputable section

namespace Cert.InpSIdeal.Value

open Cert.InpSIdeal Cert.InpSIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments -/

/-- The residual stream, -/
def aX (c : Dev nD) : FVec Ideal S32x4x2048 .f32 := m ((c : Thread nD τ).loc main_arg0)
/-- its norm's gain, -/
def aG (c : Dev nD) : FVec Ideal S2048 .f32 := m ((c : Thread nD τ).loc main_arg1)
/-- the projection's weights, -/
def aW (c : Dev nD) : FVec Ideal S2048x6160 .f32 := m ((c : Thread nD τ).loc main_arg2)
/-- the gains of the queries' and the keys' norms, -/
def aQG (c : Dev nD) : FVec Ideal S128 .f32 := m ((c : Thread nD τ).loc main_arg3)
def aKG (c : Dev nD) : FVec Ideal S128 .f32 := m ((c : Thread nD τ).loc main_arg4)
/-- and the gate's weights and bias. -/
def aWG (c : Dev nD) : FVec Ideal S16x512 .f32 := m ((c : Thread nD τ).loc main_arg5)
def aBG (c : Dev nD) : FVec Ideal S512 .f32 := m ((c : Thread nD τ).loc main_arg6)

/-! ## The arrays the host operations prepare -/

theorem V_v3 (c : Dev nD) : V m c main_v3 = (shapeCast S128x2048 (aX m c) shapeCasts_S32x4x2048_S128x2048 : FVec Ideal S128x2048 .f32) := by
  show StableHlo.after (List.flatten [hostOps0, hostOps0_1, hostOps0_2, hostOps0_3, hostOps0_4]) (fun b => m (c, b)) (Proc.devRef .tc main_v3) = _
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results_simp <;> rfl

theorem V_v4 (c : Dev nD) : V m c main_v4 = (broadcastInDim S1x2048 ![1] bcast_S2048_S1x2048_1 (aG m c) : FVec Ideal S1x2048 .f32) := by
  show StableHlo.after (List.flatten [hostOps0, hostOps0_1, hostOps0_2, hostOps0_3, hostOps0_4]) (fun b => m (c, b)) (Proc.devRef .tc main_v4) = _
  after_results <;> rfl

theorem V_v2 (c : Dev nD) : V m c main_v2 = (pad S2048x6272 ![0, 0] ![0, 112] ![0, 0] (truncf .bf16 (aW m c) bitsLt_bf16_f32 : FVec Ideal S2048x6160 .bf16) (sitofp .bf16 (constantI S_ 32 0#32) : FVec Ideal S_ .bf16) pads_S2048x6160_S2048x6272_000_01120 h_S_ : FVec Ideal S2048x6272 .bf16) := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results_simp <;> rfl

theorem V_v5 (c : Dev nD) : V m c main_v5 = (truncf .bf16 (pad S128x512 ![0, 0] ![112, 0] ![0, 0] (aWG m c) (sitofp .f32 (constantI S_ 32 0#32) : FVec Ideal S_ .f32) pads_S16x512_S128x512_01120_000 h_S_ : FVec Ideal S128x512 .f32) bitsLt_bf16_f32 : FVec Ideal S128x512 .bf16) := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results_simp <;> rfl

theorem V_v6 (c : Dev nD) : V m c main_v6 = (broadcastInDim S1x512 ![1] bcast_S512_S1x512_1 (aBG m c) : FVec Ideal S1x512 .f32) := by
  show StableHlo.after (List.flatten [hostOps0, hostOps0_1, hostOps0_2, hostOps0_3, hostOps0_4]) (fun b => m (c, b)) (Proc.devRef .tc main_v6) = _
  after_results <;> rfl

theorem V_v7 (c : Dev nD) : V m c main_v7 = (broadcastInDim S1x128 ![1] bcast_S128_S1x128_1 (aQG m c) : FVec Ideal S1x128 .f32) := by
  show StableHlo.after (List.flatten [hostOps0, hostOps0_1, hostOps0_2, hostOps0_3, hostOps0_4]) (fun b => m (c, b)) (Proc.devRef .tc main_v7) = _
  after_results <;> rfl

theorem V_v8 (c : Dev nD) : V m c main_v8 = (broadcastInDim S1x128 ![1] bcast_S128_S1x128_1 (aKG m c) : FVec Ideal S1x128 .f32) := by
  show StableHlo.after (List.flatten [hostOps0, hostOps0_1, hostOps0_2, hostOps0_3, hostOps0_4]) (fun b => m (c, b)) (Proc.devRef .tc main_v8) = _
  after_results <;> rfl

/-- The integer zero as a float is zero. -/
theorem zero_f32 : FloatOps.sitofp (F := Ideal) FTy.f32 0#32 = (0 : EReal) := by
  show (((0#32 : BitVec 32).toInt : ℝ) : EReal) = 0
  norm_num
theorem zero_bf16 : FloatOps.sitofp (F := Ideal) FTy.bf16 0#32 = (0 : EReal) := by
  show (((0#32 : BitVec 32).toInt : ℝ) : EReal) = 0
  norm_num

theorem v3_at (c : Dev nD) (r : Fin 128) (k : Fin 2048) : (show FVec Ideal S128x2048 .f32 from V m c main_v3) (ix2 r k) = XR (aX m c) r k := by
  rw [V_v3]; pointwise [XR]
theorem v4_at (c : Dev nD) (k : Fin 2048) : (show FVec Ideal S1x2048 .f32 from V m c main_v4) (ix2 0 k) = aG m c (ix1 k) := by
  rw [V_v4]; pointwise
theorem v2_at (c : Dev nD) (k : Fin 2048) (l : Fin 6160) : (show FVec Ideal S2048x6272 .bf16 from V m c main_v2) (ix2 k ⟨l.val, by omega⟩) = aW m c (ix2 k l) := by
  rw [V_v2]; pointwise
theorem v2_pad (c : Dev nD) (k : Fin 2048) (l : Fin 112) : (show FVec Ideal S2048x6272 .bf16 from V m c main_v2) (ix2 k ⟨6160 + l.val, by omega⟩) = 0 := by
  rw [V_v2]; pointwise
  exact zero_bf16
theorem v5_at (c : Dev nD) (k : Fin 16) (l : Fin 512) : (show FVec Ideal S128x512 .bf16 from V m c main_v5) (ix2 ⟨k.val, by omega⟩ l) = aWG m c (ix2 k l) := by
  rw [V_v5]; pointwise
theorem v5_pad (c : Dev nD) (k : Fin 112) (l : Fin 512) : (show FVec Ideal S128x512 .bf16 from V m c main_v5) (ix2 ⟨16 + k.val, by omega⟩ l) = 0 := by
  rw [V_v5]; pointwise
  exact zero_f32
theorem v6_at (c : Dev nD) (k : Fin 512) : (show FVec Ideal S1x512 .f32 from V m c main_v6) (ix2 0 k) = aBG m c (ix1 k) := by
  rw [V_v6]; pointwise
theorem v7_at (c : Dev nD) (k : Fin 128) : (show FVec Ideal S1x128 .f32 from V m c main_v7) (ix2 0 k) = aQG m c (ix1 k) := by
  rw [V_v7]; pointwise
theorem v8_at (c : Dev nD) (k : Fin 128) : (show FVec Ideal S1x128 .f32 from V m c main_v8) (ix2 0 k) = aKG m c (ix1 k) := by
  rw [V_v8]; pointwise

/-! ## The blocks -/

/-- The block indices at every grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

/-- Row `a` of grid point `t`'s block. -/
def rowOf (t : Fin cfg0.N) (a : Fin 128) : Fin 128 := ⟨128 * t.val + a.val, by have : t.val < 1 := lt_of_lt_of_eq t.isLt (show cfg0.N = 1 from N_0); omega⟩

theorem rowOf_chunk (t : Fin cfg0.N) (a b : Fin 128) (h : a.val / 4 = b.val / 4) : (rowOf t b).val = 4 * ((rowOf t a).val / 4) + b.val % 4 := by
  unfold rowOf
  simp only
  omega

theorem holds (c : Dev nD) (t : Fin cfg0.N) : Holds (aX m c) (aG m c) (aW m c) (iblk m c 0 t) (iblk m c 1 t) (iblk m c 2 t) (rowOf t) where
  h0 a k := by rw [← v3_at]; unfold rowOf; blk_point [iblk, idx t]
  h1 k := by rw [← v4_at]; blk_point [iblk, idx t]
  h2 k l := by rw [← v2_at]; blk_point [iblk, idx t]
  h2z k l := by rw [← v2_pad m c k l]; blk_point [iblk, idx t]

theorem holdsGate (c : Dev nD) (t : Fin cfg0.N) : HoldsGate (aWG m c) (aBG m c) (iblk m c 3 t) (iblk m c 4 t) where
  h3 k j := by rw [← v5_at]; blk_point [iblk, idx t]
  h3z k j := by rw [← v5_pad m c k j]; blk_point [iblk, idx t]
  h4 j := by rw [← v6_at]; blk_point [iblk, idx t]

theorem gainQ (c : Dev nD) (t : Fin cfg0.N) (d : Fin 128) : (show Vec Ideal S1x128 .f32 from iblk m c 5 t) (ix2 0 d) = aQG m c (ix1 d) := by
  rw [← v7_at]; blk_point [iblk, idx t]
theorem gainK (c : Dev nD) (t : Fin cfg0.N) (d : Fin 128) : (show Vec Ideal S1x128 .f32 from iblk m c 6 t) (ix2 0 d) = aKG m c (ix1 d) := by
  rw [← v8_at]; blk_point [iblk, idx t]

/-! ## The result arrays -/

theorem blk7 (c : Dev nD) (t : Fin cfg0.N) (y : S128x1024.Idx) : out8 m c t y = R0 (aX m c) (aG m c) (aW m c) (aQG m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 1024)) := by
  refine (out8_at _ (holds m c t) (gainQ m c t) y).trans ?_
  rfl

theorem final7 (c : Dev nD) : (dats m 0 c).arrAt 7 cfg0.N = R0 (aX m c) (aG m c) (aW m c) (aQG m c) := by
  refine (dats m 0 c).arrAt_eq_of_covers 7 _ (by decide +kernel) fun t hf y => ?_
  blk_simp
  rw [after0_7]
  refine (blk7 m c t y).trans (congrArg _ ?_)
  blk_ext [idx t]

theorem blk8 (c : Dev nD) (t : Fin cfg0.N) (y : S128x1024.Idx) : out9 m c t y = R1 (aX m c) (aG m c) (aW m c) (aKG m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 1024)) := by
  refine (out9_at _ (holds m c t) (gainK m c t) y).trans ?_
  rfl

theorem final8 (c : Dev nD) : (dats m 0 c).arrAt 8 cfg0.N = R1 (aX m c) (aG m c) (aW m c) (aKG m c) := by
  refine (dats m 0 c).arrAt_eq_of_covers 8 _ (by decide +kernel) fun t hf y => ?_
  blk_simp
  rw [after0_8]
  refine (blk8 m c t y).trans (congrArg _ ?_)
  blk_ext [idx t]

theorem blk9 (c : Dev nD) (t : Fin cfg0.N) (y : S128x1024.Idx) : out10 m c t y = R2 (aX m c) (aG m c) (aW m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 1024)) := by
  refine (out10_at (holds m c t) y).trans ?_
  rfl

theorem final9 (c : Dev nD) : (dats m 0 c).arrAt 9 cfg0.N = R2 (aX m c) (aG m c) (aW m c) := by
  refine (dats m 0 c).arrAt_eq_of_covers 9 _ (by decide +kernel) fun t hf y => ?_
  blk_simp
  rw [after0_9]
  refine (blk9 m c t y).trans (congrArg _ ?_)
  blk_ext [idx t]

theorem blk10 (c : Dev nD) (t : Fin cfg0.N) (y : S1024x128.Idx) : out11 m c t y = R3 (aX m c) (aG m c) (aW m c) (aKG m c) (ix2 (⟨1024 * t.val + (y 0).val, by have : t.val < 1 := lt_of_lt_of_eq t.isLt (show cfg0.N = 1 from N_0); have : (y 0).val < 1024 := (y 0).isLt; omega⟩ : Fin 1024) (⟨(y 1).val, (y 1).isLt⟩ : Fin 128)) := by
  refine (out11_at _ (holds m c t) (gainK m c t) y).trans ?_
  have h0 : (y 0).val < 1024 := (y 0).isLt
  unfold R3 rowOf
  have e0 : 128 * t.val + (y 0).val / 8 = (1024 * t.val + (y 0).val) / 8 := by omega
  have e1 : (y 0).val % 8 = (1024 * t.val + (y 0).val) % 8 := by omega
  simp only [e0, e1]
  rfl

theorem final10 (c : Dev nD) : (dats m 0 c).arrAt 10 cfg0.N = R3 (aX m c) (aG m c) (aW m c) (aKG m c) := by
  refine (dats m 0 c).arrAt_eq_of_covers 10 _ (by decide +kernel) fun t hf y => ?_
  blk_simp
  rw [after0_10]
  refine (blk10 m c t y).trans (congrArg _ ?_)
  blk_ext [idx t]

theorem blk11 (c : Dev nD) (t : Fin cfg0.N) (y : S1024x128.Idx) : out12 m c t y = R4 (aX m c) (aG m c) (aW m c) (ix2 (⟨1024 * t.val + (y 0).val, by have : t.val < 1 := lt_of_lt_of_eq t.isLt (show cfg0.N = 1 from N_0); have : (y 0).val < 1024 := (y 0).isLt; omega⟩ : Fin 1024) (⟨(y 1).val, (y 1).isLt⟩ : Fin 128)) := by
  refine (out12_at (holds m c t) y).trans ?_
  have h0 : (y 0).val < 1024 := (y 0).isLt
  unfold R4 rowOf
  have e0 : 128 * t.val + (y 0).val / 8 = (1024 * t.val + (y 0).val) / 8 := by omega
  have e1 : (y 0).val % 8 = (1024 * t.val + (y 0).val) % 8 := by omega
  simp only [e0, e1]
  rfl

theorem final11 (c : Dev nD) : (dats m 0 c).arrAt 11 cfg0.N = R4 (aX m c) (aG m c) (aW m c) := by
  refine (dats m 0 c).arrAt_eq_of_covers 11 _ (by decide +kernel) fun t hf y => ?_
  blk_simp
  rw [after0_11]
  refine (blk11 m c t y).trans (congrArg _ ?_)
  blk_ext [idx t]

theorem blk12 (c : Dev nD) (t : Fin cfg0.N) (y : S128x1024.Idx) : out13 m c t y = R5 (aX m c) (aG m c) (aW m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 1024)) := by
  refine (out13_at (holds m c t) y).trans ?_
  rfl

theorem final12 (c : Dev nD) : (dats m 0 c).arrAt 12 cfg0.N = R5 (aX m c) (aG m c) (aW m c) := by
  refine (dats m 0 c).arrAt_eq_of_covers 12 _ (by decide +kernel) fun t hf y => ?_
  blk_simp
  rw [after0_12]
  refine (blk12 m c t y).trans (congrArg _ ?_)
  blk_ext [idx t]

theorem blk13 (c : Dev nD) (t : Fin cfg0.N) (y : S128x1024.Idx) : out14 m c t y = R6 (aX m c) (aG m c) (aW m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 1024)) := by
  refine (out14_at (holds m c t) y).trans ?_
  rfl

theorem final13 (c : Dev nD) : (dats m 0 c).arrAt 13 cfg0.N = R6 (aX m c) (aG m c) (aW m c) := by
  refine (dats m 0 c).arrAt_eq_of_covers 13 _ (by decide +kernel) fun t hf y => ?_
  blk_simp
  rw [after0_13]
  refine (blk13 m c t y).trans (congrArg _ ?_)
  blk_ext [idx t]

theorem blk14 (c : Dev nD) (t : Fin cfg0.N) (y : S128x1024.Idx) : out15 m c t y = R7 (aX m c) (aG m c) (aW m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 1024)) := by
  refine (out15_at (holds m c t) y).trans ?_
  rfl

theorem final14 (c : Dev nD) : (dats m 0 c).arrAt 14 cfg0.N = R7 (aX m c) (aG m c) (aW m c) := by
  refine (dats m 0 c).arrAt_eq_of_covers 14 _ (by decide +kernel) fun t hf y => ?_
  blk_simp
  rw [after0_14]
  refine (blk14 m c t y).trans (congrArg _ ?_)
  blk_ext [idx t]

theorem blk15 (c : Dev nD) (t : Fin cfg0.N) (y : S128x512.Idx) : out16 m c t y = R8 (aX m c) (aG m c) (aW m c) (aWG m c) (aBG m c) (ix2 (⟨128 * t.val + (y 0).val, by have : t.val < 1 := lt_of_lt_of_eq t.isLt (show cfg0.N = 1 from N_0); have : (y 0).val < 128 := (y 0).isLt; omega⟩ : Fin 128) (⟨(y 1).val, (y 1).isLt⟩ : Fin 512)) := by
  refine (out16_at (holds m c t) (holdsGate m c t) (rowOf_chunk t) y).trans ?_
  rfl

theorem final15 (c : Dev nD) : (dats m 0 c).arrAt 15 cfg0.N = R8 (aX m c) (aG m c) (aW m c) (aWG m c) (aBG m c) := by
  refine (dats m 0 c).arrAt_eq_of_covers 15 _ (by decide +kernel) fun t hf y => ?_
  blk_simp
  rw [after0_15]
  refine (blk15 m c t y).trans (congrArg _ ?_)
  blk_ext [idx t]

/-- The run: the nine result arrays hold their sums of the arguments, which are unchanged. -/
theorem run_value : θ_run defs (onTc (τ := τ) (main (F := Ideal))) ⟨m, fun _ => 0, ρ⟩ (fun r => ∀ c : Dev nD,
    (r.2.mem ((c : Thread nD τ).loc main_v9_0) = R0 (aX m c) (aG m c) (aW m c) (aQG m c)
    ∧ r.2.mem ((c : Thread nD τ).loc main_v9_1) = R1 (aX m c) (aG m c) (aW m c) (aKG m c)
    ∧ r.2.mem ((c : Thread nD τ).loc main_v9_2) = R2 (aX m c) (aG m c) (aW m c)
    ∧ r.2.mem ((c : Thread nD τ).loc main_v9_3) = R3 (aX m c) (aG m c) (aW m c) (aKG m c)
    ∧ r.2.mem ((c : Thread nD τ).loc main_v9_4) = R4 (aX m c) (aG m c) (aW m c)
    ∧ r.2.mem ((c : Thread nD τ).loc main_v9_5) = R5 (aX m c) (aG m c) (aW m c)
    ∧ r.2.mem ((c : Thread nD τ).loc main_v9_6) = R6 (aX m c) (aG m c) (aW m c)
    ∧ r.2.mem ((c : Thread nD τ).loc main_v9_7) = R7 (aX m c) (aG m c) (aW m c)
    ∧ r.2.mem ((c : Thread nD τ).loc main_v9_8) = R8 (aX m c) (aG m c) (aW m c) (aWG m c) (aBG m c))
    ∧ (r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6))) := by
  refine (θ_run defs _ _).mono (fun r h c => ⟨⟨?_, ?_, ?_, ?_, ?_, ?_, ?_, ?_, ?_⟩, h.2 c⟩) (θ_run_and (run_main m ρ) (unchanged m ρ))
  · exact ((h.1 c).1 7).trans (final7 m c)
  · exact ((h.1 c).1 8).trans (final8 m c)
  · exact ((h.1 c).1 9).trans (final9 m c)
  · exact ((h.1 c).1 10).trans (final10 m c)
  · exact ((h.1 c).1 11).trans (final11 m c)
  · exact ((h.1 c).1 12).trans (final12 m c)
  · exact ((h.1 c).1 13).trans (final13 m c)
  · exact ((h.1 c).1 14).trans (final14 m c)
  · exact ((h.1 c).1 15).trans (final15 m c)

end Cert.InpSIdeal.Value

end
-- ==== Proof.InpSRef.lean ====
/- The reference of the sample batch's input projection, over the extended reals: its results in named steps, and their equality with
   the sums the kernel's arrays are. -/
module

public import proofs.«01_k».proof.Proof.InpSValue
public import proofs.«01_k».proof.Proof.InpRef
public import proofs.«01_k».proof.Proof.Gen.InpSRefIdeal.Run
public import proofs.«01_k».proof.Defs

@[expose] public section

set_option maxRecDepth 16384

noncomputable section

namespace Cert.InpSRefIdeal.Value

open Cert.InpSRefIdeal Cert.InpSRefIdeal.Gen Idealize.ShloMosaic Idealize.ShloMosaic.TcCoe Idealize.SL.Sem

/-! ## The reference's steps -/

/-- The root-mean-square norm of the residual stream. -/
def refH (x : FVec Ideal S32x4x2048 .f32) (g : FVec Ideal S2048 .f32) : FVec Ideal S32x4x2048 .f32 :=
  mulf (mulf x (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf x x) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 g))

/-- Its projection. -/
def refP (x : FVec Ideal S32x4x2048 .f32) (g : FVec Ideal S2048 .f32) (w : FVec Ideal S2048x6160 .f32) : FVec Ideal S32x4x6160 .f32 :=
  Host.dotGeneral dot_S32x4x2048_S2048x6160_S32x4x6160_2_0_01_1_n_n none (refH x g) w

/-- The root-mean-square norm of each of the eight heads. -/
def refN (q : FVec Ideal S32x4x8x128 .f32) (g : FVec Ideal S128 .f32) : FVec Ideal S32x4x8x128 .f32 :=
  mulf (mulf q (broadcastInDim S32x4x8x128 ![0, 1, 2, 3] bcast_S32x4x8x1_S32x4x8x128_0_1_2_3 (Host.rsqrt (addf (Host.divf (broadcastInDim S32x4x8x1 ![0, 1, 2] bcast_S32x4x8_S32x4x8x1_0_1_2 (Host.reduceAdd (mulf q q) (constant S_ .f32 0x00000000#32) reducesTo_S32x4x8x128_S32x4x8_d3 h_S_)) (broadcastInDim S32x4x8x1 ![] bcast_S_S32x4x8x1 (constant S_ .f32 0x43000000#32))) (broadcastInDim S32x4x8x1 ![] bcast_S_S32x4x8x1 (constant S_ .f32 0x358637BD#32)))))) (broadcastInDim S32x4x8x128 ![0, 1, 2, 3] bcast_S1x1x1x128_S32x4x8x128_0_1_2_3 (broadcastInDim S1x1x1x128 ![3] bcast_S128_S1x1x1x128_3 g))

/-- The queries and the keys of the attention as heads. -/
def refQ (p : FVec Ideal S32x4x6160 .f32) : FVec Ideal S32x4x8x128 .f32 :=
  shapeCast _ (extractStridedSlice S32x4x1024 ![0, 0, 0] p slices_S32x4x6160_S32x4x1024_0_0_0) shapeCasts_S32x4x1024_S32x4x8x128
def refK (p : FVec Ideal S32x4x6160 .f32) : FVec Ideal S32x4x8x128 .f32 :=
  shapeCast _ (extractStridedSlice S32x4x1024 ![0, 0, 1024] p slices_S32x4x6160_S32x4x1024_0_0_1024) shapeCasts_S32x4x1024_S32x4x8x128

/-- The gate's logits. -/
def refZ (p : FVec Ideal S32x4x6160 .f32) (wg : FVec Ideal S16x512 .f32) (bg : FVec Ideal S512 .f32) : FVec Ideal S32x4x512 .f32 :=
  addf (Host.dotGeneral dot_S32x4x16_S16x512_S32x4x512_2_0_01_1_n_n none (extractStridedSlice S32x4x16 ![0, 0, 6144] p slices_S32x4x6160_S32x4x16_0_0_6144) wg) (broadcastInDim S32x4x512 ![0, 1, 2] bcast_S1x1x512_S32x4x512_0_1_2 (broadcastInDim S1x1x512 ![2] bcast_S512_S1x1x512_2 bg))

/-- A sixteenth of the logarithm of their sigmoid. -/
def refL (z : FVec Ideal S32x4x512 .f32) : FVec Ideal S32x4x512 .f32 :=
  Host.divf (Host.negf (select (cmpf .une (subf (Host.negf z) (broadcastInDim S32x4x512 ![] bcast_S_S32x4x512 (constant S_ .f32 0x00000000#32))) (subf (Host.negf z) (broadcastInDim S32x4x512 ![] bcast_S_S32x4x512 (constant S_ .f32 0x00000000#32)))) (addf (Host.negf z) (broadcastInDim S32x4x512 ![] bcast_S_S32x4x512 (constant S_ .f32 0x00000000#32))) (addf (maximumf (Host.negf z) (broadcastInDim S32x4x512 ![] bcast_S_S32x4x512 (constant S_ .f32 0x00000000#32))) (Host.log1p (Host.exp (Host.negf (Host.absf (subf (Host.negf z) (broadcastInDim S32x4x512 ![] bcast_S_S32x4x512 (constant S_ .f32 0x00000000#32)))))))))) (broadcastInDim S32x4x512 ![] bcast_S_S32x4x512 (constant S_ .f32 0x41800000#32))

/-- The running sums along the positions of each sequence. -/
def refC (l : FVec Ideal S32x4x512 .f32) : FVec Ideal S32x4x512 .f32 :=
  Host.reduceWindowAdd ![1, 4, 1] ![1, 1, 1] ![0, 3, 0] ![0, 0, 0] l (broadcastInDim S_ ![] bcast_S_S_ (constant S_ .f32 0x00000000#32)) reduceWindows_S32x4x512_S32x4x512_w1s1p0_0_w4s1p3_0_w1s1p0_0 h_S_

/-- The nine results. -/
def ref0 (p : FVec Ideal S32x4x6160 .f32) (g : FVec Ideal S128 .f32) : FVec Ideal S128x1024 .f32 :=
  shapeCast _ (refN (refQ p) g) shapeCasts_S32x4x8x128_S128x1024
def ref1 (p : FVec Ideal S32x4x6160 .f32) (g : FVec Ideal S128 .f32) : FVec Ideal S128x1024 .f32 :=
  shapeCast _ (refN (refK p) g) shapeCasts_S32x4x8x128_S128x1024
def ref2 (p : FVec Ideal S32x4x6160 .f32) : FVec Ideal S128x1024 .f32 :=
  shapeCast _ (extractStridedSlice S32x4x1024 ![0, 0, 2048] p slices_S32x4x6160_S32x4x1024_0_0_2048) shapeCasts_S32x4x1024_S128x1024
def ref3 (p : FVec Ideal S32x4x6160 .f32) (g : FVec Ideal S128 .f32) : FVec Ideal S1024x128 .f32 :=
  shapeCast _ (refN (refK p) g) shapeCasts_S32x4x8x128_S1024x128
def ref4 (p : FVec Ideal S32x4x6160 .f32) : FVec Ideal S1024x128 .f32 :=
  shapeCast _ (extractStridedSlice S32x4x1024 ![0, 0, 2048] p slices_S32x4x6160_S32x4x1024_0_0_2048) shapeCasts_S32x4x1024_S1024x128
def ref5 (p : FVec Ideal S32x4x6160 .f32) : FVec Ideal S128x1024 .f32 :=
  shapeCast _ (concatenate S32x4x1024 2 [⟨S32x4x512, Host.divf (extractStridedSlice S32x4x512 ![0, 0, 3072] p slices_S32x4x6160_S32x4x512_0_0_3072) (broadcastInDim S32x4x512 ![] bcast_S_S32x4x512 (Host.sqrt (constant S_ .f32 0x43000000#32)))⟩, ⟨S32x4x512, extractStridedSlice S32x4x512 ![0, 0, 3584] p slices_S32x4x6160_S32x4x512_0_0_3584⟩] concatenates_S32x4x512_S32x4x512_S32x4x1024_d2) shapeCasts_S32x4x1024_S128x1024
def ref6 (p : FVec Ideal S32x4x6160 .f32) : FVec Ideal S128x1024 .bf16 :=
  shapeCast _ (truncf .bf16 (extractStridedSlice S32x4x1024 ![0, 0, 4096] p slices_S32x4x6160_S32x4x1024_0_0_4096) bitsLt_bf16_f32) shapeCasts_S32x4x1024_S128x1024
def ref7 (p : FVec Ideal S32x4x6160 .f32) : FVec Ideal S128x1024 .f32 :=
  shapeCast _ (extractStridedSlice S32x4x1024 ![0, 0, 5120] p slices_S32x4x6160_S32x4x1024_0_0_5120) shapeCasts_S32x4x1024_S128x1024
def ref8 (z : FVec Ideal S32x4x512 .f32) : FVec Ideal S128x512 .f32 :=
  shapeCast _ (refC (refL z)) shapeCasts_S32x4x512_S128x512

/-- The reference ends with the named steps in its result arrays, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = ref0 (refP (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v62) = ref1 (refP (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v63) = ref2 (refP (m ((c.tc : Thread nD τ).loc main_arg0)) (m ((c.tc : Thread nD τ).loc main_arg1)) (m ((c.tc : Thread nD τ).loc main_arg2)))
      ∧ r.2.mem ((c.tc : Thread nD τ).loc main_v64) = ref3 (refP (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v65) = ref4 (refP (m ((c.tc : Thread nD τ).loc main_arg0)) (m ((c.tc : Thread nD τ).loc main_arg1)) (m ((c.tc : Thread nD τ).loc main_arg2)))
      ∧ r.2.mem ((c.tc : Thread nD τ).loc main_v67) = ref5 (refP (m ((c.tc : Thread nD τ).loc main_arg0)) (m ((c.tc : Thread nD τ).loc main_arg1)) (m ((c.tc : Thread nD τ).loc main_arg2)))
      ∧ r.2.mem ((c.tc : Thread nD τ).loc main_v69) = ref6 (refP (m ((c.tc : Thread nD τ).loc main_arg0)) (m ((c.tc : Thread nD τ).loc main_arg1)) (m ((c.tc : Thread nD τ).loc main_arg2)))
      ∧ r.2.mem ((c.tc : Thread nD τ).loc main_v70) = ref7 (refP (m ((c.tc : Thread nD τ).loc main_arg0)) (m ((c.tc : Thread nD τ).loc main_arg1)) (m ((c.tc : Thread nD τ).loc main_arg2)))
      ∧ r.2.mem ((c.tc : Thread nD τ).loc main_v71) = ref8 (refZ (refP (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run (F := Ideal) m ρ

/-! ## The steps at an index -/

/-- The quotient by the root of 128 is the product with the kernel's named constant. -/
theorem div_sqrt (x : EReal) :
    Ideal.div x (Ideal.sqrt (Ideal.ofBits .f32 0x43000000#32))
      = x * (Named.named (F := Ideal) Cert.InpSIdeal.κ "s" (φ := .f32) 0x3DB504F3#32 : EReal) := by
  have e : (Named.named (F := Ideal) Cert.InpSIdeal.κ "s" (φ := .f32) 0x3DB504F3#32 : EReal) = (((Real.sqrt 128)⁻¹ : ℝ) : EReal) :=
    IdealRules.named_const.ideal_named_scalar _ _ _ _ rfl
  rw [e, Cert.InpRefIdeal.Value.ofBits_128,
    Ideal.sqrt_coe, if_neg (by norm_num), Ideal.div_coe (Real.sqrt_pos.mpr (by norm_num)).ne', one_div]

/-- The window has 4 positions, -/
theorem numel_win : (⟨3, ![1, 4, 1]⟩ : Shape).numel = 4 := by decide

/-- position `n` of them at `n` along the second axis. -/
theorem win_at (n : Fin (⟨3, ![1, 4, 1]⟩ : Shape).numel) :
    ((⟨3, ![1, 4, 1]⟩ : Shape).rowMajor.symm n 0).val = 0 ∧ ((⟨3, ![1, 4, 1]⟩ : Shape).rowMajor.symm n 1).val = n.val
    ∧ ((⟨3, ![1, 4, 1]⟩ : Shape).rowMajor.symm n 2).val = 0 := by
  revert n
  decide

/-- The windowed sum at `(a, i, j)` is the sum of the sequence's entries up to and including `i`. -/
theorem refC_at (l : FVec Ideal S32x4x512 .f32) (a : Fin 32) (i : Fin 4) (j : Fin 512) :
    refC l (ix3 a i j) = ∑ k : Fin 4, if k.val ≤ i.val then l (ix3 a k j) else 0 := by
  have hz : (FloatOps.ofBits (F := Ideal) .f32 0x00000000#32 : EReal) = 0 := Ideal.ofBits_zero _
  have hi := i.isLt
  show Host.reduceWindow (· + ·) ![1, 4, 1] ![1, 1, 1] ![0, 3, 0] ![0, 0, 0] l (fun _ : S_.Idx => (FloatOps.ofBits (F := Ideal) .f32 0x00000000#32 : EReal)) reduceWindows_S32x4x512_S32x4x512_w1s1p0_0_w4s1p3_0_w1s1p0_0 h_S_ (ix3 a i j) = _
  rw [hz]
  unfold Host.reduceWindow
  refine (Cert.InpRefIdeal.Value.foldl_add_sum _ _ _).trans ?_
  rw [zero_add]
  refine (congrArg List.sum (List.map_congr_left (g := fun n : Fin (⟨3, ![1, 4, 1]⟩ : Shape).numel =>
    if h : 3 ≤ i.val + n.val then l (ix3 a ⟨i.val + n.val - 3, by have := lt_of_lt_of_eq n.isLt numel_win; omega⟩ j) else (0 : EReal)) fun n _ => ?_)).trans ?_
  · dsimp only
    obtain ⟨w0, w1, w2⟩ := win_at n
    have hn := lt_of_lt_of_eq n.isLt numel_win
    by_cases h : 3 ≤ i.val + n.val
    · rw [dif_pos h, dif_pos]
      · refine congrArg l (funext fun q => Fin.ext ?_)
        match q with
        | ⟨0, _⟩ => show a.val * 1 + ((⟨3, ![1, 4, 1]⟩ : Shape).rowMajor.symm n 0).val - 0 = a.val; omega
        | ⟨1, _⟩ => show i.val * 1 + ((⟨3, ![1, 4, 1]⟩ : Shape).rowMajor.symm n 1).val - 3 = i.val + n.val - 3; omega
        | ⟨2, _⟩ => show j.val * 1 + ((⟨3, ![1, 4, 1]⟩ : Shape).rowMajor.symm n 2).val - 0 = j.val; omega
      · intro q
        match q with
        | ⟨0, _⟩ =>
          show 0 ≤ a.val * 1 + ((⟨3, ![1, 4, 1]⟩ : Shape).rowMajor.symm n 0).val ∧ a.val * 1 + ((⟨3, ![1, 4, 1]⟩ : Shape).rowMajor.symm n 0).val - 0 < 32
          omega
        | ⟨1, _⟩ =>
          show 3 ≤ i.val * 1 + ((⟨3, ![1, 4, 1]⟩ : Shape).rowMajor.symm n 1).val ∧ i.val * 1 + ((⟨3, ![1, 4, 1]⟩ : Shape).rowMajor.symm n 1).val - 3 < 4
          omega
        | ⟨2, _⟩ =>
          show 0 ≤ j.val * 1 + ((⟨3, ![1, 4, 1]⟩ : Shape).rowMajor.symm n 2).val ∧ j.val * 1 + ((⟨3, ![1, 4, 1]⟩ : Shape).rowMajor.symm n 2).val - 0 < 512
          omega
    · rw [dif_neg h, dif_neg]
      intro hin
      have h1 := (hin 1).1
      change 3 ≤ i.val * 1 + ((⟨3, ![1, 4, 1]⟩ : Shape).rowMajor.symm n 1).val at h1
      omega
  rw [← List.ofFn_eq_map, List.sum_ofFn]
  rw [← (finCongr numel_win.symm).sum_comp]
  rw [← Finset.sum_filter_add_sum_filter_not (s := Finset.univ) (p := fun n : Fin 4 => 3 ≤ i.val + n.val)]
  rw [Finset.sum_eq_zero (s := Finset.filter (fun n : Fin 4 => ¬ 3 ≤ i.val + n.val) Finset.univ) (fun n hn => dif_neg (Finset.mem_filter.1 hn).2), add_zero]
  rw [← Finset.sum_filter]
  refine Finset.sum_bij' (fun (n : Fin 4) _ => (⟨i.val + n.val - 3, by omega⟩ : Fin 4)) (fun (k : Fin 4) _ => (⟨(3 + k.val - i.val) % 4, by omega⟩ : Fin 4)) ?_ ?_ ?_ ?_ ?_
  · intro n hn
    simp only [Finset.mem_filter, Finset.mem_univ, true_and] at hn ⊢
    omega
  · intro k hk
    simp only [Finset.mem_filter, Finset.mem_univ, true_and] at hk ⊢
    omega
  · intro n hn
    simp only [Finset.mem_filter, Finset.mem_univ, true_and] at hn
    exact Fin.ext (by simp only; omega)
  · intro k hk
    simp only [Finset.mem_filter, Finset.mem_univ, true_and] at hk
    exact Fin.ext (by simp only; omega)
  · intro n hn
    simp only [Finset.mem_filter, Finset.mem_univ, true_and] at hn
    exact dif_pos hn

section At
variable (x : FVec Ideal S32x4x2048 .f32) (g : FVec Ideal S2048 .f32) (w : FVec Ideal S2048x6160 .f32)

/-- The norm at row `r`. -/
theorem refH_at (r : Fin 128) (k : Fin 2048) :
    refH x g (ix3 ⟨r.val / 4, by omega⟩ ⟨r.val % 4, by omega⟩ k) = InpSIdeal.Value.HR x g r k := by
  pointwise [refH, InpSIdeal.Value.HR, InpSIdeal.Value.XR]

/-- The projection at row `r`. -/
theorem refP_at (r : Fin 128) (l : Fin 6160) :
    refP x g w (ix3 ⟨r.val / 4, by omega⟩ ⟨r.val % 4, by omega⟩ l) = InpSIdeal.Value.PR x g w r l := by
  pointwise [refP, InpSIdeal.Value.PR]
  simp only [refH_at]

end At

/-- The log decays. -/
theorem refL_at (z : FVec Ideal S32x4x512 .f32) (i : S32x4x512.Idx) : refL z i = InpSIdeal.Value.LZ (z i) := by
  pointwise [refL]
  exact Cert.InpRefIdeal.Value.logsig (z i)

/-- The gate's logits at row `r`. -/
theorem refZ_at (x : FVec Ideal S32x4x2048 .f32) (ga : FVec Ideal S2048 .f32) (w : FVec Ideal S2048x6160 .f32)
    (wg : FVec Ideal S16x512 .f32) (bg : FVec Ideal S512 .f32) (r : Fin 128) (j : Fin 512) :
    refZ (refP x ga w) wg bg (ix3 ⟨r.val / 4, by omega⟩ ⟨r.val % 4, by omega⟩ j) = InpSIdeal.Value.ZR x ga w wg bg r j := by
  pointwise [refZ, InpSIdeal.Value.ZR]
  simp only [← refP_at]

section Heads
variable (p : FVec Ideal S32x4x6160 .f32) (g : FVec Ideal S128 .f32) (P : Fin 128 → Fin 6160 → EReal)
  (hp : ∀ (r : Fin 128) (l : Fin 6160), p (ix3 ⟨r.val / 4, by omega⟩ ⟨r.val % 4, by omega⟩ l) = P r l)
include hp

/-- The query head `h` at row `r`. -/
theorem refQ_at (r : Fin 128) (h : Fin 8) (e : Fin 128) :
    refQ p (ix4 ⟨r.val / 4, by omega⟩ ⟨r.val % 4, by omega⟩ h e) = P r ⟨0 + (128 * h.val + e.val), by omega⟩ := by
  rw [← hp]
  pointwise [refQ]
  exact congrArg (fun l => p (ix3 _ _ l)) (Fin.ext (by simp only; omega))

/-- The key head `h` at row `r`. -/
theorem refK_at (r : Fin 128) (h : Fin 8) (e : Fin 128) :
    refK p (ix4 ⟨r.val / 4, by omega⟩ ⟨r.val % 4, by omega⟩ h e) = P r ⟨1024 + (128 * h.val + e.val), by omega⟩ := by
  rw [← hp]
  pointwise [refK]
  exact congrArg (fun l => p (ix3 _ _ l)) (Fin.ext (by simp only; omega))

end Heads

/-- The norm of the head `h` at row `r`. -/
theorem refN_at (q : FVec Ideal S32x4x8x128 .f32) (g : FVec Ideal S128 .f32) (P : Fin 128 → Fin 8 → Fin 128 → EReal)
    (hq : ∀ (r : Fin 128) (h : Fin 8) (e : Fin 128), q (ix4 ⟨r.val / 4, by omega⟩ ⟨r.val % 4, by omega⟩ h e) = P r h e)
    (r : Fin 128) (h : Fin 8) (d : Fin 128) :
    refN q g (ix4 ⟨r.val / 4, by omega⟩ ⟨r.val % 4, by omega⟩ h d) = InpSIdeal.Value.HD (P r h) g d := by
  pointwise [refN, InpSIdeal.Value.HD]
  simp only [hq]

/-! ## The results -/

section Out
variable (p : FVec Ideal S32x4x6160 .f32) (g : FVec Ideal S128 .f32)
  (x : FVec Ideal S32x4x2048 .f32) (ga : FVec Ideal S2048 .f32) (w : FVec Ideal S2048x6160 .f32)

theorem ref0_eq : ref0 (refP x ga w) g = InpSIdeal.Value.R0 x ga w g := by
  have hN := refN_at (refQ (refP x ga w)) g _ (refQ_at _ _ (refP_at x ga w))
  funext i
  idx_vars i
  pointwise [ref0, InpSIdeal.Value.R0]
  exact hN i0 ⟨i1.val / 128, by omega⟩ ⟨i1.val % 128, by omega⟩

theorem ref1_eq : ref1 (refP x ga w) g = InpSIdeal.Value.R1 x ga w g := by
  have hN := refN_at (refK (refP x ga w)) g _ (refK_at _ _ (refP_at x ga w))
  funext i
  idx_vars i
  pointwise [ref1, InpSIdeal.Value.R1]
  exact hN i0 ⟨i1.val / 128, by omega⟩ ⟨i1.val % 128, by omega⟩

theorem ref2_eq : ref2 (refP x ga w) = InpSIdeal.Value.R2 x ga w := by
  funext i
  idx_vars i
  pointwise [ref2, InpSIdeal.Value.R2]
  exact refP_at _ _ _ _ _

theorem ref3_eq : ref3 (refP x ga w) g = InpSIdeal.Value.R3 x ga w g := by
  have hN := refN_at (refK (refP x ga w)) g _ (refK_at _ _ (refP_at x ga w))
  funext i
  idx_vars i
  pointwise [ref3, InpSIdeal.Value.R3]
  have h := hN ⟨i0.val / 8, by omega⟩ ⟨i0.val % 8, by omega⟩ i1
  simp only [Nat.div_div_eq_div_mul, Nat.reduceMul] at h
  exact h

theorem ref4_eq : ref4 (refP x ga w) = InpSIdeal.Value.R4 x ga w := by
  funext i
  idx_vars i
  pointwise [ref4, InpSIdeal.Value.R4, InpSIdeal.Value.HB]
  have h := refP_at x ga w ⟨i0.val / 8, by omega⟩ ⟨2048 + (128 * (i0.val % 8) + i1.val), by omega⟩
  simp only [Nat.div_div_eq_div_mul, Nat.reduceMul] at h
  refine Eq.trans (congrArg (fun l => refP x ga w (ix3 _ _ l)) (Fin.ext ?_)) h
  simp only
  omega

theorem ref6_eq : ref6 (refP x ga w) = InpSIdeal.Value.R6 x ga w := by
  funext i
  idx_vars i
  pointwise [ref6, InpSIdeal.Value.R6]
  exact refP_at _ _ _ _ _

theorem ref7_eq : ref7 (refP x ga w) = InpSIdeal.Value.R7 x ga w := by
  funext i
  idx_vars i
  pointwise [ref7, InpSIdeal.Value.R7]
  exact refP_at _ _ _ _ _

theorem ref5_eq : ref5 (refP x ga w) = InpSIdeal.Value.R5 x ga w := by
  funext i
  idx_vars i
  pointwise [ref5, InpSIdeal.Value.R5]
  split
  · rw [div_sqrt]
    exact congrArg (· * _) (refP_at x ga w i0 ⟨3072 + i1.val, by omega⟩)
  · refine Eq.trans (congrArg (fun l => refP x ga w (ix3 _ _ l)) (Fin.ext ?_)) (refP_at x ga w i0 ⟨3072 + i1.val, by omega⟩)
    simp only
    omega

theorem ref8_eq (wg : FVec Ideal S16x512 .f32) (bg : FVec Ideal S512 .f32) : ref8 (refZ (refP x ga w) wg bg) = InpSIdeal.Value.R8 x ga w wg bg := by
  funext i
  idx_vars i
  pointwise [ref8, InpSIdeal.Value.R8, InpSIdeal.Value.BR]
  rw [refC_at]
  refine Finset.sum_congr rfl fun k _ => if_congr Iff.rfl ?_ rfl
  have h := refZ_at x ga w wg bg ⟨4 * (i0.val / 4) + k.val, by omega⟩ i1
  pointwise []
  rw [refL_at, ← h]
  refine congrArg InpSIdeal.Value.LZ (congrArg (refZ (refP x ga w) wg bg) ?_)
  refine congrArg₂ (fun a b => ix3 a b i1) (Fin.ext ?_) (Fin.ext ?_) <;> (simp only; omega)

end Out

/-- Kernel and reference end with the same nine results from arguments that agree. -/
theorem algebraic : Cert.algebraic_InpSIdeal_InpSRefIdeal := by
  intro m g m' g' _ hagree
  refine ⟨fun c => InpSIdeal.Value.R0 (InpSIdeal.Value.aX m c) (InpSIdeal.Value.aG m c) (InpSIdeal.Value.aW m c) (InpSIdeal.Value.aQG m c),
    fun c => InpSIdeal.Value.R1 (InpSIdeal.Value.aX m c) (InpSIdeal.Value.aG m c) (InpSIdeal.Value.aW m c) (InpSIdeal.Value.aKG m c),
    fun c => InpSIdeal.Value.R2 (InpSIdeal.Value.aX m c) (InpSIdeal.Value.aG m c) (InpSIdeal.Value.aW m c),
    fun c => InpSIdeal.Value.R3 (InpSIdeal.Value.aX m c) (InpSIdeal.Value.aG m c) (InpSIdeal.Value.aW m c) (InpSIdeal.Value.aKG m c),
    fun c => InpSIdeal.Value.R4 (InpSIdeal.Value.aX m c) (InpSIdeal.Value.aG m c) (InpSIdeal.Value.aW m c),
    fun c => InpSIdeal.Value.R5 (InpSIdeal.Value.aX m c) (InpSIdeal.Value.aG m c) (InpSIdeal.Value.aW m c),
    fun c => InpSIdeal.Value.R6 (InpSIdeal.Value.aX m c) (InpSIdeal.Value.aG m c) (InpSIdeal.Value.aW m c),
    fun c => InpSIdeal.Value.R7 (InpSIdeal.Value.aX m c) (InpSIdeal.Value.aG m c) (InpSIdeal.Value.aW m c),
    fun c => InpSIdeal.Value.R8 (InpSIdeal.Value.aX m c) (InpSIdeal.Value.aG m c) (InpSIdeal.Value.aW m c) (InpSIdeal.Value.aWG m c) (InpSIdeal.Value.aBG m c),
    (θ_run _ _ _).mono (fun _ h c => ?_) (InpSIdeal.Value.run_value m g),
    (θ_run _ _ _).mono (fun _ h c => ?_) (run_ref m' g')⟩
  · obtain ⟨⟨r0, r1, r2, r3, r4, r5, r6, r7, r8⟩, u⟩ := h c
    exact ⟨r0, r1, r2, r3, r4, r5, r6, r7, r8, u⟩
  · obtain ⟨a0, a1, a2, a3, a4, a5, a6⟩ := hagree c
    obtain ⟨r0, r1, r2, r3, r4, r5, r6, r7, r8, u⟩ := h c
    rw [a0, a1, a2, a3] at r0
    rw [a0, a1, a2, a4] at r1
    rw [a0, a1, a2] at r2
    rw [a0, a1, a2, a4] at r3
    rw [a0, a1, a2] at r4
    rw [a0, a1, a2] at r5
    rw [a0, a1, a2] at r6
    rw [a0, a1, a2] at r7
    rw [a0, a1, a2, a5, a6] at r8
    exact ⟨r0.trans (ref0_eq _ _ _ _), r1.trans (ref1_eq _ _ _ _), r2.trans (ref2_eq _ _ _), r3.trans (ref3_eq _ _ _ _),
      r4.trans (ref4_eq _ _ _), r5.trans (ref5_eq _ _ _), r6.trans (ref6_eq _ _ _), r7.trans (ref7_eq _ _ _),
      r8.trans (ref8_eq _ _ _ _ _), u⟩

end Cert.InpSRefIdeal.Value

end
-- ==== Proof.InpSBits.lean ====
/- The frame of the sample batch's input projection at machine words, from the run over any values: a named constant is read as its literal. -/
module

public import proofs.«01_k».proof.Defs
public import proofs.«01_k».proof.Proof.Gen.InpS.Launch
public import proofs.«01_k».proof.Proof.InpSRun
public import proofs.«01_k».proof.Proof.InpBits

@[expose] public section

set_option maxRecDepth 16384

noncomputable section

namespace Cert.InpSIdeal.Value

open Idealize.ShloMosaic Idealize.SL.Sem

set_option maxHeartbeats 4000000 in
/-- The two printings of the input projection have the same body table, a named constant read as its literal. -/
theorem bodies {F : FTy → Type} [FloatOps F] :
    @Cert.InpS.defs₀ F _ Cert.InpS.Gen.facts = @Cert.InpSIdeal.defs₀ F _ (Cert.InpIdeal.Value.literal F) Cert.InpSIdeal.Gen.facts := by
  unfold Cert.InpS.defs₀ Cert.InpSIdeal.defs₀
  refine congrArg _ ?_
  refine funext fun l => funext fun x => ?_
  match l, x with
  | 0, (t, s) => exact rfl

/-- The two printings of the input projection have the same table of calls and bodies. -/
theorem tables {F : FTy → Type} [FloatOps F] :
    @Cert.InpS.defs F _ Cert.InpS.Gen.facts = @Cert.InpSIdeal.defs F _ (Cert.InpIdeal.Value.literal F) Cert.InpSIdeal.Gen.facts :=
  congrArg (Pipeline.defs _) bodies

set_option maxHeartbeats 4000000 in
/-- The input projection, at machine words, ends with its arguments unchanged and every counter at zero. -/
theorem frame_bits : Cert.quiescent_InpS := fun m ρ _ => by
  have h := @frame Bits _ (Cert.InpIdeal.Value.literal Bits) m ρ
  rw [← tables] at h
  exact h

end Cert.InpSIdeal.Value

end
-- ==== Proof.lean ====
module

public import proofs.«01_k».proof.Defs
public import proofs.«01_k».proof.Proof.Gen.Ffn.Frame
public import proofs.«01_k».proof.Proof.Gen.FfnIdeal.Frame
public import proofs.«01_k».proof.Proof.FfnRef
public import Idealize.ShloMosaic.Lib.Claim
public import proofs.«01_k».proof.Proof.GlaRef
public import proofs.«01_k».proof.Proof.Gen.Gla.Launch
public import proofs.«01_k».proof.Proof.InpRef
public import proofs.«01_k».proof.Proof.InpBits
public import proofs.«01_k».proof.Proof.Gen.FfnS.Frame
public import proofs.«01_k».proof.Proof.Gen.FfnSIdeal.Frame
public import proofs.«01_k».proof.Proof.FfnSRef
public import proofs.«01_k».proof.Proof.InpSRef
public import proofs.«01_k».proof.Proof.InpSBits

@[expose] public section

noncomputable section

namespace Cert.Proof

open Idealize.ShloMosaic Idealize.SL.Sem

/-- The reference of the output projection and feed-forward layer ends with its arguments unchanged and every counter at zero. -/
theorem frame_ffn_ref : Cert.quiescent_FfnRefIdeal := by
  intro m g _
  exact (θ_run Cert.FfnRefIdeal.defs _ _).mono (fun r h => ⟨fun c => (h c).2, sem_eq_zero_of_no_sems (by decide) r.2⟩)
    (Cert.FfnRefIdeal.Value.run m g)

/-- The same reference on the sample batch ends with its arguments unchanged and every counter at zero. -/
theorem frame_ffn_sample_ref : Cert.quiescent_FfnSRefIdeal := by
  intro m g _
  exact (θ_run Cert.FfnSRefIdeal.defs _ _).mono (fun r h => ⟨fun c => (h c).2, sem_eq_zero_of_no_sems (by decide) r.2⟩)
    (Cert.FfnSRefIdeal.Value.run m g)

/-- The two printings of the gated linear attention kernel have the same body table. -/
theorem gla_bodies {F : FTy → Type} [FloatOps F] :
    @Cert.Gla.defs₀ F _ Cert.Gla.Gen.facts = @Cert.GlaIdeal.defs₀ F _ Cert.GlaIdeal.Gen.facts := by
  unfold Cert.Gla.defs₀ Cert.GlaIdeal.defs₀
  refine congrArg _ ?_
  funext l x
  match l, x with
  | 0, (t, s) => exact rfl

/-- The two printings of the gated linear attention kernel have the same table of calls and bodies. -/
theorem gla_defs {F : FTy → Type} [FloatOps F] :
    @Cert.Gla.defs F _ Cert.Gla.Gen.facts = @Cert.GlaIdeal.defs F _ Cert.GlaIdeal.Gen.facts :=
  congrArg (Pipeline.defs _) gla_bodies

/-- The gated linear attention kernel, at machine words, ends with its arguments unchanged and every counter at zero: the run
    is written over any values. -/
theorem frame_gla : Cert.quiescent_Gla := fun m ρ _ => by
  have h := Cert.GlaIdeal.Value.frame (F := Bits) m ρ
  rw [← gla_defs] at h
  exact h

/-- The reference of the input projection ends with its arguments unchanged and every counter at zero. -/
theorem frame_inp_ref : Cert.quiescent_InpRefIdeal := by
  intro m g _
  exact (θ_run Cert.InpRefIdeal.defs _ _).mono (fun r h => ⟨fun c => (h c).2.2.2.2.2.2.2.2.2, sem_eq_zero_of_no_sems (by decide) r.2⟩)
    (Cert.InpRefIdeal.Value.run m g)

/-- The scale of the linear attention's queries is named the number it is the rounding of. -/
theorem preserves_inp : Cert.preserves_Inp_InpIdeal :=
  IdealRules.named_const.statement Cert.InpIdeal.κ "s" .f32 0x3DB504F3#32 (((Real.sqrt 128)⁻¹ : ℝ) : EReal) rfl

/-- The reference of the input projection on the sample batch ends with its arguments unchanged and every counter at zero. -/
theorem frame_inp_sample_ref : Cert.quiescent_InpSRefIdeal := by
  intro m g _
  exact (θ_run Cert.InpSRefIdeal.defs _ _).mono (fun r h => ⟨fun c => (h c).2.2.2.2.2.2.2.2.2, sem_eq_zero_of_no_sems (by decide) r.2⟩)
    (Cert.InpSRefIdeal.Value.run m g)

/-- On the sample batch too the scale is named the number it is the rounding of. -/
theorem preserves_inp_sample : Cert.preserves_InpS_InpSIdeal :=
  IdealRules.named_const.statement Cert.InpSIdeal.κ "s" .f32 0x3DB504F3#32 (((Real.sqrt 128)⁻¹ : ℝ) : EReal) rfl

/-- The claims of the five pairs of a kernel and its reference. -/
theorem claim : Cert.Claim := ⟨Cert.Inp.Gen.facts, Cert.InpIdeal.Gen.facts, Cert.InpRefIdeal.Gen.facts,
  Cert.Gla.Gen.facts, Cert.GlaIdeal.Gen.facts, Cert.GlaRefIdeal.Gen.facts,
  Cert.Ffn.Gen.facts, Cert.FfnIdeal.Gen.facts, Cert.FfnRefIdeal.Gen.facts,
  Cert.InpS.Gen.facts, Cert.InpSIdeal.Gen.facts, Cert.InpSRefIdeal.Gen.facts,
  Cert.FfnS.Gen.facts, Cert.FfnSIdeal.Gen.facts, Cert.FfnSRefIdeal.Gen.facts,
  Cert.InpIdeal.Value.frame_bits, fun m ρ _ => Cert.InpIdeal.Value.frame m ρ, frame_inp_ref,
  frame_gla, fun m ρ _ => Cert.GlaIdeal.Value.frame m ρ, Cert.GlaRefIdeal.Value.frame,
  fun m ρ _ => Cert.Ffn.Gen.frame m ρ, fun m ρ _ => Cert.FfnIdeal.Gen.frame m ρ, frame_ffn_ref,
  Cert.InpSIdeal.Value.frame_bits, fun m ρ _ => Cert.InpSIdeal.Value.frame m ρ, frame_inp_sample_ref,
  fun m ρ _ => Cert.FfnS.Gen.frame m ρ, fun m ρ _ => Cert.FfnSIdeal.Gen.frame m ρ, frame_ffn_sample_ref,
  preserves_inp, Cert.InpRefIdeal.Value.algebraic, trivial, Cert.GlaRefIdeal.Value.algebraic, trivial, Cert.FfnRefIdeal.Value.algebraic,
  preserves_inp_sample, Cert.InpSRefIdeal.Value.algebraic, trivial, Cert.FfnSRefIdeal.Value.algebraic⟩

end Cert.Proof

end
